-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedReferenceIdeal (m : (ℓ : Loc Cert.ClippedReferenceIdeal.nD Cert.ClippedReferenceIdeal.τ Cert.ClippedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedReferenceIdeal [hClippedReferenceIdeal : Cert.ClippedReferenceIdeal.Facts] : Prop :=
  ∀ (m : (ℓ : Loc Cert.ClippedReferenceIdeal.nD Cert.ClippedReferenceIdeal.τ Cert.ClippedReferenceIdeal.sig) → Buf (Elt Ideal) ℓ) (g : Dev Cert.ClippedReferenceIdeal.nD → PrngReg), Pre_ClippedReferenceIdeal m →
    θ_run (Cert.ClippedReferenceIdeal.defs (F := Ideal)) (onTc (τ := Cert.ClippedReferenceIdeal.τ) (Cert.ClippedReferenceIdeal.main (F := Ideal))) ⟨m, fun _ => 0, g⟩ (fun r => (∀ c : Dev Cert.ClippedReferenceIdeal.nD,
      r.2.mem ((c.tc : Thread Cert.ClippedReferenceIdeal.nD Cert.ClippedReferenceIdeal.τ).loc Cert.ClippedReferenceIdeal.main_arg0) = m ((c.tc : Thread Cert.ClippedReferenceIdeal.nD Cert.ClippedReferenceIdeal.τ).loc Cert.ClippedReferenceIdeal.main_arg0)
      ∧ r.2.mem ((c.tc : Thread Cert.ClippedReferenceIdeal.nD Cert.ClippedReferenceIdeal.τ).loc Cert.ClippedReferenceIdeal.main_arg1) = m ((c.tc : Thread Cert.ClippedReferenceIdeal.nD Cert.ClippedReferenceIdeal.τ).loc Cert.ClippedReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedReferenceIdeal_on_unclipped [hKernelIdeal : Cert.KernelIdeal.Facts] [hClippedReferenceIdeal : Cert.ClippedReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedReferenceIdeal.nD Cert.ClippedReferenceIdeal.τ Cert.ClippedReferenceIdeal.sig) → Buf (Elt Ideal) ℓ) (g' : Dev Cert.ClippedReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ClippedReferenceIdeal.nD).tc : Thread Cert.ClippedReferenceIdeal.nD Cert.ClippedReferenceIdeal.τ).loc Cert.ClippedReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ClippedReferenceIdeal.nD).tc : Thread Cert.ClippedReferenceIdeal.nD Cert.ClippedReferenceIdeal.τ).loc Cert.ClippedReferenceIdeal.main_arg1))) →
    ∃ (v0 : Buf (Elt Ideal) (((0 : Dev Cert.ClippedReferenceIdeal.nD).tc : Thread Cert.ClippedReferenceIdeal.nD Cert.ClippedReferenceIdeal.τ).loc Cert.ClippedReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 2048]⟩ : Shape).Idx, (Layout.block ⟨2, ![256, 2048]⟩ ⟨2, ![4096, 2048]⟩ 0 16 c ((Cert.On_unclipped.fn (F := Ideal) (m' (((0 : Dev Cert.ClippedReferenceIdeal.nD).tc : Thread Cert.ClippedReferenceIdeal.nD Cert.ClippedReferenceIdeal.τ).loc Cert.ClippedReferenceIdeal.main_arg0)) (m' (((0 : Dev Cert.ClippedReferenceIdeal.nD).tc : Thread Cert.ClippedReferenceIdeal.nD Cert.ClippedReferenceIdeal.τ).loc Cert.ClippedReferenceIdeal.main_arg1)))) : (⟨2, ![256, 2048]⟩ : Shape).Idx → _) i = 1#1 → r.2.mem ((c.tc : Thread Cert.KernelIdeal.nD Cert.KernelIdeal.τ).loc Cert.KernelIdeal.main_v1) i = (Layout.block ⟨2, ![256, 2048]⟩ ⟨2, ![4096, 2048]⟩ 0 16 c v0 : (⟨2, ![256, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedReferenceIdeal.defs (F := Ideal)) (onTc (τ := Cert.ClippedReferenceIdeal.τ) (Cert.ClippedReferenceIdeal.main (F := Ideal))) ⟨m', fun _ => 0, g'⟩ (fun r =>
          (∀ i : (⟨2, ![4096, 2048]⟩ : Shape).Idx, (Cert.On_unclipped.fn (F := Ideal) (m' (((0 : Dev Cert.ClippedReferenceIdeal.nD).tc : Thread Cert.ClippedReferenceIdeal.nD Cert.ClippedReferenceIdeal.τ).loc Cert.ClippedReferenceIdeal.main_arg0)) (m' (((0 : Dev Cert.ClippedReferenceIdeal.nD).tc : Thread Cert.ClippedReferenceIdeal.nD Cert.ClippedReferenceIdeal.τ).loc Cert.ClippedReferenceIdeal.main_arg1))) i = 1#1 → r.2.mem (((0 : Dev Cert.ClippedReferenceIdeal.nD).tc : Thread Cert.ClippedReferenceIdeal.nD Cert.ClippedReferenceIdeal.τ).loc Cert.ClippedReferenceIdeal.main_v6) i = v0 i)
          ∧ r.2.mem (((0 : Dev Cert.ClippedReferenceIdeal.nD).tc : Thread Cert.ClippedReferenceIdeal.nD Cert.ClippedReferenceIdeal.τ).loc Cert.ClippedReferenceIdeal.main_arg0) = m' (((0 : Dev Cert.ClippedReferenceIdeal.nD).tc : Thread Cert.ClippedReferenceIdeal.nD Cert.ClippedReferenceIdeal.τ).loc Cert.ClippedReferenceIdeal.main_arg0)
          ∧ r.2.mem (((0 : Dev Cert.ClippedReferenceIdeal.nD).tc : Thread Cert.ClippedReferenceIdeal.nD Cert.ClippedReferenceIdeal.τ).loc Cert.ClippedReferenceIdeal.main_arg1) = m' (((0 : Dev Cert.ClippedReferenceIdeal.nD).tc : Thread Cert.ClippedReferenceIdeal.nD Cert.ClippedReferenceIdeal.τ).loc Cert.ClippedReferenceIdeal.main_arg1))

def Claim : Prop :=
  ∃ (hKernel : Cert.Kernel.Facts) (hKernelIdeal : Cert.KernelIdeal.Facts) (hReferenceIdeal : Cert.ReferenceIdeal.Facts) (hClippedReferenceIdeal : Cert.ClippedReferenceIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_ClippedReferenceIdeal (hClippedReferenceIdeal := hClippedReferenceIdeal)
    ∧ preserves_Kernel_KernelIdeal
    ∧ algebraic_KernelIdeal_ReferenceIdeal (hKernelIdeal := hKernelIdeal) (hReferenceIdeal := hReferenceIdeal)
    ∧ algebraic_KernelIdeal_ClippedReferenceIdeal_on_unclipped (hKernelIdeal := hKernelIdeal) (hClippedReferenceIdeal := hClippedReferenceIdeal) (hOn_unclipped := hOn_unclipped)
-- ==== On_unclipped.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S4096x256 : Shape := ⟨2, ![4096, 256]⟩
abbrev S256x2048 : Shape := ⟨2, ![256, 2048]⟩
abbrev S8x4x1024x128 : Shape := ⟨4, ![8, 4, 1024, 128]⟩
abbrev S8x3 : Shape := ⟨2, ![8, 3]⟩
abbrev S8x3x256x256 : Shape := ⟨4, ![8, 3, 256, 256]⟩
abbrev S8x3x2 : Shape := ⟨3, ![8, 3, 2]⟩
abbrev S_ : Shape := ⟨0, ![]⟩
abbrev S256x256 : Shape := ⟨2, ![256, 256]⟩
abbrev S256x128 : Shape := ⟨2, ![256, 128]⟩
abbrev S1x1x256x128 : Shape := ⟨4, ![1, 1, 256, 128]⟩
abbrev S1x1 : Shape := ⟨2, ![1, 1]⟩
abbrev S1x1x1024x128 : Shape := ⟨4, ![1, 1, 1024, 128]⟩
abbrev S1024x128 : Shape := ⟨2, ![1024, 128]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S256x2048, .f32⟩
  | .local _ .vmem, ⟨3, _⟩ => ⟨S8x4x1024x128, .f32⟩
  | .local _ .vmem, ⟨4, _⟩ => ⟨S8x4x1024x128, .f32⟩
  | .local _ .vmem, ⟨5, _⟩ => ⟨S8x3x256x256, .f32⟩
  | _, _ => ⟨S4096x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 195 → Bool
  | ⟨i, _⟩ => dmaSemScopedAt i

abbrev sig : RefSig :=
  (ofTc nBuf bufTy 2 195 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch6 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_23 : BitVec 32 := 1#32
  let v42 : BitVec 32 := Scalar.muli v28 c1_i32_23
  let v43 : BitVec 32 := Scalar.addi c0_i32_24 v42
  v43.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_26 : BitVec 32 := 1#32
  let v44 : BitVec 32 := Scalar.muli v24 c1_i32_26
  let v45 : BitVec 32 := Scalar.addi c0_i32_27 v44
  v45.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v29 : BitVec 1 := Scalar.cmpi .sle v19 c0_i32_12
  let c1_i32_13 : BitVec 32 := 1#32
  let c0_i32_14 : BitVec 32 := 0#32
  let v30 : BitVec 32 := Scalar.select v29 c1_i32_13 c0_i32_14
  let c4_i32_15 : BitVec 32 := 4#32
  let v31 : BitVec 32 := Scalar.muli v30 c4_i32_15
  let c4_i32_5 : BitVec 32 := 4#32
  let v20 : BitVec 32 := Scalar.remsi v2 c4_i32_5
  let v32 : BitVec 32 := Scalar.addi v31 v20
  let c1_i32_29 : BitVec 32 := 1#32
  let v46 : BitVec 32 := Scalar.muli v32 c1_i32_29
  let v47 : BitVec 32 := Scalar.addi c0_i32_30 v46
  v47.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_16 : BitVec 32 := 1#32
  let v33 : BitVec 1 := Scalar.cmpi .sle v19 c1_i32_16
  let c2_i32 : BitVec 32 := 2#32
  let c1_i32_17 : BitVec 32 := 1#32
  let v34 : BitVec 32 := Scalar.select v33 c2_i32 c1_i32_17
  let c4_i32_18 : BitVec 32 := 4#32
  let v35 : BitVec 32 := Scalar.muli v34 c4_i32_18
  let c4_i32_5 : BitVec 32 := 4#32
  let v20 : BitVec 32 := Scalar.remsi v2 c4_i32_5
  let v36 : BitVec 32 := Scalar.addi v35 v20
  let c1_i32_32 : BitVec 32 := 1#32
  let v48 : BitVec 32 := Scalar.muli v36 c1_i32_32
  let v49 : BitVec 32 := Scalar.addi c0_i32_33 v48
  v49.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_19 : BitVec 32 := 2#32
  let v37 : BitVec 1 := Scalar.cmpi .sle v19 c2_i32_19
  let c3_i32 : BitVec 32 := 3#32
  let c2_i32_20 : BitVec 32 := 2#32
  let v38 : BitVec 32 := Scalar.select v37 c3_i32 c2_i32_20
  let c4_i32_21 : BitVec 32 := 4#32
  let v39 : BitVec 32 := Scalar.muli v38 c4_i32_21
  let c4_i32_5 : BitVec 32 := 4#32
  let v20 : BitVec 32 := Scalar.remsi v2 c4_i32_5
  let v40 : BitVec 32 := Scalar.addi v39 v20
  let c1_i32_35 : BitVec 32 := 1#32
  let v50 : BitVec 32 := Scalar.muli v40 c1_i32_35
  let v51 : BitVec 32 := Scalar.addi c0_i32_36 v50
  v51.toNat
def k0_off1 (d0 : Dev nD) (c0_i32_40 : BitVec 32) (c0_i32_38 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c8_i32 : BitVec 32 := 8#32
  let v52 : BitVec 32 := Scalar.addi v20 c8_i32
  let c1_i32_37 : BitVec 32 := 1#32
  let v53 : BitVec 32 := Scalar.subi v52 c1_i32_37
  let v54 : BitVec 32 := Scalar.subi v53 c0_i32_38
  let c4_i32_39 : BitVec 32 := 4#32
  let v55 : BitVec 32 := Scalar.remsi v54 c4_i32_39
  let v56 : BitVec 32 := Scalar.addi c0_i32_40 v55
  let c256_i32 : BitVec 32 := 256#32
  let v57 : BitVec 32 := Scalar.muli v56 c256_i32
  let v58 : Index := Scalar.indexCast v57
  let c0 : Index := 0#32
  ![v58.toNat, 0]
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_80 : BitVec 32 := 1#32
  let v100 : BitVec 32 := Scalar.muli v24 c1_i32_80
  let v101 : BitVec 32 := Scalar.addi c0_i32_81 v100
  v101.toNat
def k0_off2 (d0 : Dev nD) (c0_i32_89 : BitVec 32) (c0_i32_87 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_86 : BitVec 32 := 1#32
  let v110 : BitVec 32 := Scalar.addi v20 c1_i32_86
  let v111 : BitVec 32 := Scalar.addi v110 c0_i32_87
  let c4_i32_88 : BitVec 32 := 4#32
  let v112 : BitVec 32 := Scalar.remsi v111 c4_i32_88
  let v113 : BitVec 32 := Scalar.addi c0_i32_89 v112
  let c256_i32_90 : BitVec 32 := 256#32
  let v114 : BitVec 32 := Scalar.muli v113 c256_i32_90
  let v115 : Index := Scalar.indexCast v114
  let c0_91 : Index := 0#32
  ![v115.toNat, 0]
def k0_dev7 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_136 : BitVec 32 := 1#32
  let v157 : BitVec 32 := Scalar.muli v28 c1_i32_136
  let v158 : BitVec 32 := Scalar.addi c0_i32_137 v157
  v158.toNat
def k0_dev8 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_224 : BitVec 32 := 1#32
  let v235 : BitVec 32 := Scalar.muli v24 c1_i32_224
  let v236 : BitVec 32 := Scalar.addi c0_i32_225 v235
  v236.toNat
def k0_dev9 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_311 : BitVec 32 := 1#32
  let v312 : BitVec 32 := Scalar.muli v28 c1_i32_311
  let v313 : BitVec 32 := Scalar.addi c0_i32_312 v312
  v313.toNat
def k0_dev10 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_368 : BitVec 32 := 1#32
  let v370 : BitVec 32 := Scalar.muli v24 c1_i32_368
  let v371 : BitVec 32 := Scalar.addi c0_i32_369 v370
  v371.toNat
def k0_dev11 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_424 : BitVec 32 := 1#32
  let v427 : BitVec 32 := Scalar.muli v28 c1_i32_424
  let v428 : BitVec 32 := Scalar.addi c0_i32_425 v427
  v428.toNat
def k0_dev12 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_512 : BitVec 32 := 1#32
  let v505 : BitVec 32 := Scalar.muli v24 c1_i32_512
  let v506 : BitVec 32 := Scalar.addi c0_i32_513 v505
  v506.toNat
def k0_dev13 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_599 : BitVec 32 := 1#32
  let v582 : BitVec 32 := Scalar.muli v28 c1_i32_599
  let v583 : BitVec 32 := Scalar.addi c0_i32_600 v582
  v583.toNat
def k0_dev14 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_687 : BitVec 32 := 1#32
  let v660 : BitVec 32 := Scalar.muli v24 c1_i32_687
  let v661 : BitVec 32 := Scalar.addi c0_i32_688 v660
  v661.toNat
def k0_dev15 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_774 : BitVec 32 := 1#32
  let v737 : BitVec 32 := Scalar.muli v28 c1_i32_774
  let v738 : BitVec 32 := Scalar.addi c0_i32_775 v737
  v738.toNat
def k0_dev16 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_831 : BitVec 32 := 1#32
  let v795 : BitVec 32 := Scalar.muli v24 c1_i32_831
  let v796 : BitVec 32 := Scalar.addi c0_i32_832 v795
  v796.toNat
def k0_dev17 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_887 : BitVec 32 := 1#32
  let v852 : BitVec 32 := Scalar.muli v28 c1_i32_887
  let v853 : BitVec 32 := Scalar.addi c0_i32_888 v852
  v853.toNat
def k0_off3 (d0 : Dev nD) (c0_i32_1040 : BitVec 32) (c1_i32_1041 : BitVec 32) (c0_i32_1042 : BitVec 32) : Fin 3 → Nat :=
  let c0_i32_1049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v997 : BitVec 1 := Scalar.cmpi .sle v19 c0_i32_1040
  let v998 : BitVec 32 := Scalar.select v997 c1_i32_1041 c0_i32_1042
  let v1001 : BitVec 1 := Scalar.cmpi .sgt v19 v998
  let c1_i32_1044 : BitVec 32 := 1#32
  let v1002 : BitVec 32 := Scalar.subi v19 c1_i32_1044
  let v1003 : BitVec 32 := Scalar.select v1001 v1002 v19
  let c0_i32_1050 : BitVec 32 := 0#32
  ![0, v1003.toNat, 0]
def k0_off3_at (r : Fin 3) : BitVec 32 × BitVec 32 × BitVec 32 :=
  if r.val < 1 then
    (0#32, 1#32, 0#32)
  else
    if r.val < 2 then
      (1#32, 2#32, 1#32)
    else
      (2#32, 3#32, 2#32)
def k0_off4 (d0 : Dev nD) (c0_i32_1040 : BitVec 32) (c1_i32_1041 : BitVec 32) (c0_i32_1042 : BitVec 32) : Fin 4 → Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v997 : BitVec 1 := Scalar.cmpi .sle v19 c0_i32_1040
  let v998 : BitVec 32 := Scalar.select v997 c1_i32_1041 c0_i32_1042
  let v1001 : BitVec 1 := Scalar.cmpi .sgt v19 v998
  let c1_i32_1044 : BitVec 32 := 1#32
  let v1002 : BitVec 32 := Scalar.subi v19 c1_i32_1044
  let v1003 : BitVec 32 := Scalar.select v1001 v1002 v19
  let c0_i32_1056 : BitVec 32 := 0#32
  let c0_i32_1057 : BitVec 32 := 0#32
  ![0, v1003.toNat, 0, 0]
def k0_off4_at (r : Fin 3) : BitVec 32 × BitVec 32 × BitVec 32 :=
  if r.val < 1 then
    (0#32, 1#32, 0#32)
  else
    if r.val < 2 then
      (1#32, 2#32, 1#32)
    else
      (2#32, 3#32, 2#32)
def k0_off5 (d0 : Dev nD) (c0_i32_1040 : BitVec 32) (c1_i32_1041 : BitVec 32) (c0_i32_1042 : BitVec 32) : Fin 4 → Nat :=
  let c0_i32_1046 : BitVec 32 := 0#32
  let c2_i32_1047 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v997 : BitVec 1 := Scalar.cmpi .sle v19 c0_i32_1040
  let v998 : BitVec 32 := Scalar.select v997 c1_i32_1041 c0_i32_1042
  let c256_i32_1045 : BitVec 32 := 256#32
  let v1004 : BitVec 32 := Scalar.muli v998 c256_i32_1045
  let c0_i32_1058 : BitVec 32 := 0#32
  ![0, 2, v1004.toNat, 0]
def k0_off5_at (r : Fin 3) : BitVec 32 × BitVec 32 × BitVec 32 :=
  if r.val < 1 then
    (0#32, 1#32, 0#32)
  else
    if r.val < 2 then
      (1#32, 2#32, 1#32)
    else
      (2#32, 3#32, 2#32)
def k0_dev18 (d0 : Dev nD) : Nat :=
  let c0_i32_1055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1040 : BitVec 32 := 0#32
  let v997 : BitVec 1 := Scalar.cmpi .sle v19 c0_i32_1040
  let c1_i32_1041 : BitVec 32 := 1#32
  let c0_i32_1042 : BitVec 32 := 0#32
  let v998 : BitVec 32 := Scalar.select v997 c1_i32_1041 c0_i32_1042
  let c4_i32_1043 : BitVec 32 := 4#32
  let v999 : BitVec 32 := Scalar.muli v998 c4_i32_1043
  let c4_i32_5 : BitVec 32 := 4#32
  let v20 : BitVec 32 := Scalar.remsi v2 c4_i32_5
  let v1000 : BitVec 32 := Scalar.addi v999 v20
  let c1_i32_1054 : BitVec 32 := 1#32
  let v1005 : BitVec 32 := Scalar.muli v1000 c1_i32_1054
  let v1006 : BitVec 32 := Scalar.addi c0_i32_1055 v1005
  v1006.toNat
def k0_off6 (d0 : Dev nD) (c0_i32_1040 : BitVec 32) (c1_i32_1041 : BitVec 32) (c0_i32_1042 : BitVec 32) : Fin 3 → Nat :=
  let c0_i32_1063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v997 : BitVec 1 := Scalar.cmpi .sle v19 c0_i32_1040
  let v998 : BitVec 32 := Scalar.select v997 c1_i32_1041 c0_i32_1042
  let v1001 : BitVec 1 := Scalar.cmpi .sgt v19 v998
  let c1_i32_1044 : BitVec 32 := 1#32
  let v1002 : BitVec 32 := Scalar.subi v19 c1_i32_1044
  let v1003 : BitVec 32 := Scalar.select v1001 v1002 v19
  let c1_i32_1064 : BitVec 32 := 1#32
  ![0, v1003.toNat, 1]
def k0_off6_at (r : Fin 3) : BitVec 32 × BitVec 32 × BitVec 32 :=
  if r.val < 1 then
    (0#32, 1#32, 0#32)
  else
    if r.val < 2 then
      (1#32, 2#32, 1#32)
    else
      (2#32, 3#32, 2#32)
def k0_off7 (d0 : Dev nD) (c0_i32_1040 : BitVec 32) (c1_i32_1041 : BitVec 32) (c0_i32_1042 : BitVec 32) : Fin 4 → Nat :=
  let c0_i32_1062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v997 : BitVec 1 := Scalar.cmpi .sle v19 c0_i32_1040
  let v998 : BitVec 32 := Scalar.select v997 c1_i32_1041 c0_i32_1042
  let v1001 : BitVec 1 := Scalar.cmpi .sgt v19 v998
  let c1_i32_1044 : BitVec 32 := 1#32
  let v1002 : BitVec 32 := Scalar.subi v19 c1_i32_1044
  let v1003 : BitVec 32 := Scalar.select v1001 v1002 v19
  let c0_i32_1070 : BitVec 32 := 0#32
  let c128_i32 : BitVec 32 := 128#32
  ![0, v1003.toNat, 0, 128]
def k0_off7_at (r : Fin 3) : BitVec 32 × BitVec 32 × BitVec 32 :=
  if r.val < 1 then
    (0#32, 1#32, 0#32)
  else
    if r.val < 2 then
      (1#32, 2#32, 1#32)
    else
      (2#32, 3#32, 2#32)
def k0_dev19 (d0 : Dev nD) : Nat :=
  let c0_i32_1069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1040 : BitVec 32 := 0#32
  let v997 : BitVec 1 := Scalar.cmpi .sle v19 c0_i32_1040
  let c1_i32_1041 : BitVec 32 := 1#32
  let c0_i32_1042 : BitVec 32 := 0#32
  let v998 : BitVec 32 := Scalar.select v997 c1_i32_1041 c0_i32_1042
  let c4_i32_1043 : BitVec 32 := 4#32
  let v999 : BitVec 32 := Scalar.muli v998 c4_i32_1043
  let c4_i32_5 : BitVec 32 := 4#32
  let v20 : BitVec 32 := Scalar.remsi v2 c4_i32_5
  let v1000 : BitVec 32 := Scalar.addi v999 v20
  let c1_i32_1068 : BitVec 32 := 1#32
  let v1016 : BitVec 32 := Scalar.muli v1000 c1_i32_1068
  let v1017 : BitVec 32 := Scalar.addi c0_i32_1069 v1016
  v1017.toNat
def k0_dev20 (d0 : Dev nD) : Nat :=
  let c0_i32_1087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1072 : BitVec 32 := 1#32
  let v1026 : BitVec 1 := Scalar.cmpi .sle v19 c1_i32_1072
  let c2_i32_1073 : BitVec 32 := 2#32
  let c1_i32_1074 : BitVec 32 := 1#32
  let v1027 : BitVec 32 := Scalar.select v1026 c2_i32_1073 c1_i32_1074
  let c4_i32_1075 : BitVec 32 := 4#32
  let v1028 : BitVec 32 := Scalar.muli v1027 c4_i32_1075
  let c4_i32_5 : BitVec 32 := 4#32
  let v20 : BitVec 32 := Scalar.remsi v2 c4_i32_5
  let v1029 : BitVec 32 := Scalar.addi v1028 v20
  let c1_i32_1086 : BitVec 32 := 1#32
  let v1034 : BitVec 32 := Scalar.muli v1029 c1_i32_1086
  let v1035 : BitVec 32 := Scalar.addi c0_i32_1087 v1034
  v1035.toNat
def k0_dev21 (d0 : Dev nD) : Nat :=
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1072 : BitVec 32 := 1#32
  let v1026 : BitVec 1 := Scalar.cmpi .sle v19 c1_i32_1072
  let c2_i32_1073 : BitVec 32 := 2#32
  let c1_i32_1074 : BitVec 32 := 1#32
  let v1027 : BitVec 32 := Scalar.select v1026 c2_i32_1073 c1_i32_1074
  let c4_i32_1075 : BitVec 32 := 4#32
  let v1028 : BitVec 32 := Scalar.muli v1027 c4_i32_1075
  let c4_i32_5 : BitVec 32 := 4#32
  let v20 : BitVec 32 := Scalar.remsi v2 c4_i32_5
  let v1029 : BitVec 32 := Scalar.addi v1028 v20
  let c1_i32_1100 : BitVec 32 := 1#32
  let v1045 : BitVec 32 := Scalar.muli v1029 c1_i32_1100
  let v1046 : BitVec 32 := Scalar.addi c0_i32_1101 v1045
  v1046.toNat
def k0_dev22 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1105 : BitVec 32 := 2#32
  let v1055 : BitVec 1 := Scalar.cmpi .sle v19 c2_i32_1105
  let c3_i32_1106 : BitVec 32 := 3#32
  let c2_i32_1107 : BitVec 32 := 2#32
  let v1056 : BitVec 32 := Scalar.select v1055 c3_i32_1106 c2_i32_1107
  let c4_i32_1108 : BitVec 32 := 4#32
  let v1057 : BitVec 32 := Scalar.muli v1056 c4_i32_1108
  let c4_i32_5 : BitVec 32 := 4#32
  let v20 : BitVec 32 := Scalar.remsi v2 c4_i32_5
  let v1058 : BitVec 32 := Scalar.addi v1057 v20
  let c1_i32_1119 : BitVec 32 := 1#32
  let v1063 : BitVec 32 := Scalar.muli v1058 c1_i32_1119
  let v1064 : BitVec 32 := Scalar.addi c0_i32_1120 v1063
  v1064.toNat
def k0_dev23 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1105 : BitVec 32 := 2#32
  let v1055 : BitVec 1 := Scalar.cmpi .sle v19 c2_i32_1105
  let c3_i32_1106 : BitVec 32 := 3#32
  let c2_i32_1107 : BitVec 32 := 2#32
  let v1056 : BitVec 32 := Scalar.select v1055 c3_i32_1106 c2_i32_1107
  let c4_i32_1108 : BitVec 32 := 4#32
  let v1057 : BitVec 32 := Scalar.muli v1056 c4_i32_1108
  let c4_i32_5 : BitVec 32 := 4#32
  let v20 : BitVec 32 := Scalar.remsi v2 c4_i32_5
  let v1058 : BitVec 32 := Scalar.addi v1057 v20
  let c1_i32_1133 : BitVec 32 := 1#32
  let v1074 : BitVec 32 := Scalar.muli v1058 c1_i32_1133
  let v1075 : BitVec 32 := Scalar.addi c0_i32_1134 v1074
  v1075.toNat
def k0_dev24 (d0 : Dev nD) : Nat :=
  let c0_i32_1221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1220 : BitVec 32 := 1#32
  let v1152 : BitVec 32 := Scalar.muli v24 c1_i32_1220
  let v1153 : BitVec 32 := Scalar.addi c0_i32_1221 v1152
  v1153.toNat
def k0_dev25 (d0 : Dev nD) : Nat :=
  let c0_i32_1308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_1307 : BitVec 32 := 1#32
  let v1229 : BitVec 32 := Scalar.muli v28 c1_i32_1307
  let v1230 : BitVec 32 := Scalar.addi c0_i32_1308 v1229
  v1230.toNat
def k0_dev26 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1395 : BitVec 32 := 1#32
  let v1307 : BitVec 32 := Scalar.muli v24 c1_i32_1395
  let v1308 : BitVec 32 := Scalar.addi c0_i32_1396 v1307
  v1308.toNat
def k0_dev27 (d0 : Dev nD) : Nat :=
  let c0_i32_1483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_1482 : BitVec 32 := 1#32
  let v1384 : BitVec 32 := Scalar.muli v28 c1_i32_1482
  let v1385 : BitVec 32 := Scalar.addi c0_i32_1483 v1384
  v1385.toNat
def k0_dev28 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1540 : BitVec 32 := 1#32
  let v1442 : BitVec 32 := Scalar.muli v24 c1_i32_1540
  let v1443 : BitVec 32 := Scalar.addi c0_i32_1541 v1442
  v1443.toNat
def k0_dev29 (d0 : Dev nD) : Nat :=
  let c0_i32_1597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_1596 : BitVec 32 := 1#32
  let v1499 : BitVec 32 := Scalar.muli v28 c1_i32_1596
  let v1500 : BitVec 32 := Scalar.addi c0_i32_1597 v1499
  v1500.toNat
def k0_off8 (d0 : Dev nD) (c0_i32_1749 : BitVec 32) (c1_i32_1750 : BitVec 32) (c0_i32_1751 : BitVec 32) : Fin 3 → Nat :=
  let c1_i32_1758 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1644 : BitVec 1 := Scalar.cmpi .sle v19 c0_i32_1749
  let v1645 : BitVec 32 := Scalar.select v1644 c1_i32_1750 c0_i32_1751
  let v1648 : BitVec 1 := Scalar.cmpi .sgt v19 v1645
  let c1_i32_1753 : BitVec 32 := 1#32
  let v1649 : BitVec 32 := Scalar.subi v19 c1_i32_1753
  let v1650 : BitVec 32 := Scalar.select v1648 v1649 v19
  let c0_i32_1759 : BitVec 32 := 0#32
  ![1, v1650.toNat, 0]
def k0_off8_at (r : Fin 3) : BitVec 32 × BitVec 32 × BitVec 32 :=
  if r.val < 1 then
    (0#32, 1#32, 0#32)
  else
    if r.val < 2 then
      (1#32, 2#32, 1#32)
    else
      (2#32, 3#32, 2#32)
def k0_off9 (d0 : Dev nD) (c0_i32_1749 : BitVec 32) (c1_i32_1750 : BitVec 32) (c0_i32_1751 : BitVec 32) : Fin 4 → Nat :=
  let c1_i32_1757 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1644 : BitVec 1 := Scalar.cmpi .sle v19 c0_i32_1749
  let v1645 : BitVec 32 := Scalar.select v1644 c1_i32_1750 c0_i32_1751
  let v1648 : BitVec 1 := Scalar.cmpi .sgt v19 v1645
  let c1_i32_1753 : BitVec 32 := 1#32
  let v1649 : BitVec 32 := Scalar.subi v19 c1_i32_1753
  let v1650 : BitVec 32 := Scalar.select v1648 v1649 v19
  let c0_i32_1765 : BitVec 32 := 0#32
  let c0_i32_1766 : BitVec 32 := 0#32
  ![1, v1650.toNat, 0, 0]
def k0_off9_at (r : Fin 3) : BitVec 32 × BitVec 32 × BitVec 32 :=
  if r.val < 1 then
    (0#32, 1#32, 0#32)
  else
    if r.val < 2 then
      (1#32, 2#32, 1#32)
    else
      (2#32, 3#32, 2#32)
def k0_off10 (d0 : Dev nD) (c0_i32_1749 : BitVec 32) (c1_i32_1750 : BitVec 32) (c0_i32_1751 : BitVec 32) : Fin 4 → Nat :=
  let c1_i32_1755 : BitVec 32 := 1#32
  let c2_i32_1756 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1644 : BitVec 1 := Scalar.cmpi .sle v19 c0_i32_1749
  let v1645 : BitVec 32 := Scalar.select v1644 c1_i32_1750 c0_i32_1751
  let c256_i32_1754 : BitVec 32 := 256#32
  let v1651 : BitVec 32 := Scalar.muli v1645 c256_i32_1754
  let c0_i32_1767 : BitVec 32 := 0#32
  ![1, 2, v1651.toNat, 0]
def k0_off10_at (r : Fin 3) : BitVec 32 × BitVec 32 × BitVec 32 :=
  if r.val < 1 then
    (0#32, 1#32, 0#32)
  else
    if r.val < 2 then
      (1#32, 2#32, 1#32)
    else
      (2#32, 3#32, 2#32)
def k0_dev30 (d0 : Dev nD) : Nat :=
  let c0_i32_1764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1749 : BitVec 32 := 0#32
  let v1644 : BitVec 1 := Scalar.cmpi .sle v19 c0_i32_1749
  let c1_i32_1750 : BitVec 32 := 1#32
  let c0_i32_1751 : BitVec 32 := 0#32
  let v1645 : BitVec 32 := Scalar.select v1644 c1_i32_1750 c0_i32_1751
  let c4_i32_1752 : BitVec 32 := 4#32
  let v1646 : BitVec 32 := Scalar.muli v1645 c4_i32_1752
  let c4_i32_5 : BitVec 32 := 4#32
  let v20 : BitVec 32 := Scalar.remsi v2 c4_i32_5
  let v1647 : BitVec 32 := Scalar.addi v1646 v20
  let c1_i32_1763 : BitVec 32 := 1#32
  let v1652 : BitVec 32 := Scalar.muli v1647 c1_i32_1763
  let v1653 : BitVec 32 := Scalar.addi c0_i32_1764 v1652
  v1653.toNat
def k0_off11 (d0 : Dev nD) (c0_i32_1749 : BitVec 32) (c1_i32_1750 : BitVec 32) (c0_i32_1751 : BitVec 32) : Fin 3 → Nat :=
  let c1_i32_1772 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1644 : BitVec 1 := Scalar.cmpi .sle v19 c0_i32_1749
  let v1645 : BitVec 32 := Scalar.select v1644 c1_i32_1750 c0_i32_1751
  let v1648 : BitVec 1 := Scalar.cmpi .sgt v19 v1645
  let c1_i32_1753 : BitVec 32 := 1#32
  let v1649 : BitVec 32 := Scalar.subi v19 c1_i32_1753
  let v1650 : BitVec 32 := Scalar.select v1648 v1649 v19
  let c1_i32_1773 : BitVec 32 := 1#32
  ![1, v1650.toNat, 1]
def k0_off11_at (r : Fin 3) : BitVec 32 × BitVec 32 × BitVec 32 :=
  if r.val < 1 then
    (0#32, 1#32, 0#32)
  else
    if r.val < 2 then
      (1#32, 2#32, 1#32)
    else
      (2#32, 3#32, 2#32)
def k0_off12 (d0 : Dev nD) (c0_i32_1749 : BitVec 32) (c1_i32_1750 : BitVec 32) (c0_i32_1751 : BitVec 32) : Fin 4 → Nat :=
  let c1_i32_1771 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1644 : BitVec 1 := Scalar.cmpi .sle v19 c0_i32_1749
  let v1645 : BitVec 32 := Scalar.select v1644 c1_i32_1750 c0_i32_1751
  let v1648 : BitVec 1 := Scalar.cmpi .sgt v19 v1645
  let c1_i32_1753 : BitVec 32 := 1#32
  let v1649 : BitVec 32 := Scalar.subi v19 c1_i32_1753
  let v1650 : BitVec 32 := Scalar.select v1648 v1649 v19
  let c0_i32_1779 : BitVec 32 := 0#32
  let c128_i32_1780 : BitVec 32 := 128#32
  ![1, v1650.toNat, 0, 128]
def k0_off12_at (r : Fin 3) : BitVec 32 × BitVec 32 × BitVec 32 :=
  if r.val < 1 then
    (0#32, 1#32, 0#32)
  else
    if r.val < 2 then
      (1#32, 2#32, 1#32)
    else
      (2#32, 3#32, 2#32)
def k0_dev31 (d0 : Dev nD) : Nat :=
  let c0_i32_1778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1749 : BitVec 32 := 0#32
  let v1644 : BitVec 1 := Scalar.cmpi .sle v19 c0_i32_1749
  let c1_i32_1750 : BitVec 32 := 1#32
  let c0_i32_1751 : BitVec 32 := 0#32
  let v1645 : BitVec 32 := Scalar.select v1644 c1_i32_1750 c0_i32_1751
  let c4_i32_1752 : BitVec 32 := 4#32
  let v1646 : BitVec 32 := Scalar.muli v1645 c4_i32_1752
  let c4_i32_5 : BitVec 32 := 4#32
  let v20 : BitVec 32 := Scalar.remsi v2 c4_i32_5
  let v1647 : BitVec 32 := Scalar.addi v1646 v20
  let c1_i32_1777 : BitVec 32 := 1#32
  let v1663 : BitVec 32 := Scalar.muli v1647 c1_i32_1777
  let v1664 : BitVec 32 := Scalar.addi c0_i32_1778 v1663
  v1664.toNat
def k0_dev32 (d0 : Dev nD) : Nat :=
  let c0_i32_1797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1782 : BitVec 32 := 1#32
  let v1673 : BitVec 1 := Scalar.cmpi .sle v19 c1_i32_1782
  let c2_i32_1783 : BitVec 32 := 2#32
  let c1_i32_1784 : BitVec 32 := 1#32
  let v1674 : BitVec 32 := Scalar.select v1673 c2_i32_1783 c1_i32_1784
  let c4_i32_1785 : BitVec 32 := 4#32
  let v1675 : BitVec 32 := Scalar.muli v1674 c4_i32_1785
  let c4_i32_5 : BitVec 32 := 4#32
  let v20 : BitVec 32 := Scalar.remsi v2 c4_i32_5
  let v1676 : BitVec 32 := Scalar.addi v1675 v20
  let c1_i32_1796 : BitVec 32 := 1#32
  let v1681 : BitVec 32 := Scalar.muli v1676 c1_i32_1796
  let v1682 : BitVec 32 := Scalar.addi c0_i32_1797 v1681
  v1682.toNat
def k0_dev33 (d0 : Dev nD) : Nat :=
  let c0_i32_1811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1782 : BitVec 32 := 1#32
  let v1673 : BitVec 1 := Scalar.cmpi .sle v19 c1_i32_1782
  let c2_i32_1783 : BitVec 32 := 2#32
  let c1_i32_1784 : BitVec 32 := 1#32
  let v1674 : BitVec 32 := Scalar.select v1673 c2_i32_1783 c1_i32_1784
  let c4_i32_1785 : BitVec 32 := 4#32
  let v1675 : BitVec 32 := Scalar.muli v1674 c4_i32_1785
  let c4_i32_5 : BitVec 32 := 4#32
  let v20 : BitVec 32 := Scalar.remsi v2 c4_i32_5
  let v1676 : BitVec 32 := Scalar.addi v1675 v20
  let c1_i32_1810 : BitVec 32 := 1#32
  let v1692 : BitVec 32 := Scalar.muli v1676 c1_i32_1810
  let v1693 : BitVec 32 := Scalar.addi c0_i32_1811 v1692
  v1693.toNat
def k0_dev34 (d0 : Dev nD) : Nat :=
  let c0_i32_1830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1815 : BitVec 32 := 2#32
  let v1702 : BitVec 1 := Scalar.cmpi .sle v19 c2_i32_1815
  let c3_i32_1816 : BitVec 32 := 3#32
  let c2_i32_1817 : BitVec 32 := 2#32
  let v1703 : BitVec 32 := Scalar.select v1702 c3_i32_1816 c2_i32_1817
  let c4_i32_1818 : BitVec 32 := 4#32
  let v1704 : BitVec 32 := Scalar.muli v1703 c4_i32_1818
  let c4_i32_5 : BitVec 32 := 4#32
  let v20 : BitVec 32 := Scalar.remsi v2 c4_i32_5
  let v1705 : BitVec 32 := Scalar.addi v1704 v20
  let c1_i32_1829 : BitVec 32 := 1#32
  let v1710 : BitVec 32 := Scalar.muli v1705 c1_i32_1829
  let v1711 : BitVec 32 := Scalar.addi c0_i32_1830 v1710
  v1711.toNat
def k0_dev35 (d0 : Dev nD) : Nat :=
  let c0_i32_1844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1815 : BitVec 32 := 2#32
  let v1702 : BitVec 1 := Scalar.cmpi .sle v19 c2_i32_1815
  let c3_i32_1816 : BitVec 32 := 3#32
  let c2_i32_1817 : BitVec 32 := 2#32
  let v1703 : BitVec 32 := Scalar.select v1702 c3_i32_1816 c2_i32_1817
  let c4_i32_1818 : BitVec 32 := 4#32
  let v1704 : BitVec 32 := Scalar.muli v1703 c4_i32_1818
  let c4_i32_5 : BitVec 32 := 4#32
  let v20 : BitVec 32 := Scalar.remsi v2 c4_i32_5
  let v1705 : BitVec 32 := Scalar.addi v1704 v20
  let c1_i32_1843 : BitVec 32 := 1#32
  let v1721 : BitVec 32 := Scalar.muli v1705 c1_i32_1843
  let v1722 : BitVec 32 := Scalar.addi c0_i32_1844 v1721
  v1722.toNat
def k0_dev36 (d0 : Dev nD) : Nat :=
  let c0_i32_1931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1930 : BitVec 32 := 1#32
  let v1799 : BitVec 32 := Scalar.muli v24 c1_i32_1930
  let v1800 : BitVec 32 := Scalar.addi c0_i32_1931 v1799
  v1800.toNat
def k0_dev37 (d0 : Dev nD) : Nat :=
  let c0_i32_2018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_2017 : BitVec 32 := 1#32
  let v1876 : BitVec 32 := Scalar.muli v28 c1_i32_2017
  let v1877 : BitVec 32 := Scalar.addi c0_i32_2018 v1876
  v1877.toNat
def k0_dev38 (d0 : Dev nD) : Nat :=
  let c0_i32_2106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_2105 : BitVec 32 := 1#32
  let v1954 : BitVec 32 := Scalar.muli v24 c1_i32_2105
  let v1955 : BitVec 32 := Scalar.addi c0_i32_2106 v1954
  v1955.toNat
def k0_dev39 (d0 : Dev nD) : Nat :=
  let c0_i32_2193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_2192 : BitVec 32 := 1#32
  let v2031 : BitVec 32 := Scalar.muli v28 c1_i32_2192
  let v2032 : BitVec 32 := Scalar.addi c0_i32_2193 v2031
  v2032.toNat
def k0_dev40 (d0 : Dev nD) : Nat :=
  let c0_i32_2249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_2248 : BitVec 32 := 1#32
  let v2089 : BitVec 32 := Scalar.muli v24 c1_i32_2248
  let v2090 : BitVec 32 := Scalar.addi c0_i32_2249 v2089
  v2090.toNat
def k0_dev41 (d0 : Dev nD) : Nat :=
  let c0_i32_2305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_2304 : BitVec 32 := 1#32
  let v2146 : BitVec 32 := Scalar.muli v28 c1_i32_2304
  let v2147 : BitVec 32 := Scalar.addi c0_i32_2305 v2146
  v2147.toNat
def k0_off13 (d0 : Dev nD) (c0_i32_2457 : BitVec 32) (c1_i32_2458 : BitVec 32) (c0_i32_2459 : BitVec 32) : Fin 3 → Nat :=
  let c2_i32_2466 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2291 : BitVec 1 := Scalar.cmpi .sle v19 c0_i32_2457
  let v2292 : BitVec 32 := Scalar.select v2291 c1_i32_2458 c0_i32_2459
  let v2295 : BitVec 1 := Scalar.cmpi .sgt v19 v2292
  let c1_i32_2461 : BitVec 32 := 1#32
  let v2296 : BitVec 32 := Scalar.subi v19 c1_i32_2461
  let v2297 : BitVec 32 := Scalar.select v2295 v2296 v19
  let c0_i32_2467 : BitVec 32 := 0#32
  ![2, v2297.toNat, 0]
def k0_off13_at (r : Fin 3) : BitVec 32 × BitVec 32 × BitVec 32 :=
  if r.val < 1 then
    (0#32, 1#32, 0#32)
  else
    if r.val < 2 then
      (1#32, 2#32, 1#32)
    else
      (2#32, 3#32, 2#32)
def k0_off14 (d0 : Dev nD) (c0_i32_2457 : BitVec 32) (c1_i32_2458 : BitVec 32) (c0_i32_2459 : BitVec 32) : Fin 4 → Nat :=
  let c2_i32_2465 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2291 : BitVec 1 := Scalar.cmpi .sle v19 c0_i32_2457
  let v2292 : BitVec 32 := Scalar.select v2291 c1_i32_2458 c0_i32_2459
  let v2295 : BitVec 1 := Scalar.cmpi .sgt v19 v2292
  let c1_i32_2461 : BitVec 32 := 1#32
  let v2296 : BitVec 32 := Scalar.subi v19 c1_i32_2461
  let v2297 : BitVec 32 := Scalar.select v2295 v2296 v19
  let c0_i32_2473 : BitVec 32 := 0#32
  let c0_i32_2474 : BitVec 32 := 0#32
  ![2, v2297.toNat, 0, 0]
def k0_off14_at (r : Fin 3) : BitVec 32 × BitVec 32 × BitVec 32 :=
  if r.val < 1 then
    (0#32, 1#32, 0#32)
  else
    if r.val < 2 then
      (1#32, 2#32, 1#32)
    else
      (2#32, 3#32, 2#32)
def k0_off15 (d0 : Dev nD) (c0_i32_2457 : BitVec 32) (c1_i32_2458 : BitVec 32) (c0_i32_2459 : BitVec 32) : Fin 4 → Nat :=
  let c2_i32_2463 : BitVec 32 := 2#32
  let c2_i32_2464 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2291 : BitVec 1 := Scalar.cmpi .sle v19 c0_i32_2457
  let v2292 : BitVec 32 := Scalar.select v2291 c1_i32_2458 c0_i32_2459
  let c256_i32_2462 : BitVec 32 := 256#32
  let v2298 : BitVec 32 := Scalar.muli v2292 c256_i32_2462
  let c0_i32_2475 : BitVec 32 := 0#32
  ![2, 2, v2298.toNat, 0]
def k0_off15_at (r : Fin 3) : BitVec 32 × BitVec 32 × BitVec 32 :=
  if r.val < 1 then
    (0#32, 1#32, 0#32)
  else
    if r.val < 2 then
      (1#32, 2#32, 1#32)
    else
      (2#32, 3#32, 2#32)
def k0_dev42 (d0 : Dev nD) : Nat :=
  let c0_i32_2472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2457 : BitVec 32 := 0#32
  let v2291 : BitVec 1 := Scalar.cmpi .sle v19 c0_i32_2457
  let c1_i32_2458 : BitVec 32 := 1#32
  let c0_i32_2459 : BitVec 32 := 0#32
  let v2292 : BitVec 32 := Scalar.select v2291 c1_i32_2458 c0_i32_2459
  let c4_i32_2460 : BitVec 32 := 4#32
  let v2293 : BitVec 32 := Scalar.muli v2292 c4_i32_2460
  let c4_i32_5 : BitVec 32 := 4#32
  let v20 : BitVec 32 := Scalar.remsi v2 c4_i32_5
  let v2294 : BitVec 32 := Scalar.addi v2293 v20
  let c1_i32_2471 : BitVec 32 := 1#32
  let v2299 : BitVec 32 := Scalar.muli v2294 c1_i32_2471
  let v2300 : BitVec 32 := Scalar.addi c0_i32_2472 v2299
  v2300.toNat
def k0_off16 (d0 : Dev nD) (c0_i32_2457 : BitVec 32) (c1_i32_2458 : BitVec 32) (c0_i32_2459 : BitVec 32) : Fin 3 → Nat :=
  let c2_i32_2480 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2291 : BitVec 1 := Scalar.cmpi .sle v19 c0_i32_2457
  let v2292 : BitVec 32 := Scalar.select v2291 c1_i32_2458 c0_i32_2459
  let v2295 : BitVec 1 := Scalar.cmpi .sgt v19 v2292
  let c1_i32_2461 : BitVec 32 := 1#32
  let v2296 : BitVec 32 := Scalar.subi v19 c1_i32_2461
  let v2297 : BitVec 32 := Scalar.select v2295 v2296 v19
  let c1_i32_2481 : BitVec 32 := 1#32
  ![2, v2297.toNat, 1]
def k0_off16_at (r : Fin 3) : BitVec 32 × BitVec 32 × BitVec 32 :=
  if r.val < 1 then
    (0#32, 1#32, 0#32)
  else
    if r.val < 2 then
      (1#32, 2#32, 1#32)
    else
      (2#32, 3#32, 2#32)
def k0_off17 (d0 : Dev nD) (c0_i32_2457 : BitVec 32) (c1_i32_2458 : BitVec 32) (c0_i32_2459 : BitVec 32) : Fin 4 → Nat :=
  let c2_i32_2479 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2291 : BitVec 1 := Scalar.cmpi .sle v19 c0_i32_2457
  let v2292 : BitVec 32 := Scalar.select v2291 c1_i32_2458 c0_i32_2459
  let v2295 : BitVec 1 := Scalar.cmpi .sgt v19 v2292
  let c1_i32_2461 : BitVec 32 := 1#32
  let v2296 : BitVec 32 := Scalar.subi v19 c1_i32_2461
  let v2297 : BitVec 32 := Scalar.select v2295 v2296 v19
  let c0_i32_2487 : BitVec 32 := 0#32
  let c128_i32_2488 : BitVec 32 := 128#32
  ![2, v2297.toNat, 0, 128]
def k0_off17_at (r : Fin 3) : BitVec 32 × BitVec 32 × BitVec 32 :=
  if r.val < 1 then
    (0#32, 1#32, 0#32)
  else
    if r.val < 2 then
      (1#32, 2#32, 1#32)
    else
      (2#32, 3#32, 2#32)
def k0_dev43 (d0 : Dev nD) : Nat :=
  let c0_i32_2486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2457 : BitVec 32 := 0#32
  let v2291 : BitVec 1 := Scalar.cmpi .sle v19 c0_i32_2457
  let c1_i32_2458 : BitVec 32 := 1#32
  let c0_i32_2459 : BitVec 32 := 0#32
  let v2292 : BitVec 32 := Scalar.select v2291 c1_i32_2458 c0_i32_2459
  let c4_i32_2460 : BitVec 32 := 4#32
  let v2293 : BitVec 32 := Scalar.muli v2292 c4_i32_2460
  let c4_i32_5 : BitVec 32 := 4#32
  let v20 : BitVec 32 := Scalar.remsi v2 c4_i32_5
  let v2294 : BitVec 32 := Scalar.addi v2293 v20
  let c1_i32_2485 : BitVec 32 := 1#32
  let v2310 : BitVec 32 := Scalar.muli v2294 c1_i32_2485
  let v2311 : BitVec 32 := Scalar.addi c0_i32_2486 v2310
  v2311.toNat
def k0_dev44 (d0 : Dev nD) : Nat :=
  let c0_i32_2505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2490 : BitVec 32 := 1#32
  let v2320 : BitVec 1 := Scalar.cmpi .sle v19 c1_i32_2490
  let c2_i32_2491 : BitVec 32 := 2#32
  let c1_i32_2492 : BitVec 32 := 1#32
  let v2321 : BitVec 32 := Scalar.select v2320 c2_i32_2491 c1_i32_2492
  let c4_i32_2493 : BitVec 32 := 4#32
  let v2322 : BitVec 32 := Scalar.muli v2321 c4_i32_2493
  let c4_i32_5 : BitVec 32 := 4#32
  let v20 : BitVec 32 := Scalar.remsi v2 c4_i32_5
  let v2323 : BitVec 32 := Scalar.addi v2322 v20
  let c1_i32_2504 : BitVec 32 := 1#32
  let v2328 : BitVec 32 := Scalar.muli v2323 c1_i32_2504
  let v2329 : BitVec 32 := Scalar.addi c0_i32_2505 v2328
  v2329.toNat
def k0_dev45 (d0 : Dev nD) : Nat :=
  let c0_i32_2519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2490 : BitVec 32 := 1#32
  let v2320 : BitVec 1 := Scalar.cmpi .sle v19 c1_i32_2490
  let c2_i32_2491 : BitVec 32 := 2#32
  let c1_i32_2492 : BitVec 32 := 1#32
  let v2321 : BitVec 32 := Scalar.select v2320 c2_i32_2491 c1_i32_2492
  let c4_i32_2493 : BitVec 32 := 4#32
  let v2322 : BitVec 32 := Scalar.muli v2321 c4_i32_2493
  let c4_i32_5 : BitVec 32 := 4#32
  let v20 : BitVec 32 := Scalar.remsi v2 c4_i32_5
  let v2323 : BitVec 32 := Scalar.addi v2322 v20
  let c1_i32_2518 : BitVec 32 := 1#32
  let v2339 : BitVec 32 := Scalar.muli v2323 c1_i32_2518
  let v2340 : BitVec 32 := Scalar.addi c0_i32_2519 v2339
  v2340.toNat
def k0_dev46 (d0 : Dev nD) : Nat :=
  let c0_i32_2538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2523 : BitVec 32 := 2#32
  let v2349 : BitVec 1 := Scalar.cmpi .sle v19 c2_i32_2523
  let c3_i32_2524 : BitVec 32 := 3#32
  let c2_i32_2525 : BitVec 32 := 2#32
  let v2350 : BitVec 32 := Scalar.select v2349 c3_i32_2524 c2_i32_2525
  let c4_i32_2526 : BitVec 32 := 4#32
  let v2351 : BitVec 32 := Scalar.muli v2350 c4_i32_2526
  let c4_i32_5 : BitVec 32 := 4#32
  let v20 : BitVec 32 := Scalar.remsi v2 c4_i32_5
  let v2352 : BitVec 32 := Scalar.addi v2351 v20
  let c1_i32_2537 : BitVec 32 := 1#32
  let v2357 : BitVec 32 := Scalar.muli v2352 c1_i32_2537
  let v2358 : BitVec 32 := Scalar.addi c0_i32_2538 v2357
  v2358.toNat
def k0_dev47 (d0 : Dev nD) : Nat :=
  let c0_i32_2552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_2523 : BitVec 32 := 2#32
  let v2349 : BitVec 1 := Scalar.cmpi .sle v19 c2_i32_2523
  let c3_i32_2524 : BitVec 32 := 3#32
  let c2_i32_2525 : BitVec 32 := 2#32
  let v2350 : BitVec 32 := Scalar.select v2349 c3_i32_2524 c2_i32_2525
  let c4_i32_2526 : BitVec 32 := 4#32
  let v2351 : BitVec 32 := Scalar.muli v2350 c4_i32_2526
  let c4_i32_5 : BitVec 32 := 4#32
  let v20 : BitVec 32 := Scalar.remsi v2 c4_i32_5
  let v2352 : BitVec 32 := Scalar.addi v2351 v20
  let c1_i32_2551 : BitVec 32 := 1#32
  let v2368 : BitVec 32 := Scalar.muli v2352 c1_i32_2551
  let v2369 : BitVec 32 := Scalar.addi c0_i32_2552 v2368
  v2369.toNat
def k0_dev48 (d0 : Dev nD) : Nat :=
  let c0_i32_2639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_2638 : BitVec 32 := 1#32
  let v2446 : BitVec 32 := Scalar.muli v24 c1_i32_2638
  let v2447 : BitVec 32 := Scalar.addi c0_i32_2639 v2446
  v2447.toNat
def k0_dev49 (d0 : Dev nD) : Nat :=
  let c0_i32_2726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_2725 : BitVec 32 := 1#32
  let v2523 : BitVec 32 := Scalar.muli v28 c1_i32_2725
  let v2524 : BitVec 32 := Scalar.addi c0_i32_2726 v2523
  v2524.toNat
def k0_dev50 (d0 : Dev nD) : Nat :=
  let c0_i32_2814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_2813 : BitVec 32 := 1#32
  let v2601 : BitVec 32 := Scalar.muli v24 c1_i32_2813
  let v2602 : BitVec 32 := Scalar.addi c0_i32_2814 v2601
  v2602.toNat
def k0_dev51 (d0 : Dev nD) : Nat :=
  let c0_i32_2901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_2900 : BitVec 32 := 1#32
  let v2678 : BitVec 32 := Scalar.muli v28 c1_i32_2900
  let v2679 : BitVec 32 := Scalar.addi c0_i32_2901 v2678
  v2679.toNat
def k0_dev52 (d0 : Dev nD) : Nat :=
  let c0_i32_2957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_2956 : BitVec 32 := 1#32
  let v2736 : BitVec 32 := Scalar.muli v24 c1_i32_2956
  let v2737 : BitVec 32 := Scalar.addi c0_i32_2957 v2736
  v2737.toNat
def k0_dev53 (d0 : Dev nD) : Nat :=
  let c0_i32_3013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_3012 : BitVec 32 := 1#32
  let v2793 : BitVec 32 := Scalar.muli v28 c1_i32_3012
  let v2794 : BitVec 32 := Scalar.addi c0_i32_3013 v2793
  v2794.toNat
def k0_off18 (d0 : Dev nD) : Fin 4 → Nat :=
  let c0_3115 : Index := 0#32
  let c2_3116 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_3114 : BitVec 32 := 256#32
  let v2851 : BitVec 32 := Scalar.muli v19 c256_i32_3114
  let v2852 : Index := Scalar.indexCast v2851
  let c0_3117 : Index := 0#32
  ![0, 2, v2852.toNat, 0]
def k0_off19 (d0 : Dev nD) (c0_i32_3297 : BitVec 32) (c1_i32_3298 : BitVec 32) (c0_i32_3299 : BitVec 32) : Fin 3 → Nat :=
  let c3_i32_3306 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3018 : BitVec 1 := Scalar.cmpi .sle v19 c0_i32_3297
  let v3019 : BitVec 32 := Scalar.select v3018 c1_i32_3298 c0_i32_3299
  let v3022 : BitVec 1 := Scalar.cmpi .sgt v19 v3019
  let c1_i32_3301 : BitVec 32 := 1#32
  let v3023 : BitVec 32 := Scalar.subi v19 c1_i32_3301
  let v3024 : BitVec 32 := Scalar.select v3022 v3023 v19
  let c0_i32_3307 : BitVec 32 := 0#32
  ![3, v3024.toNat, 0]
def k0_off19_at (r : Fin 3) : BitVec 32 × BitVec 32 × BitVec 32 :=
  if r.val < 1 then
    (0#32, 1#32, 0#32)
  else
    if r.val < 2 then
      (1#32, 2#32, 1#32)
    else
      (2#32, 3#32, 2#32)
def k0_off20 (d0 : Dev nD) (c0_i32_3297 : BitVec 32) (c1_i32_3298 : BitVec 32) (c0_i32_3299 : BitVec 32) : Fin 4 → Nat :=
  let c3_i32_3305 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3018 : BitVec 1 := Scalar.cmpi .sle v19 c0_i32_3297
  let v3019 : BitVec 32 := Scalar.select v3018 c1_i32_3298 c0_i32_3299
  let v3022 : BitVec 1 := Scalar.cmpi .sgt v19 v3019
  let c1_i32_3301 : BitVec 32 := 1#32
  let v3023 : BitVec 32 := Scalar.subi v19 c1_i32_3301
  let v3024 : BitVec 32 := Scalar.select v3022 v3023 v19
  let c0_i32_3313 : BitVec 32 := 0#32
  let c0_i32_3314 : BitVec 32 := 0#32
  ![3, v3024.toNat, 0, 0]
def k0_off20_at (r : Fin 3) : BitVec 32 × BitVec 32 × BitVec 32 :=
  if r.val < 1 then
    (0#32, 1#32, 0#32)
  else
    if r.val < 2 then
      (1#32, 2#32, 1#32)
    else
      (2#32, 3#32, 2#32)
def k0_off21 (d0 : Dev nD) (c0_i32_3297 : BitVec 32) (c1_i32_3298 : BitVec 32) (c0_i32_3299 : BitVec 32) : Fin 4 → Nat :=
  let c3_i32_3303 : BitVec 32 := 3#32
  let c2_i32_3304 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3018 : BitVec 1 := Scalar.cmpi .sle v19 c0_i32_3297
  let v3019 : BitVec 32 := Scalar.select v3018 c1_i32_3298 c0_i32_3299
  let c256_i32_3302 : BitVec 32 := 256#32
  let v3025 : BitVec 32 := Scalar.muli v3019 c256_i32_3302
  let c0_i32_3315 : BitVec 32 := 0#32
  ![3, 2, v3025.toNat, 0]
def k0_off21_at (r : Fin 3) : BitVec 32 × BitVec 32 × BitVec 32 :=
  if r.val < 1 then
    (0#32, 1#32, 0#32)
  else
    if r.val < 2 then
      (1#32, 2#32, 1#32)
    else
      (2#32, 3#32, 2#32)
def k0_dev54 (d0 : Dev nD) : Nat :=
  let c0_i32_3312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3297 : BitVec 32 := 0#32
  let v3018 : BitVec 1 := Scalar.cmpi .sle v19 c0_i32_3297
  let c1_i32_3298 : BitVec 32 := 1#32
  let c0_i32_3299 : BitVec 32 := 0#32
  let v3019 : BitVec 32 := Scalar.select v3018 c1_i32_3298 c0_i32_3299
  let c4_i32_3300 : BitVec 32 := 4#32
  let v3020 : BitVec 32 := Scalar.muli v3019 c4_i32_3300
  let c4_i32_5 : BitVec 32 := 4#32
  let v20 : BitVec 32 := Scalar.remsi v2 c4_i32_5
  let v3021 : BitVec 32 := Scalar.addi v3020 v20
  let c1_i32_3311 : BitVec 32 := 1#32
  let v3026 : BitVec 32 := Scalar.muli v3021 c1_i32_3311
  let v3027 : BitVec 32 := Scalar.addi c0_i32_3312 v3026
  v3027.toNat
def k0_off22 (d0 : Dev nD) (c0_i32_3297 : BitVec 32) (c1_i32_3298 : BitVec 32) (c0_i32_3299 : BitVec 32) : Fin 3 → Nat :=
  let c3_i32_3320 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3018 : BitVec 1 := Scalar.cmpi .sle v19 c0_i32_3297
  let v3019 : BitVec 32 := Scalar.select v3018 c1_i32_3298 c0_i32_3299
  let v3022 : BitVec 1 := Scalar.cmpi .sgt v19 v3019
  let c1_i32_3301 : BitVec 32 := 1#32
  let v3023 : BitVec 32 := Scalar.subi v19 c1_i32_3301
  let v3024 : BitVec 32 := Scalar.select v3022 v3023 v19
  let c1_i32_3321 : BitVec 32 := 1#32
  ![3, v3024.toNat, 1]
def k0_off22_at (r : Fin 3) : BitVec 32 × BitVec 32 × BitVec 32 :=
  if r.val < 1 then
    (0#32, 1#32, 0#32)
  else
    if r.val < 2 then
      (1#32, 2#32, 1#32)
    else
      (2#32, 3#32, 2#32)
def k0_off23 (d0 : Dev nD) (c0_i32_3297 : BitVec 32) (c1_i32_3298 : BitVec 32) (c0_i32_3299 : BitVec 32) : Fin 4 → Nat :=
  let c3_i32_3319 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3018 : BitVec 1 := Scalar.cmpi .sle v19 c0_i32_3297
  let v3019 : BitVec 32 := Scalar.select v3018 c1_i32_3298 c0_i32_3299
  let v3022 : BitVec 1 := Scalar.cmpi .sgt v19 v3019
  let c1_i32_3301 : BitVec 32 := 1#32
  let v3023 : BitVec 32 := Scalar.subi v19 c1_i32_3301
  let v3024 : BitVec 32 := Scalar.select v3022 v3023 v19
  let c0_i32_3327 : BitVec 32 := 0#32
  let c128_i32_3328 : BitVec 32 := 128#32
  ![3, v3024.toNat, 0, 128]
def k0_off23_at (r : Fin 3) : BitVec 32 × BitVec 32 × BitVec 32 :=
  if r.val < 1 then
    (0#32, 1#32, 0#32)
  else
    if r.val < 2 then
      (1#32, 2#32, 1#32)
    else
      (2#32, 3#32, 2#32)
def k0_dev55 (d0 : Dev nD) : Nat :=
  let c0_i32_3326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3297 : BitVec 32 := 0#32
  let v3018 : BitVec 1 := Scalar.cmpi .sle v19 c0_i32_3297
  let c1_i32_3298 : BitVec 32 := 1#32
  let c0_i32_3299 : BitVec 32 := 0#32
  let v3019 : BitVec 32 := Scalar.select v3018 c1_i32_3298 c0_i32_3299
  let c4_i32_3300 : BitVec 32 := 4#32
  let v3020 : BitVec 32 := Scalar.muli v3019 c4_i32_3300
  let c4_i32_5 : BitVec 32 := 4#32
  let v20 : BitVec 32 := Scalar.remsi v2 c4_i32_5
  let v3021 : BitVec 32 := Scalar.addi v3020 v20
  let c1_i32_3325 : BitVec 32 := 1#32
  let v3037 : BitVec 32 := Scalar.muli v3021 c1_i32_3325
  let v3038 : BitVec 32 := Scalar.addi c0_i32_3326 v3037
  v3038.toNat
def k0_dev56 (d0 : Dev nD) : Nat :=
  let c0_i32_3345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_3330 : BitVec 32 := 1#32
  let v3047 : BitVec 1 := Scalar.cmpi .sle v19 c1_i32_3330
  let c2_i32_3331 : BitVec 32 := 2#32
  let c1_i32_3332 : BitVec 32 := 1#32
  let v3048 : BitVec 32 := Scalar.select v3047 c2_i32_3331 c1_i32_3332
  let c4_i32_3333 : BitVec 32 := 4#32
  let v3049 : BitVec 32 := Scalar.muli v3048 c4_i32_3333
  let c4_i32_5 : BitVec 32 := 4#32
  let v20 : BitVec 32 := Scalar.remsi v2 c4_i32_5
  let v3050 : BitVec 32 := Scalar.addi v3049 v20
  let c1_i32_3344 : BitVec 32 := 1#32
  let v3055 : BitVec 32 := Scalar.muli v3050 c1_i32_3344
  let v3056 : BitVec 32 := Scalar.addi c0_i32_3345 v3055
  v3056.toNat
def k0_dev57 (d0 : Dev nD) : Nat :=
  let c0_i32_3359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_3330 : BitVec 32 := 1#32
  let v3047 : BitVec 1 := Scalar.cmpi .sle v19 c1_i32_3330
  let c2_i32_3331 : BitVec 32 := 2#32
  let c1_i32_3332 : BitVec 32 := 1#32
  let v3048 : BitVec 32 := Scalar.select v3047 c2_i32_3331 c1_i32_3332
  let c4_i32_3333 : BitVec 32 := 4#32
  let v3049 : BitVec 32 := Scalar.muli v3048 c4_i32_3333
  let c4_i32_5 : BitVec 32 := 4#32
  let v20 : BitVec 32 := Scalar.remsi v2 c4_i32_5
  let v3050 : BitVec 32 := Scalar.addi v3049 v20
  let c1_i32_3358 : BitVec 32 := 1#32
  let v3066 : BitVec 32 := Scalar.muli v3050 c1_i32_3358
  let v3067 : BitVec 32 := Scalar.addi c0_i32_3359 v3066
  v3067.toNat
def k0_dev58 (d0 : Dev nD) : Nat :=
  let c0_i32_3378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_3363 : BitVec 32 := 2#32
  let v3076 : BitVec 1 := Scalar.cmpi .sle v19 c2_i32_3363
  let c3_i32_3364 : BitVec 32 := 3#32
  let c2_i32_3365 : BitVec 32 := 2#32
  let v3077 : BitVec 32 := Scalar.select v3076 c3_i32_3364 c2_i32_3365
  let c4_i32_3366 : BitVec 32 := 4#32
  let v3078 : BitVec 32 := Scalar.muli v3077 c4_i32_3366
  let c4_i32_5 : BitVec 32 := 4#32
  let v20 : BitVec 32 := Scalar.remsi v2 c4_i32_5
  let v3079 : BitVec 32 := Scalar.addi v3078 v20
  let c1_i32_3377 : BitVec 32 := 1#32
  let v3084 : BitVec 32 := Scalar.muli v3079 c1_i32_3377
  let v3085 : BitVec 32 := Scalar.addi c0_i32_3378 v3084
  v3085.toNat
def k0_dev59 (d0 : Dev nD) : Nat :=
  let c0_i32_3392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_3363 : BitVec 32 := 2#32
  let v3076 : BitVec 1 := Scalar.cmpi .sle v19 c2_i32_3363
  let c3_i32_3364 : BitVec 32 := 3#32
  let c2_i32_3365 : BitVec 32 := 2#32
  let v3077 : BitVec 32 := Scalar.select v3076 c3_i32_3364 c2_i32_3365
  let c4_i32_3366 : BitVec 32 := 4#32
  let v3078 : BitVec 32 := Scalar.muli v3077 c4_i32_3366
  let c4_i32_5 : BitVec 32 := 4#32
  let v20 : BitVec 32 := Scalar.remsi v2 c4_i32_5
  let v3079 : BitVec 32 := Scalar.addi v3078 v20
  let c1_i32_3391 : BitVec 32 := 1#32
  let v3095 : BitVec 32 := Scalar.muli v3079 c1_i32_3391
  let v3096 : BitVec 32 := Scalar.addi c0_i32_3392 v3095
  v3096.toNat
def k0_dev60 (d0 : Dev nD) : Nat :=
  let c0_i32_3479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3478 : BitVec 32 := 1#32
  let v3173 : BitVec 32 := Scalar.muli v24 c1_i32_3478
  let v3174 : BitVec 32 := Scalar.addi c0_i32_3479 v3173
  v3174.toNat
def k0_dev61 (d0 : Dev nD) : Nat :=
  let c0_i32_3566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_3565 : BitVec 32 := 1#32
  let v3250 : BitVec 32 := Scalar.muli v28 c1_i32_3565
  let v3251 : BitVec 32 := Scalar.addi c0_i32_3566 v3250
  v3251.toNat
def k0_dev62 (d0 : Dev nD) : Nat :=
  let c0_i32_3654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3653 : BitVec 32 := 1#32
  let v3328 : BitVec 32 := Scalar.muli v24 c1_i32_3653
  let v3329 : BitVec 32 := Scalar.addi c0_i32_3654 v3328
  v3329.toNat
def k0_dev63 (d0 : Dev nD) : Nat :=
  let c0_i32_3741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_3740 : BitVec 32 := 1#32
  let v3405 : BitVec 32 := Scalar.muli v28 c1_i32_3740
  let v3406 : BitVec 32 := Scalar.addi c0_i32_3741 v3405
  v3406.toNat
def k0_dev64 (d0 : Dev nD) : Nat :=
  let c0_i32_3796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3795 : BitVec 32 := 1#32
  let v3463 : BitVec 32 := Scalar.muli v24 c1_i32_3795
  let v3464 : BitVec 32 := Scalar.addi c0_i32_3796 v3463
  v3464.toNat
def k0_dev65 (d0 : Dev nD) : Nat :=
  let c0_i32_3852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_3851 : BitVec 32 := 1#32
  let v3520 : BitVec 32 := Scalar.muli v28 c1_i32_3851
  let v3521 : BitVec 32 := Scalar.addi c0_i32_3852 v3520
  v3521.toNat
def k0_off24 (d0 : Dev nD) : Fin 4 → Nat :=
  let c1_3954 : Index := 1#32
  let c2_3955 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_3953 : BitVec 32 := 256#32
  let v3578 : BitVec 32 := Scalar.muli v19 c256_i32_3953
  let v3579 : Index := Scalar.indexCast v3578
  let c0_3956 : Index := 0#32
  ![1, 2, v3579.toNat, 0]
def k0_off25 (d0 : Dev nD) (c0_i32_4136 : BitVec 32) (c1_i32_4137 : BitVec 32) (c0_i32_4138 : BitVec 32) : Fin 3 → Nat :=
  let c4_i32_4145 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3745 : BitVec 1 := Scalar.cmpi .sle v19 c0_i32_4136
  let v3746 : BitVec 32 := Scalar.select v3745 c1_i32_4137 c0_i32_4138
  let v3749 : BitVec 1 := Scalar.cmpi .sgt v19 v3746
  let c1_i32_4140 : BitVec 32 := 1#32
  let v3750 : BitVec 32 := Scalar.subi v19 c1_i32_4140
  let v3751 : BitVec 32 := Scalar.select v3749 v3750 v19
  let c0_i32_4146 : BitVec 32 := 0#32
  ![4, v3751.toNat, 0]
def k0_off25_at (r : Fin 3) : BitVec 32 × BitVec 32 × BitVec 32 :=
  if r.val < 1 then
    (0#32, 1#32, 0#32)
  else
    if r.val < 2 then
      (1#32, 2#32, 1#32)
    else
      (2#32, 3#32, 2#32)
def k0_off26 (d0 : Dev nD) (c0_i32_4136 : BitVec 32) (c1_i32_4137 : BitVec 32) (c0_i32_4138 : BitVec 32) : Fin 4 → Nat :=
  let c4_i32_4144 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3745 : BitVec 1 := Scalar.cmpi .sle v19 c0_i32_4136
  let v3746 : BitVec 32 := Scalar.select v3745 c1_i32_4137 c0_i32_4138
  let v3749 : BitVec 1 := Scalar.cmpi .sgt v19 v3746
  let c1_i32_4140 : BitVec 32 := 1#32
  let v3750 : BitVec 32 := Scalar.subi v19 c1_i32_4140
  let v3751 : BitVec 32 := Scalar.select v3749 v3750 v19
  let c0_i32_4152 : BitVec 32 := 0#32
  let c0_i32_4153 : BitVec 32 := 0#32
  ![4, v3751.toNat, 0, 0]
def k0_off26_at (r : Fin 3) : BitVec 32 × BitVec 32 × BitVec 32 :=
  if r.val < 1 then
    (0#32, 1#32, 0#32)
  else
    if r.val < 2 then
      (1#32, 2#32, 1#32)
    else
      (2#32, 3#32, 2#32)
def k0_off27 (d0 : Dev nD) (c0_i32_4136 : BitVec 32) (c1_i32_4137 : BitVec 32) (c0_i32_4138 : BitVec 32) : Fin 4 → Nat :=
  let c4_i32_4142 : BitVec 32 := 4#32
  let c2_i32_4143 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3745 : BitVec 1 := Scalar.cmpi .sle v19 c0_i32_4136
  let v3746 : BitVec 32 := Scalar.select v3745 c1_i32_4137 c0_i32_4138
  let c256_i32_4141 : BitVec 32 := 256#32
  let v3752 : BitVec 32 := Scalar.muli v3746 c256_i32_4141
  let c0_i32_4154 : BitVec 32 := 0#32
  ![4, 2, v3752.toNat, 0]
def k0_off27_at (r : Fin 3) : BitVec 32 × BitVec 32 × BitVec 32 :=
  if r.val < 1 then
    (0#32, 1#32, 0#32)
  else
    if r.val < 2 then
      (1#32, 2#32, 1#32)
    else
      (2#32, 3#32, 2#32)
def k0_dev66 (d0 : Dev nD) : Nat :=
  let c0_i32_4151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4136 : BitVec 32 := 0#32
  let v3745 : BitVec 1 := Scalar.cmpi .sle v19 c0_i32_4136
  let c1_i32_4137 : BitVec 32 := 1#32
  let c0_i32_4138 : BitVec 32 := 0#32
  let v3746 : BitVec 32 := Scalar.select v3745 c1_i32_4137 c0_i32_4138
  let c4_i32_4139 : BitVec 32 := 4#32
  let v3747 : BitVec 32 := Scalar.muli v3746 c4_i32_4139
  let c4_i32_5 : BitVec 32 := 4#32
  let v20 : BitVec 32 := Scalar.remsi v2 c4_i32_5
  let v3748 : BitVec 32 := Scalar.addi v3747 v20
  let c1_i32_4150 : BitVec 32 := 1#32
  let v3753 : BitVec 32 := Scalar.muli v3748 c1_i32_4150
  let v3754 : BitVec 32 := Scalar.addi c0_i32_4151 v3753
  v3754.toNat
def k0_off28 (d0 : Dev nD) (c0_i32_4136 : BitVec 32) (c1_i32_4137 : BitVec 32) (c0_i32_4138 : BitVec 32) : Fin 3 → Nat :=
  let c4_i32_4159 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3745 : BitVec 1 := Scalar.cmpi .sle v19 c0_i32_4136
  let v3746 : BitVec 32 := Scalar.select v3745 c1_i32_4137 c0_i32_4138
  let v3749 : BitVec 1 := Scalar.cmpi .sgt v19 v3746
  let c1_i32_4140 : BitVec 32 := 1#32
  let v3750 : BitVec 32 := Scalar.subi v19 c1_i32_4140
  let v3751 : BitVec 32 := Scalar.select v3749 v3750 v19
  let c1_i32_4160 : BitVec 32 := 1#32
  ![4, v3751.toNat, 1]
def k0_off28_at (r : Fin 3) : BitVec 32 × BitVec 32 × BitVec 32 :=
  if r.val < 1 then
    (0#32, 1#32, 0#32)
  else
    if r.val < 2 then
      (1#32, 2#32, 1#32)
    else
      (2#32, 3#32, 2#32)
def k0_off29 (d0 : Dev nD) (c0_i32_4136 : BitVec 32) (c1_i32_4137 : BitVec 32) (c0_i32_4138 : BitVec 32) : Fin 4 → Nat :=
  let c4_i32_4158 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3745 : BitVec 1 := Scalar.cmpi .sle v19 c0_i32_4136
  let v3746 : BitVec 32 := Scalar.select v3745 c1_i32_4137 c0_i32_4138
  let v3749 : BitVec 1 := Scalar.cmpi .sgt v19 v3746
  let c1_i32_4140 : BitVec 32 := 1#32
  let v3750 : BitVec 32 := Scalar.subi v19 c1_i32_4140
  let v3751 : BitVec 32 := Scalar.select v3749 v3750 v19
  let c0_i32_4166 : BitVec 32 := 0#32
  let c128_i32_4167 : BitVec 32 := 128#32
  ![4, v3751.toNat, 0, 128]
def k0_off29_at (r : Fin 3) : BitVec 32 × BitVec 32 × BitVec 32 :=
  if r.val < 1 then
    (0#32, 1#32, 0#32)
  else
    if r.val < 2 then
      (1#32, 2#32, 1#32)
    else
      (2#32, 3#32, 2#32)
def k0_dev67 (d0 : Dev nD) : Nat :=
  let c0_i32_4165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4136 : BitVec 32 := 0#32
  let v3745 : BitVec 1 := Scalar.cmpi .sle v19 c0_i32_4136
  let c1_i32_4137 : BitVec 32 := 1#32
  let c0_i32_4138 : BitVec 32 := 0#32
  let v3746 : BitVec 32 := Scalar.select v3745 c1_i32_4137 c0_i32_4138
  let c4_i32_4139 : BitVec 32 := 4#32
  let v3747 : BitVec 32 := Scalar.muli v3746 c4_i32_4139
  let c4_i32_5 : BitVec 32 := 4#32
  let v20 : BitVec 32 := Scalar.remsi v2 c4_i32_5
  let v3748 : BitVec 32 := Scalar.addi v3747 v20
  let c1_i32_4164 : BitVec 32 := 1#32
  let v3764 : BitVec 32 := Scalar.muli v3748 c1_i32_4164
  let v3765 : BitVec 32 := Scalar.addi c0_i32_4165 v3764
  v3765.toNat
def k0_dev68 (d0 : Dev nD) : Nat :=
  let c0_i32_4184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_4169 : BitVec 32 := 1#32
  let v3774 : BitVec 1 := Scalar.cmpi .sle v19 c1_i32_4169
  let c2_i32_4170 : BitVec 32 := 2#32
  let c1_i32_4171 : BitVec 32 := 1#32
  let v3775 : BitVec 32 := Scalar.select v3774 c2_i32_4170 c1_i32_4171
  let c4_i32_4172 : BitVec 32 := 4#32
  let v3776 : BitVec 32 := Scalar.muli v3775 c4_i32_4172
  let c4_i32_5 : BitVec 32 := 4#32
  let v20 : BitVec 32 := Scalar.remsi v2 c4_i32_5
  let v3777 : BitVec 32 := Scalar.addi v3776 v20
  let c1_i32_4183 : BitVec 32 := 1#32
  let v3782 : BitVec 32 := Scalar.muli v3777 c1_i32_4183
  let v3783 : BitVec 32 := Scalar.addi c0_i32_4184 v3782
  v3783.toNat
def k0_dev69 (d0 : Dev nD) : Nat :=
  let c0_i32_4198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_4169 : BitVec 32 := 1#32
  let v3774 : BitVec 1 := Scalar.cmpi .sle v19 c1_i32_4169
  let c2_i32_4170 : BitVec 32 := 2#32
  let c1_i32_4171 : BitVec 32 := 1#32
  let v3775 : BitVec 32 := Scalar.select v3774 c2_i32_4170 c1_i32_4171
  let c4_i32_4172 : BitVec 32 := 4#32
  let v3776 : BitVec 32 := Scalar.muli v3775 c4_i32_4172
  let c4_i32_5 : BitVec 32 := 4#32
  let v20 : BitVec 32 := Scalar.remsi v2 c4_i32_5
  let v3777 : BitVec 32 := Scalar.addi v3776 v20
  let c1_i32_4197 : BitVec 32 := 1#32
  let v3793 : BitVec 32 := Scalar.muli v3777 c1_i32_4197
  let v3794 : BitVec 32 := Scalar.addi c0_i32_4198 v3793
  v3794.toNat
def k0_dev70 (d0 : Dev nD) : Nat :=
  let c0_i32_4217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_4202 : BitVec 32 := 2#32
  let v3803 : BitVec 1 := Scalar.cmpi .sle v19 c2_i32_4202
  let c3_i32_4203 : BitVec 32 := 3#32
  let c2_i32_4204 : BitVec 32 := 2#32
  let v3804 : BitVec 32 := Scalar.select v3803 c3_i32_4203 c2_i32_4204
  let c4_i32_4205 : BitVec 32 := 4#32
  let v3805 : BitVec 32 := Scalar.muli v3804 c4_i32_4205
  let c4_i32_5 : BitVec 32 := 4#32
  let v20 : BitVec 32 := Scalar.remsi v2 c4_i32_5
  let v3806 : BitVec 32 := Scalar.addi v3805 v20
  let c1_i32_4216 : BitVec 32 := 1#32
  let v3811 : BitVec 32 := Scalar.muli v3806 c1_i32_4216
  let v3812 : BitVec 32 := Scalar.addi c0_i32_4217 v3811
  v3812.toNat
def k0_dev71 (d0 : Dev nD) : Nat :=
  let c0_i32_4231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_4202 : BitVec 32 := 2#32
  let v3803 : BitVec 1 := Scalar.cmpi .sle v19 c2_i32_4202
  let c3_i32_4203 : BitVec 32 := 3#32
  let c2_i32_4204 : BitVec 32 := 2#32
  let v3804 : BitVec 32 := Scalar.select v3803 c3_i32_4203 c2_i32_4204
  let c4_i32_4205 : BitVec 32 := 4#32
  let v3805 : BitVec 32 := Scalar.muli v3804 c4_i32_4205
  let c4_i32_5 : BitVec 32 := 4#32
  let v20 : BitVec 32 := Scalar.remsi v2 c4_i32_5
  let v3806 : BitVec 32 := Scalar.addi v3805 v20
  let c1_i32_4230 : BitVec 32 := 1#32
  let v3822 : BitVec 32 := Scalar.muli v3806 c1_i32_4230
  let v3823 : BitVec 32 := Scalar.addi c0_i32_4231 v3822
  v3823.toNat
def k0_dev72 (d0 : Dev nD) : Nat :=
  let c0_i32_4318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_4317 : BitVec 32 := 1#32
  let v3900 : BitVec 32 := Scalar.muli v24 c1_i32_4317
  let v3901 : BitVec 32 := Scalar.addi c0_i32_4318 v3900
  v3901.toNat
def k0_dev73 (d0 : Dev nD) : Nat :=
  let c0_i32_4405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_4404 : BitVec 32 := 1#32
  let v3977 : BitVec 32 := Scalar.muli v28 c1_i32_4404
  let v3978 : BitVec 32 := Scalar.addi c0_i32_4405 v3977
  v3978.toNat
def k0_dev74 (d0 : Dev nD) : Nat :=
  let c0_i32_4493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_4492 : BitVec 32 := 1#32
  let v4055 : BitVec 32 := Scalar.muli v24 c1_i32_4492
  let v4056 : BitVec 32 := Scalar.addi c0_i32_4493 v4055
  v4056.toNat
def k0_dev75 (d0 : Dev nD) : Nat :=
  let c0_i32_4580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_4579 : BitVec 32 := 1#32
  let v4132 : BitVec 32 := Scalar.muli v28 c1_i32_4579
  let v4133 : BitVec 32 := Scalar.addi c0_i32_4580 v4132
  v4133.toNat
def k0_dev76 (d0 : Dev nD) : Nat :=
  let c0_i32_4635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_4634 : BitVec 32 := 1#32
  let v4190 : BitVec 32 := Scalar.muli v24 c1_i32_4634
  let v4191 : BitVec 32 := Scalar.addi c0_i32_4635 v4190
  v4191.toNat
def k0_dev77 (d0 : Dev nD) : Nat :=
  let c0_i32_4691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_4690 : BitVec 32 := 1#32
  let v4247 : BitVec 32 := Scalar.muli v28 c1_i32_4690
  let v4248 : BitVec 32 := Scalar.addi c0_i32_4691 v4247
  v4248.toNat
def k0_off30 (d0 : Dev nD) : Fin 4 → Nat :=
  let c2_4793 : Index := 2#32
  let c2_4794 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_4792 : BitVec 32 := 256#32
  let v4305 : BitVec 32 := Scalar.muli v19 c256_i32_4792
  let v4306 : Index := Scalar.indexCast v4305
  let c0_4795 : Index := 0#32
  ![2, 2, v4306.toNat, 0]
def k0_off31 (d0 : Dev nD) (c0_i32_4975 : BitVec 32) (c1_i32_4976 : BitVec 32) (c0_i32_4977 : BitVec 32) : Fin 3 → Nat :=
  let c5_i32_4984 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4472 : BitVec 1 := Scalar.cmpi .sle v19 c0_i32_4975
  let v4473 : BitVec 32 := Scalar.select v4472 c1_i32_4976 c0_i32_4977
  let v4476 : BitVec 1 := Scalar.cmpi .sgt v19 v4473
  let c1_i32_4979 : BitVec 32 := 1#32
  let v4477 : BitVec 32 := Scalar.subi v19 c1_i32_4979
  let v4478 : BitVec 32 := Scalar.select v4476 v4477 v19
  let c0_i32_4985 : BitVec 32 := 0#32
  ![5, v4478.toNat, 0]
def k0_off31_at (r : Fin 3) : BitVec 32 × BitVec 32 × BitVec 32 :=
  if r.val < 1 then
    (0#32, 1#32, 0#32)
  else
    if r.val < 2 then
      (1#32, 2#32, 1#32)
    else
      (2#32, 3#32, 2#32)
def k0_off32 (d0 : Dev nD) (c0_i32_4975 : BitVec 32) (c1_i32_4976 : BitVec 32) (c0_i32_4977 : BitVec 32) : Fin 4 → Nat :=
  let c5_i32_4983 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4472 : BitVec 1 := Scalar.cmpi .sle v19 c0_i32_4975
  let v4473 : BitVec 32 := Scalar.select v4472 c1_i32_4976 c0_i32_4977
  let v4476 : BitVec 1 := Scalar.cmpi .sgt v19 v4473
  let c1_i32_4979 : BitVec 32 := 1#32
  let v4477 : BitVec 32 := Scalar.subi v19 c1_i32_4979
  let v4478 : BitVec 32 := Scalar.select v4476 v4477 v19
  let c0_i32_4991 : BitVec 32 := 0#32
  let c0_i32_4992 : BitVec 32 := 0#32
  ![5, v4478.toNat, 0, 0]
def k0_off32_at (r : Fin 3) : BitVec 32 × BitVec 32 × BitVec 32 :=
  if r.val < 1 then
    (0#32, 1#32, 0#32)
  else
    if r.val < 2 then
      (1#32, 2#32, 1#32)
    else
      (2#32, 3#32, 2#32)
def k0_off33 (d0 : Dev nD) (c0_i32_4975 : BitVec 32) (c1_i32_4976 : BitVec 32) (c0_i32_4977 : BitVec 32) : Fin 4 → Nat :=
  let c5_i32_4981 : BitVec 32 := 5#32
  let c2_i32_4982 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4472 : BitVec 1 := Scalar.cmpi .sle v19 c0_i32_4975
  let v4473 : BitVec 32 := Scalar.select v4472 c1_i32_4976 c0_i32_4977
  let c256_i32_4980 : BitVec 32 := 256#32
  let v4479 : BitVec 32 := Scalar.muli v4473 c256_i32_4980
  let c0_i32_4993 : BitVec 32 := 0#32
  ![5, 2, v4479.toNat, 0]
def k0_off33_at (r : Fin 3) : BitVec 32 × BitVec 32 × BitVec 32 :=
  if r.val < 1 then
    (0#32, 1#32, 0#32)
  else
    if r.val < 2 then
      (1#32, 2#32, 1#32)
    else
      (2#32, 3#32, 2#32)
def k0_dev78 (d0 : Dev nD) : Nat :=
  let c0_i32_4990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4975 : BitVec 32 := 0#32
  let v4472 : BitVec 1 := Scalar.cmpi .sle v19 c0_i32_4975
  let c1_i32_4976 : BitVec 32 := 1#32
  let c0_i32_4977 : BitVec 32 := 0#32
  let v4473 : BitVec 32 := Scalar.select v4472 c1_i32_4976 c0_i32_4977
  let c4_i32_4978 : BitVec 32 := 4#32
  let v4474 : BitVec 32 := Scalar.muli v4473 c4_i32_4978
  let c4_i32_5 : BitVec 32 := 4#32
  let v20 : BitVec 32 := Scalar.remsi v2 c4_i32_5
  let v4475 : BitVec 32 := Scalar.addi v4474 v20
  let c1_i32_4989 : BitVec 32 := 1#32
  let v4480 : BitVec 32 := Scalar.muli v4475 c1_i32_4989
  let v4481 : BitVec 32 := Scalar.addi c0_i32_4990 v4480
  v4481.toNat
def k0_off34 (d0 : Dev nD) (c0_i32_4975 : BitVec 32) (c1_i32_4976 : BitVec 32) (c0_i32_4977 : BitVec 32) : Fin 3 → Nat :=
  let c5_i32_4998 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4472 : BitVec 1 := Scalar.cmpi .sle v19 c0_i32_4975
  let v4473 : BitVec 32 := Scalar.select v4472 c1_i32_4976 c0_i32_4977
  let v4476 : BitVec 1 := Scalar.cmpi .sgt v19 v4473
  let c1_i32_4979 : BitVec 32 := 1#32
  let v4477 : BitVec 32 := Scalar.subi v19 c1_i32_4979
  let v4478 : BitVec 32 := Scalar.select v4476 v4477 v19
  let c1_i32_4999 : BitVec 32 := 1#32
  ![5, v4478.toNat, 1]
def k0_off34_at (r : Fin 3) : BitVec 32 × BitVec 32 × BitVec 32 :=
  if r.val < 1 then
    (0#32, 1#32, 0#32)
  else
    if r.val < 2 then
      (1#32, 2#32, 1#32)
    else
      (2#32, 3#32, 2#32)
def k0_off35 (d0 : Dev nD) (c0_i32_4975 : BitVec 32) (c1_i32_4976 : BitVec 32) (c0_i32_4977 : BitVec 32) : Fin 4 → Nat :=
  let c5_i32_4997 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v4472 : BitVec 1 := Scalar.cmpi .sle v19 c0_i32_4975
  let v4473 : BitVec 32 := Scalar.select v4472 c1_i32_4976 c0_i32_4977
  let v4476 : BitVec 1 := Scalar.cmpi .sgt v19 v4473
  let c1_i32_4979 : BitVec 32 := 1#32
  let v4477 : BitVec 32 := Scalar.subi v19 c1_i32_4979
  let v4478 : BitVec 32 := Scalar.select v4476 v4477 v19
  let c0_i32_5005 : BitVec 32 := 0#32
  let c128_i32_5006 : BitVec 32 := 128#32
  ![5, v4478.toNat, 0, 128]
def k0_off35_at (r : Fin 3) : BitVec 32 × BitVec 32 × BitVec 32 :=
  if r.val < 1 then
    (0#32, 1#32, 0#32)
  else
    if r.val < 2 then
      (1#32, 2#32, 1#32)
    else
      (2#32, 3#32, 2#32)
def k0_dev79 (d0 : Dev nD) : Nat :=
  let c0_i32_5004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4975 : BitVec 32 := 0#32
  let v4472 : BitVec 1 := Scalar.cmpi .sle v19 c0_i32_4975
  let c1_i32_4976 : BitVec 32 := 1#32
  let c0_i32_4977 : BitVec 32 := 0#32
  let v4473 : BitVec 32 := Scalar.select v4472 c1_i32_4976 c0_i32_4977
  let c4_i32_4978 : BitVec 32 := 4#32
  let v4474 : BitVec 32 := Scalar.muli v4473 c4_i32_4978
  let c4_i32_5 : BitVec 32 := 4#32
  let v20 : BitVec 32 := Scalar.remsi v2 c4_i32_5
  let v4475 : BitVec 32 := Scalar.addi v4474 v20
  let c1_i32_5003 : BitVec 32 := 1#32
  let v4491 : BitVec 32 := Scalar.muli v4475 c1_i32_5003
  let v4492 : BitVec 32 := Scalar.addi c0_i32_5004 v4491
  v4492.toNat
def k0_dev80 (d0 : Dev nD) : Nat :=
  let c0_i32_5023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_5008 : BitVec 32 := 1#32
  let v4501 : BitVec 1 := Scalar.cmpi .sle v19 c1_i32_5008
  let c2_i32_5009 : BitVec 32 := 2#32
  let c1_i32_5010 : BitVec 32 := 1#32
  let v4502 : BitVec 32 := Scalar.select v4501 c2_i32_5009 c1_i32_5010
  let c4_i32_5011 : BitVec 32 := 4#32
  let v4503 : BitVec 32 := Scalar.muli v4502 c4_i32_5011
  let c4_i32_5 : BitVec 32 := 4#32
  let v20 : BitVec 32 := Scalar.remsi v2 c4_i32_5
  let v4504 : BitVec 32 := Scalar.addi v4503 v20
  let c1_i32_5022 : BitVec 32 := 1#32
  let v4509 : BitVec 32 := Scalar.muli v4504 c1_i32_5022
  let v4510 : BitVec 32 := Scalar.addi c0_i32_5023 v4509
  v4510.toNat
def k0_dev81 (d0 : Dev nD) : Nat :=
  let c0_i32_5037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_5008 : BitVec 32 := 1#32
  let v4501 : BitVec 1 := Scalar.cmpi .sle v19 c1_i32_5008
  let c2_i32_5009 : BitVec 32 := 2#32
  let c1_i32_5010 : BitVec 32 := 1#32
  let v4502 : BitVec 32 := Scalar.select v4501 c2_i32_5009 c1_i32_5010
  let c4_i32_5011 : BitVec 32 := 4#32
  let v4503 : BitVec 32 := Scalar.muli v4502 c4_i32_5011
  let c4_i32_5 : BitVec 32 := 4#32
  let v20 : BitVec 32 := Scalar.remsi v2 c4_i32_5
  let v4504 : BitVec 32 := Scalar.addi v4503 v20
  let c1_i32_5036 : BitVec 32 := 1#32
  let v4520 : BitVec 32 := Scalar.muli v4504 c1_i32_5036
  let v4521 : BitVec 32 := Scalar.addi c0_i32_5037 v4520
  v4521.toNat
def k0_dev82 (d0 : Dev nD) : Nat :=
  let c0_i32_5056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_5041 : BitVec 32 := 2#32
  let v4530 : BitVec 1 := Scalar.cmpi .sle v19 c2_i32_5041
  let c3_i32_5042 : BitVec 32 := 3#32
  let c2_i32_5043 : BitVec 32 := 2#32
  let v4531 : BitVec 32 := Scalar.select v4530 c3_i32_5042 c2_i32_5043
  let c4_i32_5044 : BitVec 32 := 4#32
  let v4532 : BitVec 32 := Scalar.muli v4531 c4_i32_5044
  let c4_i32_5 : BitVec 32 := 4#32
  let v20 : BitVec 32 := Scalar.remsi v2 c4_i32_5
  let v4533 : BitVec 32 := Scalar.addi v4532 v20
  let c1_i32_5055 : BitVec 32 := 1#32
  let v4538 : BitVec 32 := Scalar.muli v4533 c1_i32_5055
  let v4539 : BitVec 32 := Scalar.addi c0_i32_5056 v4538
  v4539.toNat
def k0_dev83 (d0 : Dev nD) : Nat :=
  let c0_i32_5070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_5041 : BitVec 32 := 2#32
  let v4530 : BitVec 1 := Scalar.cmpi .sle v19 c2_i32_5041
  let c3_i32_5042 : BitVec 32 := 3#32
  let c2_i32_5043 : BitVec 32 := 2#32
  let v4531 : BitVec 32 := Scalar.select v4530 c3_i32_5042 c2_i32_5043
  let c4_i32_5044 : BitVec 32 := 4#32
  let v4532 : BitVec 32 := Scalar.muli v4531 c4_i32_5044
  let c4_i32_5 : BitVec 32 := 4#32
  let v20 : BitVec 32 := Scalar.remsi v2 c4_i32_5
  let v4533 : BitVec 32 := Scalar.addi v4532 v20
  let c1_i32_5069 : BitVec 32 := 1#32
  let v4549 : BitVec 32 := Scalar.muli v4533 c1_i32_5069
  let v4550 : BitVec 32 := Scalar.addi c0_i32_5070 v4549
  v4550.toNat
def k0_dev84 (d0 : Dev nD) : Nat :=
  let c0_i32_5157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_5156 : BitVec 32 := 1#32
  let v4627 : BitVec 32 := Scalar.muli v24 c1_i32_5156
  let v4628 : BitVec 32 := Scalar.addi c0_i32_5157 v4627
  v4628.toNat
def k0_dev85 (d0 : Dev nD) : Nat :=
  let c0_i32_5244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_5243 : BitVec 32 := 1#32
  let v4704 : BitVec 32 := Scalar.muli v28 c1_i32_5243
  let v4705 : BitVec 32 := Scalar.addi c0_i32_5244 v4704
  v4705.toNat
def k0_dev86 (d0 : Dev nD) : Nat :=
  let c0_i32_5332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_5331 : BitVec 32 := 1#32
  let v4782 : BitVec 32 := Scalar.muli v24 c1_i32_5331
  let v4783 : BitVec 32 := Scalar.addi c0_i32_5332 v4782
  v4783.toNat
def k0_dev87 (d0 : Dev nD) : Nat :=
  let c0_i32_5419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_5418 : BitVec 32 := 1#32
  let v4859 : BitVec 32 := Scalar.muli v28 c1_i32_5418
  let v4860 : BitVec 32 := Scalar.addi c0_i32_5419 v4859
  v4860.toNat
def k0_off36 (d0 : Dev nD) : Fin 4 → Nat :=
  let c3_5521 : Index := 3#32
  let c2_5522 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_5520 : BitVec 32 := 256#32
  let v4917 : BitVec 32 := Scalar.muli v19 c256_i32_5520
  let v4918 : Index := Scalar.indexCast v4917
  let c0_5523 : Index := 0#32
  ![3, 2, v4918.toNat, 0]
def k0_off37 (d0 : Dev nD) (c0_i32_5703 : BitVec 32) (c1_i32_5704 : BitVec 32) (c0_i32_5705 : BitVec 32) : Fin 3 → Nat :=
  let c6_i32_5712 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5084 : BitVec 1 := Scalar.cmpi .sle v19 c0_i32_5703
  let v5085 : BitVec 32 := Scalar.select v5084 c1_i32_5704 c0_i32_5705
  let v5088 : BitVec 1 := Scalar.cmpi .sgt v19 v5085
  let c1_i32_5707 : BitVec 32 := 1#32
  let v5089 : BitVec 32 := Scalar.subi v19 c1_i32_5707
  let v5090 : BitVec 32 := Scalar.select v5088 v5089 v19
  let c0_i32_5713 : BitVec 32 := 0#32
  ![6, v5090.toNat, 0]
def k0_off37_at (r : Fin 3) : BitVec 32 × BitVec 32 × BitVec 32 :=
  if r.val < 1 then
    (0#32, 1#32, 0#32)
  else
    if r.val < 2 then
      (1#32, 2#32, 1#32)
    else
      (2#32, 3#32, 2#32)
def k0_off38 (d0 : Dev nD) (c0_i32_5703 : BitVec 32) (c1_i32_5704 : BitVec 32) (c0_i32_5705 : BitVec 32) : Fin 4 → Nat :=
  let c6_i32_5711 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5084 : BitVec 1 := Scalar.cmpi .sle v19 c0_i32_5703
  let v5085 : BitVec 32 := Scalar.select v5084 c1_i32_5704 c0_i32_5705
  let v5088 : BitVec 1 := Scalar.cmpi .sgt v19 v5085
  let c1_i32_5707 : BitVec 32 := 1#32
  let v5089 : BitVec 32 := Scalar.subi v19 c1_i32_5707
  let v5090 : BitVec 32 := Scalar.select v5088 v5089 v19
  let c0_i32_5719 : BitVec 32 := 0#32
  let c0_i32_5720 : BitVec 32 := 0#32
  ![6, v5090.toNat, 0, 0]
def k0_off38_at (r : Fin 3) : BitVec 32 × BitVec 32 × BitVec 32 :=
  if r.val < 1 then
    (0#32, 1#32, 0#32)
  else
    if r.val < 2 then
      (1#32, 2#32, 1#32)
    else
      (2#32, 3#32, 2#32)
def k0_off39 (d0 : Dev nD) (c0_i32_5703 : BitVec 32) (c1_i32_5704 : BitVec 32) (c0_i32_5705 : BitVec 32) : Fin 4 → Nat :=
  let c6_i32_5709 : BitVec 32 := 6#32
  let c2_i32_5710 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5084 : BitVec 1 := Scalar.cmpi .sle v19 c0_i32_5703
  let v5085 : BitVec 32 := Scalar.select v5084 c1_i32_5704 c0_i32_5705
  let c256_i32_5708 : BitVec 32 := 256#32
  let v5091 : BitVec 32 := Scalar.muli v5085 c256_i32_5708
  let c0_i32_5721 : BitVec 32 := 0#32
  ![6, 2, v5091.toNat, 0]
def k0_off39_at (r : Fin 3) : BitVec 32 × BitVec 32 × BitVec 32 :=
  if r.val < 1 then
    (0#32, 1#32, 0#32)
  else
    if r.val < 2 then
      (1#32, 2#32, 1#32)
    else
      (2#32, 3#32, 2#32)
def k0_dev88 (d0 : Dev nD) : Nat :=
  let c0_i32_5718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5703 : BitVec 32 := 0#32
  let v5084 : BitVec 1 := Scalar.cmpi .sle v19 c0_i32_5703
  let c1_i32_5704 : BitVec 32 := 1#32
  let c0_i32_5705 : BitVec 32 := 0#32
  let v5085 : BitVec 32 := Scalar.select v5084 c1_i32_5704 c0_i32_5705
  let c4_i32_5706 : BitVec 32 := 4#32
  let v5086 : BitVec 32 := Scalar.muli v5085 c4_i32_5706
  let c4_i32_5 : BitVec 32 := 4#32
  let v20 : BitVec 32 := Scalar.remsi v2 c4_i32_5
  let v5087 : BitVec 32 := Scalar.addi v5086 v20
  let c1_i32_5717 : BitVec 32 := 1#32
  let v5092 : BitVec 32 := Scalar.muli v5087 c1_i32_5717
  let v5093 : BitVec 32 := Scalar.addi c0_i32_5718 v5092
  v5093.toNat
def k0_off40 (d0 : Dev nD) (c0_i32_5703 : BitVec 32) (c1_i32_5704 : BitVec 32) (c0_i32_5705 : BitVec 32) : Fin 3 → Nat :=
  let c6_i32_5726 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5084 : BitVec 1 := Scalar.cmpi .sle v19 c0_i32_5703
  let v5085 : BitVec 32 := Scalar.select v5084 c1_i32_5704 c0_i32_5705
  let v5088 : BitVec 1 := Scalar.cmpi .sgt v19 v5085
  let c1_i32_5707 : BitVec 32 := 1#32
  let v5089 : BitVec 32 := Scalar.subi v19 c1_i32_5707
  let v5090 : BitVec 32 := Scalar.select v5088 v5089 v19
  let c1_i32_5727 : BitVec 32 := 1#32
  ![6, v5090.toNat, 1]
def k0_off40_at (r : Fin 3) : BitVec 32 × BitVec 32 × BitVec 32 :=
  if r.val < 1 then
    (0#32, 1#32, 0#32)
  else
    if r.val < 2 then
      (1#32, 2#32, 1#32)
    else
      (2#32, 3#32, 2#32)
def k0_off41 (d0 : Dev nD) (c0_i32_5703 : BitVec 32) (c1_i32_5704 : BitVec 32) (c0_i32_5705 : BitVec 32) : Fin 4 → Nat :=
  let c6_i32_5725 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5084 : BitVec 1 := Scalar.cmpi .sle v19 c0_i32_5703
  let v5085 : BitVec 32 := Scalar.select v5084 c1_i32_5704 c0_i32_5705
  let v5088 : BitVec 1 := Scalar.cmpi .sgt v19 v5085
  let c1_i32_5707 : BitVec 32 := 1#32
  let v5089 : BitVec 32 := Scalar.subi v19 c1_i32_5707
  let v5090 : BitVec 32 := Scalar.select v5088 v5089 v19
  let c0_i32_5733 : BitVec 32 := 0#32
  let c128_i32_5734 : BitVec 32 := 128#32
  ![6, v5090.toNat, 0, 128]
def k0_off41_at (r : Fin 3) : BitVec 32 × BitVec 32 × BitVec 32 :=
  if r.val < 1 then
    (0#32, 1#32, 0#32)
  else
    if r.val < 2 then
      (1#32, 2#32, 1#32)
    else
      (2#32, 3#32, 2#32)
def k0_dev89 (d0 : Dev nD) : Nat :=
  let c0_i32_5732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5703 : BitVec 32 := 0#32
  let v5084 : BitVec 1 := Scalar.cmpi .sle v19 c0_i32_5703
  let c1_i32_5704 : BitVec 32 := 1#32
  let c0_i32_5705 : BitVec 32 := 0#32
  let v5085 : BitVec 32 := Scalar.select v5084 c1_i32_5704 c0_i32_5705
  let c4_i32_5706 : BitVec 32 := 4#32
  let v5086 : BitVec 32 := Scalar.muli v5085 c4_i32_5706
  let c4_i32_5 : BitVec 32 := 4#32
  let v20 : BitVec 32 := Scalar.remsi v2 c4_i32_5
  let v5087 : BitVec 32 := Scalar.addi v5086 v20
  let c1_i32_5731 : BitVec 32 := 1#32
  let v5103 : BitVec 32 := Scalar.muli v5087 c1_i32_5731
  let v5104 : BitVec 32 := Scalar.addi c0_i32_5732 v5103
  v5104.toNat
def k0_dev90 (d0 : Dev nD) : Nat :=
  let c0_i32_5751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_5736 : BitVec 32 := 1#32
  let v5113 : BitVec 1 := Scalar.cmpi .sle v19 c1_i32_5736
  let c2_i32_5737 : BitVec 32 := 2#32
  let c1_i32_5738 : BitVec 32 := 1#32
  let v5114 : BitVec 32 := Scalar.select v5113 c2_i32_5737 c1_i32_5738
  let c4_i32_5739 : BitVec 32 := 4#32
  let v5115 : BitVec 32 := Scalar.muli v5114 c4_i32_5739
  let c4_i32_5 : BitVec 32 := 4#32
  let v20 : BitVec 32 := Scalar.remsi v2 c4_i32_5
  let v5116 : BitVec 32 := Scalar.addi v5115 v20
  let c1_i32_5750 : BitVec 32 := 1#32
  let v5121 : BitVec 32 := Scalar.muli v5116 c1_i32_5750
  let v5122 : BitVec 32 := Scalar.addi c0_i32_5751 v5121
  v5122.toNat
def k0_dev91 (d0 : Dev nD) : Nat :=
  let c0_i32_5765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_5736 : BitVec 32 := 1#32
  let v5113 : BitVec 1 := Scalar.cmpi .sle v19 c1_i32_5736
  let c2_i32_5737 : BitVec 32 := 2#32
  let c1_i32_5738 : BitVec 32 := 1#32
  let v5114 : BitVec 32 := Scalar.select v5113 c2_i32_5737 c1_i32_5738
  let c4_i32_5739 : BitVec 32 := 4#32
  let v5115 : BitVec 32 := Scalar.muli v5114 c4_i32_5739
  let c4_i32_5 : BitVec 32 := 4#32
  let v20 : BitVec 32 := Scalar.remsi v2 c4_i32_5
  let v5116 : BitVec 32 := Scalar.addi v5115 v20
  let c1_i32_5764 : BitVec 32 := 1#32
  let v5132 : BitVec 32 := Scalar.muli v5116 c1_i32_5764
  let v5133 : BitVec 32 := Scalar.addi c0_i32_5765 v5132
  v5133.toNat
def k0_dev92 (d0 : Dev nD) : Nat :=
  let c0_i32_5784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_5769 : BitVec 32 := 2#32
  let v5142 : BitVec 1 := Scalar.cmpi .sle v19 c2_i32_5769
  let c3_i32_5770 : BitVec 32 := 3#32
  let c2_i32_5771 : BitVec 32 := 2#32
  let v5143 : BitVec 32 := Scalar.select v5142 c3_i32_5770 c2_i32_5771
  let c4_i32_5772 : BitVec 32 := 4#32
  let v5144 : BitVec 32 := Scalar.muli v5143 c4_i32_5772
  let c4_i32_5 : BitVec 32 := 4#32
  let v20 : BitVec 32 := Scalar.remsi v2 c4_i32_5
  let v5145 : BitVec 32 := Scalar.addi v5144 v20
  let c1_i32_5783 : BitVec 32 := 1#32
  let v5150 : BitVec 32 := Scalar.muli v5145 c1_i32_5783
  let v5151 : BitVec 32 := Scalar.addi c0_i32_5784 v5150
  v5151.toNat
def k0_dev93 (d0 : Dev nD) : Nat :=
  let c0_i32_5798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_5769 : BitVec 32 := 2#32
  let v5142 : BitVec 1 := Scalar.cmpi .sle v19 c2_i32_5769
  let c3_i32_5770 : BitVec 32 := 3#32
  let c2_i32_5771 : BitVec 32 := 2#32
  let v5143 : BitVec 32 := Scalar.select v5142 c3_i32_5770 c2_i32_5771
  let c4_i32_5772 : BitVec 32 := 4#32
  let v5144 : BitVec 32 := Scalar.muli v5143 c4_i32_5772
  let c4_i32_5 : BitVec 32 := 4#32
  let v20 : BitVec 32 := Scalar.remsi v2 c4_i32_5
  let v5145 : BitVec 32 := Scalar.addi v5144 v20
  let c1_i32_5797 : BitVec 32 := 1#32
  let v5161 : BitVec 32 := Scalar.muli v5145 c1_i32_5797
  let v5162 : BitVec 32 := Scalar.addi c0_i32_5798 v5161
  v5162.toNat
def k0_dev94 (d0 : Dev nD) : Nat :=
  let c0_i32_5885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_5884 : BitVec 32 := 1#32
  let v5239 : BitVec 32 := Scalar.muli v24 c1_i32_5884
  let v5240 : BitVec 32 := Scalar.addi c0_i32_5885 v5239
  v5240.toNat
def k0_dev95 (d0 : Dev nD) : Nat :=
  let c0_i32_5972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_5971 : BitVec 32 := 1#32
  let v5316 : BitVec 32 := Scalar.muli v28 c1_i32_5971
  let v5317 : BitVec 32 := Scalar.addi c0_i32_5972 v5316
  v5317.toNat
def k0_off42 (d0 : Dev nD) : Fin 4 → Nat :=
  let c4_6074 : Index := 4#32
  let c2_6075 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_6073 : BitVec 32 := 256#32
  let v5374 : BitVec 32 := Scalar.muli v19 c256_i32_6073
  let v5375 : Index := Scalar.indexCast v5374
  let c0_6076 : Index := 0#32
  ![4, 2, v5375.toNat, 0]
def k0_off43 (d0 : Dev nD) (c0_i32_6256 : BitVec 32) (c1_i32_6257 : BitVec 32) (c0_i32_6258 : BitVec 32) : Fin 3 → Nat :=
  let c7_i32_6265 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5541 : BitVec 1 := Scalar.cmpi .sle v19 c0_i32_6256
  let v5542 : BitVec 32 := Scalar.select v5541 c1_i32_6257 c0_i32_6258
  let v5545 : BitVec 1 := Scalar.cmpi .sgt v19 v5542
  let c1_i32_6260 : BitVec 32 := 1#32
  let v5546 : BitVec 32 := Scalar.subi v19 c1_i32_6260
  let v5547 : BitVec 32 := Scalar.select v5545 v5546 v19
  let c0_i32_6266 : BitVec 32 := 0#32
  ![7, v5547.toNat, 0]
def k0_off43_at (r : Fin 3) : BitVec 32 × BitVec 32 × BitVec 32 :=
  if r.val < 1 then
    (0#32, 1#32, 0#32)
  else
    if r.val < 2 then
      (1#32, 2#32, 1#32)
    else
      (2#32, 3#32, 2#32)
def k0_off44 (d0 : Dev nD) (c0_i32_6256 : BitVec 32) (c1_i32_6257 : BitVec 32) (c0_i32_6258 : BitVec 32) : Fin 4 → Nat :=
  let c7_i32_6264 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5541 : BitVec 1 := Scalar.cmpi .sle v19 c0_i32_6256
  let v5542 : BitVec 32 := Scalar.select v5541 c1_i32_6257 c0_i32_6258
  let v5545 : BitVec 1 := Scalar.cmpi .sgt v19 v5542
  let c1_i32_6260 : BitVec 32 := 1#32
  let v5546 : BitVec 32 := Scalar.subi v19 c1_i32_6260
  let v5547 : BitVec 32 := Scalar.select v5545 v5546 v19
  let c0_i32_6272 : BitVec 32 := 0#32
  let c0_i32_6273 : BitVec 32 := 0#32
  ![7, v5547.toNat, 0, 0]
def k0_off44_at (r : Fin 3) : BitVec 32 × BitVec 32 × BitVec 32 :=
  if r.val < 1 then
    (0#32, 1#32, 0#32)
  else
    if r.val < 2 then
      (1#32, 2#32, 1#32)
    else
      (2#32, 3#32, 2#32)
def k0_off45 (d0 : Dev nD) (c0_i32_6256 : BitVec 32) (c1_i32_6257 : BitVec 32) (c0_i32_6258 : BitVec 32) : Fin 4 → Nat :=
  let c7_i32_6262 : BitVec 32 := 7#32
  let c2_i32_6263 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5541 : BitVec 1 := Scalar.cmpi .sle v19 c0_i32_6256
  let v5542 : BitVec 32 := Scalar.select v5541 c1_i32_6257 c0_i32_6258
  let c256_i32_6261 : BitVec 32 := 256#32
  let v5548 : BitVec 32 := Scalar.muli v5542 c256_i32_6261
  let c0_i32_6274 : BitVec 32 := 0#32
  ![7, 2, v5548.toNat, 0]
def k0_off45_at (r : Fin 3) : BitVec 32 × BitVec 32 × BitVec 32 :=
  if r.val < 1 then
    (0#32, 1#32, 0#32)
  else
    if r.val < 2 then
      (1#32, 2#32, 1#32)
    else
      (2#32, 3#32, 2#32)
def k0_dev96 (d0 : Dev nD) : Nat :=
  let c0_i32_6271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_6256 : BitVec 32 := 0#32
  let v5541 : BitVec 1 := Scalar.cmpi .sle v19 c0_i32_6256
  let c1_i32_6257 : BitVec 32 := 1#32
  let c0_i32_6258 : BitVec 32 := 0#32
  let v5542 : BitVec 32 := Scalar.select v5541 c1_i32_6257 c0_i32_6258
  let c4_i32_6259 : BitVec 32 := 4#32
  let v5543 : BitVec 32 := Scalar.muli v5542 c4_i32_6259
  let c4_i32_5 : BitVec 32 := 4#32
  let v20 : BitVec 32 := Scalar.remsi v2 c4_i32_5
  let v5544 : BitVec 32 := Scalar.addi v5543 v20
  let c1_i32_6270 : BitVec 32 := 1#32
  let v5549 : BitVec 32 := Scalar.muli v5544 c1_i32_6270
  let v5550 : BitVec 32 := Scalar.addi c0_i32_6271 v5549
  v5550.toNat
def k0_off46 (d0 : Dev nD) (c0_i32_6256 : BitVec 32) (c1_i32_6257 : BitVec 32) (c0_i32_6258 : BitVec 32) : Fin 3 → Nat :=
  let c7_i32_6279 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5541 : BitVec 1 := Scalar.cmpi .sle v19 c0_i32_6256
  let v5542 : BitVec 32 := Scalar.select v5541 c1_i32_6257 c0_i32_6258
  let v5545 : BitVec 1 := Scalar.cmpi .sgt v19 v5542
  let c1_i32_6260 : BitVec 32 := 1#32
  let v5546 : BitVec 32 := Scalar.subi v19 c1_i32_6260
  let v5547 : BitVec 32 := Scalar.select v5545 v5546 v19
  let c1_i32_6280 : BitVec 32 := 1#32
  ![7, v5547.toNat, 1]
def k0_off46_at (r : Fin 3) : BitVec 32 × BitVec 32 × BitVec 32 :=
  if r.val < 1 then
    (0#32, 1#32, 0#32)
  else
    if r.val < 2 then
      (1#32, 2#32, 1#32)
    else
      (2#32, 3#32, 2#32)
def k0_off47 (d0 : Dev nD) (c0_i32_6256 : BitVec 32) (c1_i32_6257 : BitVec 32) (c0_i32_6258 : BitVec 32) : Fin 4 → Nat :=
  let c7_i32_6278 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v5541 : BitVec 1 := Scalar.cmpi .sle v19 c0_i32_6256
  let v5542 : BitVec 32 := Scalar.select v5541 c1_i32_6257 c0_i32_6258
  let v5545 : BitVec 1 := Scalar.cmpi .sgt v19 v5542
  let c1_i32_6260 : BitVec 32 := 1#32
  let v5546 : BitVec 32 := Scalar.subi v19 c1_i32_6260
  let v5547 : BitVec 32 := Scalar.select v5545 v5546 v19
  let c0_i32_6286 : BitVec 32 := 0#32
  let c128_i32_6287 : BitVec 32 := 128#32
  ![7, v5547.toNat, 0, 128]
def k0_off47_at (r : Fin 3) : BitVec 32 × BitVec 32 × BitVec 32 :=
  if r.val < 1 then
    (0#32, 1#32, 0#32)
  else
    if r.val < 2 then
      (1#32, 2#32, 1#32)
    else
      (2#32, 3#32, 2#32)
def k0_dev97 (d0 : Dev nD) : Nat :=
  let c0_i32_6285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_6256 : BitVec 32 := 0#32
  let v5541 : BitVec 1 := Scalar.cmpi .sle v19 c0_i32_6256
  let c1_i32_6257 : BitVec 32 := 1#32
  let c0_i32_6258 : BitVec 32 := 0#32
  let v5542 : BitVec 32 := Scalar.select v5541 c1_i32_6257 c0_i32_6258
  let c4_i32_6259 : BitVec 32 := 4#32
  let v5543 : BitVec 32 := Scalar.muli v5542 c4_i32_6259
  let c4_i32_5 : BitVec 32 := 4#32
  let v20 : BitVec 32 := Scalar.remsi v2 c4_i32_5
  let v5544 : BitVec 32 := Scalar.addi v5543 v20
  let c1_i32_6284 : BitVec 32 := 1#32
  let v5560 : BitVec 32 := Scalar.muli v5544 c1_i32_6284
  let v5561 : BitVec 32 := Scalar.addi c0_i32_6285 v5560
  v5561.toNat
def k0_dev98 (d0 : Dev nD) : Nat :=
  let c0_i32_6304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_6289 : BitVec 32 := 1#32
  let v5570 : BitVec 1 := Scalar.cmpi .sle v19 c1_i32_6289
  let c2_i32_6290 : BitVec 32 := 2#32
  let c1_i32_6291 : BitVec 32 := 1#32
  let v5571 : BitVec 32 := Scalar.select v5570 c2_i32_6290 c1_i32_6291
  let c4_i32_6292 : BitVec 32 := 4#32
  let v5572 : BitVec 32 := Scalar.muli v5571 c4_i32_6292
  let c4_i32_5 : BitVec 32 := 4#32
  let v20 : BitVec 32 := Scalar.remsi v2 c4_i32_5
  let v5573 : BitVec 32 := Scalar.addi v5572 v20
  let c1_i32_6303 : BitVec 32 := 1#32
  let v5578 : BitVec 32 := Scalar.muli v5573 c1_i32_6303
  let v5579 : BitVec 32 := Scalar.addi c0_i32_6304 v5578
  v5579.toNat
def k0_dev99 (d0 : Dev nD) : Nat :=
  let c0_i32_6318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_6289 : BitVec 32 := 1#32
  let v5570 : BitVec 1 := Scalar.cmpi .sle v19 c1_i32_6289
  let c2_i32_6290 : BitVec 32 := 2#32
  let c1_i32_6291 : BitVec 32 := 1#32
  let v5571 : BitVec 32 := Scalar.select v5570 c2_i32_6290 c1_i32_6291
  let c4_i32_6292 : BitVec 32 := 4#32
  let v5572 : BitVec 32 := Scalar.muli v5571 c4_i32_6292
  let c4_i32_5 : BitVec 32 := 4#32
  let v20 : BitVec 32 := Scalar.remsi v2 c4_i32_5
  let v5573 : BitVec 32 := Scalar.addi v5572 v20
  let c1_i32_6317 : BitVec 32 := 1#32
  let v5589 : BitVec 32 := Scalar.muli v5573 c1_i32_6317
  let v5590 : BitVec 32 := Scalar.addi c0_i32_6318 v5589
  v5590.toNat
def k0_dev100 (d0 : Dev nD) : Nat :=
  let c0_i32_6337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_6322 : BitVec 32 := 2#32
  let v5599 : BitVec 1 := Scalar.cmpi .sle v19 c2_i32_6322
  let c3_i32_6323 : BitVec 32 := 3#32
  let c2_i32_6324 : BitVec 32 := 2#32
  let v5600 : BitVec 32 := Scalar.select v5599 c3_i32_6323 c2_i32_6324
  let c4_i32_6325 : BitVec 32 := 4#32
  let v5601 : BitVec 32 := Scalar.muli v5600 c4_i32_6325
  let c4_i32_5 : BitVec 32 := 4#32
  let v20 : BitVec 32 := Scalar.remsi v2 c4_i32_5
  let v5602 : BitVec 32 := Scalar.addi v5601 v20
  let c1_i32_6336 : BitVec 32 := 1#32
  let v5607 : BitVec 32 := Scalar.muli v5602 c1_i32_6336
  let v5608 : BitVec 32 := Scalar.addi c0_i32_6337 v5607
  v5608.toNat
def k0_dev101 (d0 : Dev nD) : Nat :=
  let c0_i32_6351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_6322 : BitVec 32 := 2#32
  let v5599 : BitVec 1 := Scalar.cmpi .sle v19 c2_i32_6322
  let c3_i32_6323 : BitVec 32 := 3#32
  let c2_i32_6324 : BitVec 32 := 2#32
  let v5600 : BitVec 32 := Scalar.select v5599 c3_i32_6323 c2_i32_6324
  let c4_i32_6325 : BitVec 32 := 4#32
  let v5601 : BitVec 32 := Scalar.muli v5600 c4_i32_6325
  let c4_i32_5 : BitVec 32 := 4#32
  let v20 : BitVec 32 := Scalar.remsi v2 c4_i32_5
  let v5602 : BitVec 32 := Scalar.addi v5601 v20
  let c1_i32_6350 : BitVec 32 := 1#32
  let v5618 : BitVec 32 := Scalar.muli v5602 c1_i32_6350
  let v5619 : BitVec 32 := Scalar.addi c0_i32_6351 v5618
  v5619.toNat
def k0_off48 (d0 : Dev nD) : Fin 4 → Nat :=
  let c5_6452 : Index := 5#32
  let c2_6453 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_6451 : BitVec 32 := 256#32
  let v5676 : BitVec 32 := Scalar.muli v19 c256_i32_6451
  let v5677 : Index := Scalar.indexCast v5676
  let c0_6454 : Index := 0#32
  ![5, 2, v5677.toNat, 0]
def k0_off49 (d0 : Dev nD) : Fin 4 → Nat :=
  let c6_6584 : Index := 6#32
  let c2_6585 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_6583 : BitVec 32 := 256#32
  let v5756 : BitVec 32 := Scalar.muli v19 c256_i32_6583
  let v5757 : Index := Scalar.indexCast v5756
  let c0_6586 : Index := 0#32
  ![6, 2, v5757.toNat, 0]
def k0_off50 (d0 : Dev nD) : Fin 4 → Nat :=
  let c7_6716 : Index := 7#32
  let c2_6717 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_6715 : BitVec 32 := 256#32
  let v5836 : BitVec 32 := Scalar.muli v19 c256_i32_6715
  let v5837 : Index := Scalar.indexCast v5836
  let c0_6718 : Index := 0#32
  ![7, 2, v5837.toNat, 0]
def k0_dev102 (d0 : Dev nD) : Nat :=
  let c0_i32_7953_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_9 : BitVec 32 := 4#32
  let v25 : BitVec 32 := Scalar.addi v20 c4_i32_9
  let c1_i32_10 : BitVec 32 := 1#32
  let v26 : BitVec 32 := Scalar.subi v25 c1_i32_10
  let c4_i32_11 : BitVec 32 := 4#32
  let v27 : BitVec 32 := Scalar.remsi v26 c4_i32_11
  let v28 : BitVec 32 := Scalar.addi v21 v27
  let c1_i32_7952_r0 : BitVec 32 := 1#32
  let v6445_r0 : BitVec 32 := Scalar.muli v28 c1_i32_7952_r0
  let v6446_r0 : BitVec 32 := Scalar.addi c0_i32_7953_r0 v6445_r0
  v6446_r0.toNat
def k0_dev103 (d0 : Dev nD) : Nat :=
  let c0_i32_7956_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_7955_r0 : BitVec 32 := 1#32
  let v6447_r0 : BitVec 32 := Scalar.muli v24 c1_i32_7955_r0
  let v6448_r0 : BitVec 32 := Scalar.addi c0_i32_7956_r0 v6447_r0
  v6448_r0.toNat
def k0_dev104 (d0 : Dev nD) : Nat :=
  let c0_i32_7959_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v29 : BitVec 1 := Scalar.cmpi .sle v19 c0_i32_12
  let c1_i32_13 : BitVec 32 := 1#32
  let c0_i32_14 : BitVec 32 := 0#32
  let v30 : BitVec 32 := Scalar.select v29 c1_i32_13 c0_i32_14
  let c4_i32_15 : BitVec 32 := 4#32
  let v31 : BitVec 32 := Scalar.muli v30 c4_i32_15
  let c4_i32_5 : BitVec 32 := 4#32
  let v20 : BitVec 32 := Scalar.remsi v2 c4_i32_5
  let v32 : BitVec 32 := Scalar.addi v31 v20
  let c1_i32_7958_r0 : BitVec 32 := 1#32
  let v6449_r0 : BitVec 32 := Scalar.muli v32 c1_i32_7958_r0
  let v6450_r0 : BitVec 32 := Scalar.addi c0_i32_7959_r0 v6449_r0
  v6450_r0.toNat
def k0_dev105 (d0 : Dev nD) : Nat :=
  let c0_i32_7962_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_16 : BitVec 32 := 1#32
  let v33 : BitVec 1 := Scalar.cmpi .sle v19 c1_i32_16
  let c2_i32 : BitVec 32 := 2#32
  let c1_i32_17 : BitVec 32 := 1#32
  let v34 : BitVec 32 := Scalar.select v33 c2_i32 c1_i32_17
  let c4_i32_18 : BitVec 32 := 4#32
  let v35 : BitVec 32 := Scalar.muli v34 c4_i32_18
  let c4_i32_5 : BitVec 32 := 4#32
  let v20 : BitVec 32 := Scalar.remsi v2 c4_i32_5
  let v36 : BitVec 32 := Scalar.addi v35 v20
  let c1_i32_7961_r0 : BitVec 32 := 1#32
  let v6451_r0 : BitVec 32 := Scalar.muli v36 c1_i32_7961_r0
  let v6452_r0 : BitVec 32 := Scalar.addi c0_i32_7962_r0 v6451_r0
  v6452_r0.toNat
def k0_dev106 (d0 : Dev nD) : Nat :=
  let c0_i32_7965_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_19 : BitVec 32 := 2#32
  let v37 : BitVec 1 := Scalar.cmpi .sle v19 c2_i32_19
  let c3_i32 : BitVec 32 := 3#32
  let c2_i32_20 : BitVec 32 := 2#32
  let v38 : BitVec 32 := Scalar.select v37 c3_i32 c2_i32_20
  let c4_i32_21 : BitVec 32 := 4#32
  let v39 : BitVec 32 := Scalar.muli v38 c4_i32_21
  let c4_i32_5 : BitVec 32 := 4#32
  let v20 : BitVec 32 := Scalar.remsi v2 c4_i32_5
  let v40 : BitVec 32 := Scalar.addi v39 v20
  let c1_i32_7964_r0 : BitVec 32 := 1#32
  let v6453_r0 : BitVec 32 := Scalar.muli v40 c1_i32_7964_r0
  let v6454_r0 : BitVec 32 := Scalar.addi c0_i32_7965_r0 v6453_r0
  v6454_r0.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.K.Struct.lean ====
/- The kernel's body as a structured program: the same memory operations, written once for every
   column chunk `j`, hop `s`, direction and partner, and the theorem that the printed body is it. -/
module

public import proofs.«01_k».proof.Proof.Gen.KernelIdeal
public import Idealize.ShloMosaic.Lib.Pipeline.Regions

@[expose] public section

set_option synthInstance.maxSize 4096

noncomputable section

namespace Cert.KernelIdeal.K

open Idealize.ShloMosaic Idealize.SL.Sem Cert.KernelIdeal.Gen

variable {F : FTy → Type} [FloatOps F]

/-! ## Offsets and devices, as functions of the indices -/

/-- The right neighbour in the plane. -/
def qR (d : Dev nD) : Dev nD := ⟨k0_dev6 d, k0_dev6_lt d⟩
/-- The left neighbour in the plane. -/
def qL (d : Dev nD) : Dev nD := ⟨k0_dev7 d, k0_dev7_lt d⟩
/-- The `k`-th partner across the planes. -/
def zP (d : Dev nD) : Fin 3 → Dev nD
  | 0 => ⟨k0_dev18 d, k0_dev18_lt d⟩
  | 1 => ⟨k0_dev20 d, k0_dev20_lt d⟩
  | 2 => ⟨k0_dev22 d, k0_dev22_lt d⟩

/-- The neighbour a hop of direction `h` (0 right, 1 left) is sent to. -/
def nxt (h : Fin 2) (d : Dev nD) : Dev nD :=
  match h with
  | 0 => qR d
  | 1 => qL d

/-- The rank of `d`'s plane among the planes other than its `k`-th partner's. -/
def kr (d : Dev nD) (k : Fin 3) : Nat :=
  k0_off3 d (BitVec.ofNat 32 k.val) (BitVec.ofNat 32 (k.val + 1)) (BitVec.ofNat 32 k.val) 1
/-- The first row, in a slot, of the block that goes to the `k`-th partner's plane. -/
def dzRow (d : Dev nD) (k : Fin 3) : Nat :=
  k0_off5 d (BitVec.ofNat 32 k.val) (BitVec.ofNat 32 (k.val + 1)) (BitVec.ofNat 32 k.val) 2
/-- The first row, in a slot, of `d`'s own block. -/
def ownRow (d : Dev nD) : Nat := k0_off18 d 2

theorem kr_lt : ∀ (d : Dev nD) (k : Fin 3), kr d k < 3 := by decide +kernel
theorem dzRow_le : ∀ (d : Dev nD) (k : Fin 3), dzRow d k ≤ 768 := by decide +kernel
theorem ownRow_le : ∀ (d : Dev nD), ownRow d ≤ 768 := by decide +kernel

theorem inb_sem3 (j : Fin 8) (s : Fin 3) :
    ∀ a, (![j.val, s.val] : Fin 2 → Nat) a + S1x1.size a ≤ S8x3.size a := by
  revert j s; decide +kernel
theorem inb_slot (j : Fin 8) (sl : Fin 4) :
    ∀ a, (![j.val, sl.val, 0, 0] : Fin 4 → Nat) a + S1x1x1024x128.size a ≤ S8x4x1024x128.size a := by
  revert j sl; decide +kernel
theorem inb_rows (j : Fin 8) (sl : Fin 4) (r : Nat) (hr : r ≤ 768) :
    ∀ a, (![j.val, sl.val, r, 0] : Fin 4 → Nat) a + S1x1x256x128.size a ≤ S8x4x1024x128.size a := by
  have := j.isLt; have := sl.isLt
  intro a; fin_cases a
  · show j.val + 1 ≤ 8; omega
  · show sl.val + 1 ≤ 4; omega
  · show r + 256 ≤ 1024; omega
  · show 0 + 128 ≤ 128; omega
theorem inb_sem2 (j : Fin 8) (k : Nat) (hk : k < 3) (h : Fin 2) :
    ∀ a, (![j.val, k, h.val] : Fin 3 → Nat) a + S1x1x1.size a ≤ S8x3x2.size a := by
  have := j.isLt; have := h.isLt
  intro a; fin_cases a
  · show j.val + 1 ≤ 8; omega
  · show k + 1 ≤ 3; omega
  · show h.val + 1 ≤ 2; omega
theorem inb_p2 (j : Fin 8) (k : Nat) (hk : k < 3) (h : Fin 2) :
    ∀ a, (![j.val, k, 0, 128 * h.val] : Fin 4 → Nat) a + S1x1x256x128.size a ≤ S8x3x256x256.size a := by
  have := j.isLt; have := h.isLt
  intro a; fin_cases a
  · show j.val + 1 ≤ 8; omega
  · show k + 1 ≤ 3; omega
  · show 0 + 256 ≤ 256; omega
  · show 128 * h.val + 128 ≤ 256; omega
theorem inb_col (j : Fin 8) (h : Fin 2) :
    ∀ a, (![0, 256 * j.val + 128 * h.val] : Fin 2 → Nat) a + S256x128.size a ≤ S256x2048.size a := by
  revert j h; decide +kernel

/-- The rows of `x` whose products hop `s` of direction `h` adds, for the `zb`-th plane. -/
def xOff (d : Dev nD) (h : Fin 2) (s zb : Fin 4) : Fin 2 → Nat :=
  match h with
  | 0 => k0_off1 d (BitVec.ofNat 32 (4 * zb.val)) (BitVec.ofNat 32 s.val)
  | 1 => k0_off2 d (BitVec.ofNat 32 (4 * zb.val)) (BitVec.ofNat 32 s.val)
theorem inb_x (d : Dev nD) (h : Fin 2) (s zb : Fin 4) :
    ∀ a, xOff d h s zb a + S256x256.size a ≤ S4096x256.size a :=
  match h with
  | 0 => k0_off1_inb d zb s
  | 1 => k0_off2_inb d zb s

/-! ## The rectangles and views -/

abbrev rX (d : Dev nD) (h : Fin 2) (s zb : Fin 4) : Rect S4096x256 :=
  Rect.unit (s := S4096x256) (xOff d h s zb) S256x256.size (inb_x d h s zb)
abbrev rCol (j : Fin 8) (h : Fin 2) : Rect S256x2048 :=
  Rect.unit (s := S256x2048) ![0, 256 * j.val + 128 * h.val] S256x128.size (inb_col j h)
abbrev rRows (j : Fin 8) (sl : Fin 4) (r : Nat) (hr : r ≤ 768) : Rect S8x4x1024x128 :=
  Rect.unit (s := S8x4x1024x128) ![j.val, sl.val, r, 0] S1x1x256x128.size (inb_rows j sl r hr)
abbrev rZb (j : Fin 8) (sl zb : Fin 4) : Rect S8x4x1024x128 :=
  rRows j sl (256 * zb.val) (by have := zb.isLt; omega)
abbrev rP2 (j : Fin 8) (k : Nat) (hk : k < 3) (h : Fin 2) : Rect S8x3x256x256 :=
  Rect.unit (s := S8x3x256x256) ![j.val, k, 0, 128 * h.val] S1x1x256x128.size (inb_p2 j k hk h)

/-- Slot `sl` of chunk `j` of a ring buffer. -/
abbrev slotV (b : Memref sig .tc .vmem S8x4x1024x128 .f32) (j : Fin 8) (sl : Fin 4) : Memref sig .tc .vmem S1024x128 .f32 :=
  (b.slice (Rect.unit (s := S8x4x1024x128) ![j.val, sl.val, 0, 0] S1x1x1024x128.size (inb_slot j sl)) (fun _ => rfl)).squeeze
    S1024x128 squeezes_S1x1x1024x128_S1024x128
/-- Rows `[r, r + 256)` of a slot. -/
abbrev rowsV (b : Memref sig .tc .vmem S8x4x1024x128 .f32) (j : Fin 8) (sl : Fin 4) (r : Nat) (hr : r ≤ 768) :
    Memref sig .tc .vmem S256x128 .f32 :=
  (b.slice (rRows j sl r hr) (fun _ => rfl)).squeeze S256x128 squeezes_S1x1x256x128_S256x128
/-- Half `h` of block `k` of chunk `j` of the second phase's buffer. -/
abbrev p2V (p : Memref sig .tc .vmem S8x3x256x256 .f32) (j : Fin 8) (k : Nat) (hk : k < 3) (h : Fin 2) :
    Memref sig .tc .vmem S256x128 .f32 :=
  (p.slice (rP2 j k hk h) (fun _ => rfl)).squeeze S256x128 squeezes_S1x1x256x128_S256x128
abbrev sem3 (m : DmaSems sig S8x3) (j : Fin 8) (s : Fin 3) : DmaSem sig :=
  ((m.slice (Rect.unit (s := S8x3) ![j.val, s.val] S1x1.size (inb_sem3 j s))).squeeze S_ squeezes_S1x1_S_).sem
abbrev sem2 (m : DmaSems sig S8x3x2) (j : Fin 8) (k : Nat) (hk : k < 3) (h : Fin 2) : DmaSem sig :=
  ((m.slice (Rect.unit (s := S8x3x2) ![j.val, k, h.val] S1x1x1.size (inb_sem2 j k hk h))).squeeze S_ squeezes_S1x1x1_S_).sem

/-! ## Payloads -/

/-- One product: a block of rows of `x` by a half chunk of columns of `w`. -/
def dot (xv : Vec F S256x256 .f32) (wv : Vec F S256x128 .f32) : FVec F S256x128 .f32 :=
  matmul dot_S256x256_S256x128_S256x128_1_0_0_1_n_n none (shapeCast S256x256 xv shapeCasts_S256x256_S256x256)
    (shapeCast S256x128 wv shapeCasts_S256x128_S256x128) (constant S256x128 .f32 0x00000000#32)
def flat (v : Vec F S1x1x256x128 .f32) : FVec F S256x128 .f32 := shapeCast S256x128 v shapeCasts_S1x1x256x128_S256x128
def unflat (v : FVec F S256x128 .f32) : Vec F S1x1x256x128 .f32 := shapeCast S1x1x256x128 v shapeCasts_S256x128_S1x1x256x128
/-- The result of one half chunk: the own sum and the three received, through `t * logistic t`. -/
def fin (a b c e : Vec F S1x1x256x128 .f32) : FVec F S256x128 .f32 :=
  mulf (addf (addf (addf (flat a) (flat b)) (flat c)) (flat e))
    (logistic (addf (addf (addf (flat a) (flat b)) (flat c)) (flat e)))

/-! ## The steps, each before its continuation -/

/-- A program of one device. -/
abbrev PK (F : FTy → Type) [FloatOps F] : Type 1 := Prog (TpuEff nD τ sig (Elt F) Λ₀ .tc) PUnit

/-- What the body's accesses go to. -/
structure Args where
  x : Memref sig .tc .vmem S4096x256 .f32
  w : Memref sig .tc .vmem S256x2048 .f32
  o : Memref sig .tc .vmem S256x2048 .f32
  buf : Fin 2 → Memref sig .tc .vmem S8x4x1024x128 .f32
  ss : Fin 2 → DmaSems sig S8x3
  rs : Fin 2 → DmaSems sig S8x3
  p : Memref sig .tc .vmem S8x3x256x256 .f32
  s2 : DmaSems sig S8x3x2
  r2 : DmaSems sig S8x3x2
  fin : Sems sig S_

variable (A : Args) (d : Dev nD)

/-- Load a block of rows of `x` and a half chunk of `w`. -/
def ldXW (j : Fin 8) (h : Fin 2) (s zb : Fin 4) (K : FVec F S256x128 .f32 → PK F) : PK F :=
  .op (.load A.x (rX d h s zb).toLoadRect (View.loadsAt_vmem h_S256x256)) fun xv =>
  .op (.load A.w (rCol j h).toLoadRect (View.loadsAt_vmem h_S256x128)) fun wv => K (dot xv wv)

/-- Store one block of a hop's products. -/
def stNew (b : Memref sig .tc .vmem S8x4x1024x128 .f32) (j : Fin 8) (sl zb : Fin 4) (v : FVec F S256x128 .f32) (K : PK F) : PK F :=
  .op (.load b (rZb j sl zb).toLoadRect (View.loadsAt_vmem h_S1x1x256x128)) fun _ =>
  .op (.store b (rZb j sl zb) (unflat v) Finset.univ (View.stores_vmem_bits_univ h_S1x1x256x128 rfl) (.inl rfl)) fun _ => K

/-- Add one block of a hop's products to what arrived. -/
def stAdd (b : Memref sig .tc .vmem S8x4x1024x128 .f32) (j : Fin 8) (sl zb : Fin 4) (v : FVec F S256x128 .f32) (K : PK F) : PK F :=
  .op (.load b (rZb j sl zb).toLoadRect (View.loadsAt_vmem h_S1x1x256x128)) fun u =>
  .op (.load b (rZb j sl zb).toLoadRect (View.loadsAt_vmem h_S1x1x256x128)) fun _ =>
  .op (.store b (rZb j sl zb) (unflat (addf (flat u) v)) Finset.univ (View.stores_vmem_bits_univ h_S1x1x256x128 rfl) (.inl rfl)) fun _ => K

/-- Send slot `sl` into slot `s` of the next device. -/
def send1 (j : Fin 8) (h : Fin 2) (sl : Fin 4) (s : Fin 3) (K : PK F) : PK F :=
  .op (.enqueueDma (slotV (A.buf h) j sl)
    (.remote (Dev.tc (nxt h d)) (slotV (A.buf h) j s.castSucc) (.dma (sem3 (A.ss h) j s))) (.dma (sem3 (A.rs h) j s))
    ((View.wordExact_bits rfl).reshape _ _) ((View.wordExact_bits rfl).reshape _ _) ⟨⟨rfl, Or.inl rfl⟩, trivial⟩) fun _ => K

/-- Wait for what arrives in slot `s`. -/
def recv1 (j : Fin 8) (h : Fin 2) (s : Fin 3) (K : PK F) : PK F :=
  .op (.waitDma2 (sem3 (A.rs h) j s) (slotV (A.buf h) j 3) (slotV (A.buf h) j s.castSucc)
    ((View.wordExact_bits rfl).reshape _ _) ((View.wordExact_bits rfl).reshape _ _)) fun _ => K

/-- The products of hop `s`, of one direction. -/
def prods (j : Fin 8) (h : Fin 2) (s : Fin 4) (K : FVec F S256x128 .f32 → FVec F S256x128 .f32 → FVec F S256x128 .f32 → FVec F S256x128 .f32 → PK F) : PK F :=
  ldXW A d j h s 0 fun a => ldXW A d j h s 1 fun b => ldXW A d j h s 2 fun c => ldXW A d j h s 3 fun e => K a b c e

/-- A hop that adds its products to what arrived in slot `t` (hop `t + 1`). -/
def hopAdd (j : Fin 8) (h : Fin 2) (t : Fin 3) (K : PK F) : PK F :=
  prods A d j h t.succ fun a b c e => recv1 A j h t <|
    stAdd (A.buf h) j t.castSucc 0 a <| stAdd (A.buf h) j t.castSucc 1 b <| stAdd (A.buf h) j t.castSucc 2 c <| stAdd (A.buf h) j t.castSucc 3 e K

/-- Hop `s` of one direction. -/
def hop (j : Fin 8) (h : Fin 2) (s : Fin 4) (K : PK F) : PK F :=
  match s with
  | 0 => prods A d j h 0 fun a b c e =>
      stNew (A.buf h) j 3 0 a <| stNew (A.buf h) j 3 1 b <| stNew (A.buf h) j 3 2 c <| stNew (A.buf h) j 3 3 e <| send1 A d j h 3 0 K
  | 1 => hopAdd A d j h 0 <| send1 A d j h 0 1 K
  | 2 => hopAdd A d j h 1 <| send1 A d j h 1 2 K
  | 3 => hopAdd A d j h 2 K

/-- Send half `h` of the block of partner `k`. -/
def send2 (j : Fin 8) (k : Fin 3) (h : Fin 2) (K : PK F) : PK F :=
  .op (.enqueueDma (rowsV (A.buf h) j 2 (dzRow d k) (dzRow_le d k))
    (.remote (Dev.tc (zP d k)) (p2V A.p j (kr d k) (kr_lt d k) h) (.dma (sem2 A.s2 j k.val k.isLt h)))
      (.dma (sem2 A.r2 j (kr d k) (kr_lt d k) h))
    ((View.wordExact_bits rfl).reshape _ _) ((View.wordExact_bits rfl).reshape _ _) ⟨⟨rfl, Or.inl rfl⟩, trivial⟩) fun _ => K

/-- Wait for half `h` of received block `k`. -/
def recv2 (j : Fin 8) (k : Fin 3) (h : Fin 2) (K : PK F) : PK F :=
  .op (.waitDma2 (sem2 A.r2 j k.val k.isLt h) (p2V A.p j k.val k.isLt h) (p2V A.p j k.val k.isLt h)
    ((View.wordExact_bits rfl).reshape _ _) ((View.wordExact_bits rfl).reshape _ _)) fun _ => K

/-- Sum, apply the epilogue and store half `h` of chunk `j`. -/
def emit (j : Fin 8) (h : Fin 2) (K : PK F) : PK F :=
  .op (.load (A.buf h) (rRows j 2 (ownRow d) (ownRow_le d)).toLoadRect (View.loadsAt_vmem h_S1x1x256x128)) fun a =>
  .op (.load A.p (rP2 j 0 (by decide) h).toLoadRect (View.loadsAt_vmem h_S1x1x256x128)) fun b =>
  .op (.load A.p (rP2 j 1 (by decide) h).toLoadRect (View.loadsAt_vmem h_S1x1x256x128)) fun c =>
  .op (.load A.p (rP2 j 2 (by decide) h).toLoadRect (View.loadsAt_vmem h_S1x1x256x128)) fun e =>
  .op (.load A.o (rCol j h).toLoadRect (View.loadsAt_vmem h_S256x128)) fun _ =>
  .op (.store A.o (rCol j h) (fin a b c e) Finset.univ (View.stores_vmem_bits_univ h_S256x128 rfl) (.inl rfl)) fun _ => K

/-- A step of the schedule. -/
inductive Step where
  | hops (j : Fin 8) (s : Fin 4)
  | across (j : Fin 8)
  | drain (j : Fin 8)
  deriving DecidableEq

def step (K : PK F) : Step → PK F
  | .hops j s => hop A d j 0 s <| hop A d j 1 s K
  | .across j => send2 A d j 0 0 <| send2 A d j 0 1 <| send2 A d j 1 0 <| send2 A d j 1 1 <| send2 A d j 2 0 <| send2 A d j 2 1 K
  | .drain j => recv2 A j 0 0 <| recv2 A j 0 1 <| recv2 A j 1 0 <| recv2 A j 1 1 <| recv2 A j 2 0 <| recv2 A j 2 1 <|
      emit A d j 0 <| emit A d j 1 K

/-- Wait until what a hop sent has left. -/
def sent1 (j : Fin 8) (h : Fin 2) (sl : Fin 4) (s : Fin 3) (K : PK F) : PK F :=
  .op (.waitDma2 (sem3 (A.ss h) j s) (slotV (A.buf h) j s.castSucc) (slotV (A.buf h) j sl)
    ((View.wordExact_bits rfl).reshape _ _) ((View.wordExact_bits rfl).reshape _ _)) fun _ => K

def sent2 (j : Fin 8) (k : Fin 3) (h : Fin 2) (K : PK F) : PK F :=
  .op (.waitDma2 (sem2 A.s2 j k.val k.isLt h) (p2V A.p j (kr d k) (kr_lt d k) h) (rowsV (A.buf h) j 2 (dzRow d k) (dzRow_le d k))
    ((View.wordExact_bits rfl).reshape _ _) ((View.wordExact_bits rfl).reshape _ _)) fun _ => K

/-- Wait until what a step sent has left. -/
def stepSent (K : PK F) : Step → PK F
  | .hops j 0 => sent1 A j 0 3 0 <| sent1 A j 1 3 0 K
  | .hops j 1 => sent1 A j 0 0 1 <| sent1 A j 1 0 1 K
  | .hops j 2 => sent1 A j 0 1 2 <| sent1 A j 1 1 2 K
  | .hops j 3 => K
  | .across j => sent2 A d j 0 0 <| sent2 A d j 0 1 <| sent2 A d j 1 0 <| sent2 A d j 1 1 <| sent2 A d j 2 0 <| sent2 A d j 2 1 K
  | .drain j => K

/-- Tell the five partners on semaphore `b`, and wait for them. -/
def meet (b : Sem sig) (K : PK F) : PK F :=
  .op (.semSignal (qL d, .tc) b (1#32).toInt) fun _ => .op (.semSignal (qR d, .tc) b (1#32).toInt) fun _ =>
  .op (.semSignal (zP d 0, .tc) b (1#32).toInt) fun _ => .op (.semSignal (zP d 1, .tc) b (1#32).toInt) fun _ =>
  .op (.semSignal (zP d 2, .tc) b (1#32).toInt) fun _ => .op (.semWait b (5#32).toInt) fun _ => K

/-- The order of the steps: at time `t` hop `t - j` of every chunk `j` under way, the sends across the planes
    after a chunk's last hop, and the drain of the chunk that made them two times earlier. -/
def sched : List Step :=
  [.hops 0 0,
   .hops 0 1, .hops 1 0,
   .hops 0 2, .hops 1 1, .hops 2 0,
   .hops 0 3, .across 0, .hops 1 2, .hops 2 1, .hops 3 0,
   .hops 1 3, .across 1, .hops 2 2, .hops 3 1, .hops 4 0,
   .hops 2 3, .across 2, .hops 3 2, .hops 4 1, .hops 5 0, .drain 0,
   .hops 3 3, .across 3, .hops 4 2, .hops 5 1, .hops 6 0, .drain 1,
   .hops 4 3, .across 4, .hops 5 2, .hops 6 1, .hops 7 0, .drain 2,
   .hops 5 3, .across 5, .hops 6 2, .hops 7 1, .drain 3,
   .hops 6 3, .across 6, .hops 7 2, .drain 4,
   .hops 7 3, .across 7, .drain 5,
   .drain 6,
   .drain 7]

def run (f : PK F → Step → PK F) : List Step → PK F → PK F
  | [], K => K
  | st :: l, K => f (run f l K) st

/-- The whole body. -/
def body : PK F :=
  .op .deviceId fun d =>
    meet d (SemArray.scalar (sig.barrier 0 rfl) : Sems sig S_).sem <| run (step A d) sched <| run (stepSent A d) sched <| meet d A.fin.sem (.ret ⟨⟩)

set_option maxRecDepth 1000000 in
/-- The printed body is the structured one. -/
theorem body_eq (x : Memref sig .tc .vmem S4096x256 .f32) (hx : x.IsWhole) (w : Memref sig .tc .vmem S256x2048 .f32) (hw : w.IsWhole)
    (o : Memref sig .tc .vmem S256x2048 .f32) (ho : o.IsWhole) (b0 : Memref sig .tc .vmem S8x4x1024x128 .f32) (h0 : b0.IsWhole)
    (b1 : Memref sig .tc .vmem S8x4x1024x128 .f32) (h1 : b1.IsWhole) (sR rR sL rL : DmaSems sig S8x3)
    (p : Memref sig .tc .vmem S8x3x256x256 .f32) (hp : p.IsWhole) (s2 r2 : DmaSems sig S8x3x2) (f : Sems sig S_) :
    cc0_body (F := F) x hx w hw o ho b0 h0 b1 h1 sR rR sL rL p hp s2 r2 f
      = body { x := x, w := w, o := o, buf := fun | 0 => b0 | 1 => b1, ss := fun | 0 => sR | 1 => sL, rs := fun | 0 => rR | 1 => rL,
               p := p, s2 := s2, r2 := r2, fin := f } := by
  chain_rfl

end Cert.KernelIdeal.K

end
-- ==== Proof.K.Mem.lean ====
/- The memory the body works on, as views: which elements a slot, a block of rows of a slot and a half block of the
   second buffer are, what a load reads after a store or a transfer, and how a buffer splits into them. -/
module

public import proofs.«01_k».proof.Proof.K.Struct
public import Idealize.ShloMosaic.Lib.ViewIndex
public import Idealize.ShloMosaic.Lib.Writes

@[expose] public section

noncomputable section

namespace Cert.KernelIdeal.K

open Idealize.ShloMosaic Idealize.SL.Sem Cert.KernelIdeal.Gen

variable {F : FTy → Type} [FloatOps F]
variable (b b' : Memref sig .tc .vmem S8x4x1024x128 .f32) (p : Memref sig .tc .vmem S8x3x256x256 .f32)

abbrev rSlot (j : Fin 8) (sl : Fin 4) : Rect S8x4x1024x128 :=
  Rect.unit (s := S8x4x1024x128) ![j.val, sl.val, 0, 0] S1x1x1024x128.size (inb_slot j sl)

/-! ## Element sets -/

theorem slotV_set (j : Fin 8) (sl : Fin 4) : (slotV b j sl).view.set = (b.access (rSlot j sl)).set := View.set_reshape _ _
theorem rowsV_set (j : Fin 8) (sl : Fin 4) (r : Nat) (hr : r ≤ 768) :
    (rowsV b j sl r hr).view.set = (b.access (rRows j sl r hr)).set := View.set_reshape _ _
theorem p2V_set (j : Fin 8) (k : Nat) (hk : k < 3) (h : Fin 2) :
    (p2V p j k hk h).view.set = (p.access (rP2 j k hk h)).set := View.set_reshape _ _

theorem mem_rRows {j : Fin 8} {sl : Fin 4} {r : Nat} {hr : r ≤ 768} {i : S8x4x1024x128.Idx} :
    i ∈ (rRows j sl r hr).set ↔ (i 0).val = j.val ∧ (i 1).val = sl.val ∧ r ≤ (i 2).val ∧ (i 2).val < r + 256 := by
  refine Rect.mem_set_unit.trans ⟨fun h => ?_, fun h a => ?_⟩
  · have h0 : j.val ≤ (i 0).val ∧ (i 0).val < j.val + 1 := h 0
    have h1 : sl.val ≤ (i 1).val ∧ (i 1).val < sl.val + 1 := h 1
    have h2 : r ≤ (i 2).val ∧ (i 2).val < r + 256 := h 2
    omega
  · fin_cases a
    · show j.val ≤ (i 0).val ∧ (i 0).val < j.val + 1; omega
    · show sl.val ≤ (i 1).val ∧ (i 1).val < sl.val + 1; omega
    · show r ≤ (i 2).val ∧ (i 2).val < r + 256; omega
    · show 0 ≤ (i 3).val ∧ (i 3).val < 0 + 128
      have : (i 3).val < 128 := (i 3).isLt
      omega
theorem mem_rSlot {j : Fin 8} {sl : Fin 4} {i : S8x4x1024x128.Idx} :
    i ∈ (rSlot j sl).set ↔ (i 0).val = j.val ∧ (i 1).val = sl.val := by
  refine Rect.mem_set_unit.trans ⟨fun h => ?_, fun h a => ?_⟩
  · have h0 : j.val ≤ (i 0).val ∧ (i 0).val < j.val + 1 := h 0
    have h1 : sl.val ≤ (i 1).val ∧ (i 1).val < sl.val + 1 := h 1
    omega
  · fin_cases a
    · show j.val ≤ (i 0).val ∧ (i 0).val < j.val + 1; omega
    · show sl.val ≤ (i 1).val ∧ (i 1).val < sl.val + 1; omega
    · show 0 ≤ (i 2).val ∧ (i 2).val < 0 + 1024
      have : (i 2).val < 1024 := (i 2).isLt
      omega
    · show 0 ≤ (i 3).val ∧ (i 3).val < 0 + 128
      have : (i 3).val < 128 := (i 3).isLt
      omega
theorem mem_rP2 {j : Fin 8} {k : Nat} {hk : k < 3} {h : Fin 2} {i : S8x3x256x256.Idx} :
    i ∈ (rP2 j k hk h).set ↔ (i 0).val = j.val ∧ (i 1).val = k ∧ (i 3).val / 128 = h.val := by
  refine Rect.mem_set_unit.trans ⟨fun H => ?_, fun H a => ?_⟩
  · have h0 : j.val ≤ (i 0).val ∧ (i 0).val < j.val + 1 := H 0
    have h1 : k ≤ (i 1).val ∧ (i 1).val < k + 1 := H 1
    have h3 : 128 * h.val ≤ (i 3).val ∧ (i 3).val < 128 * h.val + 128 := H 3
    omega
  · fin_cases a
    · show j.val ≤ (i 0).val ∧ (i 0).val < j.val + 1; omega
    · show k ≤ (i 1).val ∧ (i 1).val < k + 1; omega
    · show 0 ≤ (i 2).val ∧ (i 2).val < 0 + 256
      have : (i 2).val < 256 := (i 2).isLt
      omega
    · show 128 * h.val ≤ (i 3).val ∧ (i 3).val < 128 * h.val + 128
      omega

/-- A block of rows lies in its slot. -/
theorem rows_subset (j : Fin 8) (sl : Fin 4) (r : Nat) (hr : r ≤ 768) :
    (b.access (rRows j sl r hr)).set ⊆ (slotV b j sl).view.set := by
  rw [slotV_set, View.set_slice, View.set_slice]
  exact Finset.map_subset_map.mpr fun i hi => mem_rSlot.mpr ⟨(mem_rRows.mp hi).1, (mem_rRows.mp hi).2.1⟩

theorem rows_disjoint {j : Fin 8} {sl zb zb' : Fin 4} (h : zb ≠ zb') :
    Disjoint (b.access (rZb j sl zb)).set (b.access (rZb j sl zb')).set := by
  refine View.disjoint_slice (Finset.disjoint_left.mpr fun i hi hi' => h (Fin.ext ?_))
  have h1 := mem_rRows.mp hi; have h2 := mem_rRows.mp hi'
  omega

/-- The four row blocks of a slot are the slot. -/
theorem rows_cover (j : Fin 8) (sl : Fin 4) :
    (Finset.univ.biUnion fun zb : Fin 4 => (b.access (rZb j sl zb)).set) = (slotV b j sl).view.set := by
  apply Finset.Subset.antisymm
  · intro i hi
    obtain ⟨zb, -, hi⟩ := Finset.mem_biUnion.mp hi
    exact rows_subset b j sl _ _ hi
  · intro i hi
    rw [slotV_set] at hi
    obtain ⟨x, rfl⟩ := View.exists_of_mem_set_slice hi
    have hx : (rSlot j sl).emb x ∈ (rSlot j sl).set := by
      rw [← Rect.map_emb_univ]; exact Finset.mem_map_of_mem _ (Finset.mem_univ x)
    have h2 : ((rSlot j sl).emb x 2).val < 1024 := ((rSlot j sl).emb x 2).isLt
    refine Finset.mem_biUnion.mpr ⟨⟨((rSlot j sl).emb x 2).val / 256, by omega⟩, Finset.mem_univ _, ?_⟩
    rw [View.set_slice]
    refine Finset.mem_map_of_mem _ (mem_rRows.mpr ?_)
    have := mem_rSlot.mp hx
    refine ⟨this.1, this.2, ?_, ?_⟩ <;> dsimp only <;> omega

/-- Two slots share no element; -/
theorem slot_disjoint {x y : Fin 8 × Fin 4} (h : x ≠ y) :
    Disjoint (slotV b x.1 x.2).view.set (slotV b y.1 y.2).view.set := by
  rw [slotV_set, slotV_set]
  refine View.disjoint_slice (Finset.disjoint_left.mpr fun i hi hi' => h (Prod.ext (Fin.ext ?_) (Fin.ext ?_)))
  · exact (mem_rSlot.mp hi).1.symm.trans (mem_rSlot.mp hi').1
  · exact (mem_rSlot.mp hi).2.symm.trans (mem_rSlot.mp hi').2

/-- all slots are the buffer. -/
theorem slot_cover (hm : b.view.set = Finset.univ) :
    (Finset.biUnion (β := b.view.ty.Idx) Finset.univ fun x : Fin 8 × Fin 4 => (slotV b x.1 x.2).view.set) = Finset.univ := by
  refine Finset.eq_univ_iff_forall.mpr fun i => ?_
  have hi : i ∈ b.view.set := by rw [hm]; exact Finset.mem_univ i
  obtain ⟨x, -, rfl⟩ := Finset.mem_map.mp hi
  refine Finset.mem_biUnion.mpr ⟨(x 0, x 1), Finset.mem_univ _, ?_⟩
  rw [slotV_set, View.set_slice]
  exact Finset.mem_map_of_mem _ (mem_rSlot.mpr ⟨rfl, rfl⟩)

/-- Two half blocks share no element; -/
theorem p2_disjoint {x y : Fin 8 × Fin 3 × Fin 2} (h : x ≠ y) :
    Disjoint (p2V p x.1 x.2.1.val x.2.1.isLt x.2.2).view.set (p2V p y.1 y.2.1.val y.2.1.isLt y.2.2).view.set := by
  rw [p2V_set, p2V_set]
  refine View.disjoint_slice (Finset.disjoint_left.mpr fun i hi hi' => h ?_)
  have h1 := mem_rP2.mp hi; have h2 := mem_rP2.mp hi'
  exact Prod.ext (Fin.ext (h1.1.symm.trans h2.1)) (Prod.ext (Fin.ext (h1.2.1.symm.trans h2.2.1)) (Fin.ext (h1.2.2.symm.trans h2.2.2)))

/-- all half blocks are the buffer. -/
theorem p2_cover (hm : p.view.set = Finset.univ) :
    (Finset.biUnion (β := p.view.ty.Idx) Finset.univ fun x : Fin 8 × Fin 3 × Fin 2 => (p2V p x.1 x.2.1.val x.2.1.isLt x.2.2).view.set) = Finset.univ := by
  refine Finset.eq_univ_iff_forall.mpr fun i => ?_
  have hi : i ∈ p.view.set := by rw [hm]; exact Finset.mem_univ i
  obtain ⟨x, -, rfl⟩ := Finset.mem_map.mp hi
  have h3 : (x 3).val < 256 := (x 3).isLt
  refine Finset.mem_biUnion.mpr ⟨(x 0, x 1, ⟨(x 3).val / 128, by omega⟩), Finset.mem_univ _, ?_⟩
  rw [p2V_set, View.set_slice]
  exact Finset.mem_map_of_mem _ (mem_rP2.mpr ⟨rfl, rfl, rfl⟩)

/-! ## What a load reads -/

theorem reshape_reshape {s s' : Shape} (h : s'.numel = s.numel) (h' : s.numel = s'.numel) (x : s'.Idx) :
    Shape.reshapeEquiv h' (Shape.reshapeEquiv h x) = x :=
  Shape.reshapeEquiv_eq_of_rowMajor _ (Shape.rowMajor_reshapeEquiv h x).symm

theorem flat_unflat (v : FVec F S256x128 .f32) : flat (unflat v) = v :=
  funext fun i => congrArg v (reshape_reshape _ _ i)

/-- Row block `zb` of slot `sl` of chunk `j`, as a load and a flattening give it. -/
def rd (j : Fin 8) (sl : Fin 4) (r : Nat) (hr : r ≤ 768) (f : b.view.ty.Contents (Elt F)) : FVec F S256x128 .f32 :=
  flat ((b.access (rRows j sl r hr)).read (Elt F) f)
def rdP (j : Fin 8) (k : Nat) (hk : k < 3) (h : Fin 2) (f : p.view.ty.Contents (Elt F)) : FVec F S256x128 .f32 :=
  flat ((p.access (rP2 j k hk h)).read (Elt F) f)

theorem rowsV_read (j : Fin 8) (sl : Fin 4) (r : Nat) (hr : r ≤ 768) (f : b.view.ty.Contents (Elt F)) :
    (rowsV b j sl r hr).view.read (Elt F) f = rd b j sl r hr f := rfl
theorem p2V_read (j : Fin 8) (k : Nat) (hk : k < 3) (h : Fin 2) (f : p.view.ty.Contents (Elt F)) :
    (p2V p j k hk h).view.read (Elt F) f = rdP p j k hk h f := rfl

/-- After a store of a row block, that block reads what was stored; -/
theorem rd_store_same (j : Fin 8) (sl : Fin 4) (r : Nat) (hr : r ≤ 768) (f : b.view.ty.Contents (Elt F)) (v : FVec F S256x128 .f32) :
    rd b j sl r hr ((b.access (rRows j sl r hr)).write (Elt F) f (unflat v) Finset.univ) = v := by
  unfold rd; rw [View.read_write_univ, flat_unflat]
/-- the others what they held. -/
theorem rd_store_other (j : Fin 8) (sl : Fin 4) {zb zb' : Fin 4} (h : zb' ≠ zb) (hr hr') (f : b.view.ty.Contents (Elt F)) (v : FVec F S256x128 .f32) :
    rd b j sl (256 * zb'.val) hr' ((b.access (rRows j sl (256 * zb.val) hr)).write (Elt F) f (unflat v) Finset.univ) = rd b j sl (256 * zb'.val) hr' f := by
  unfold rd
  rw [View.read_slice_write_slice_of_disjoint]
  exact rows_disjoint b h

/-- A transfer of a block of rows into a half block: it reads the rows sent. -/
theorem rdP_sent (j : Fin 8) (k : Nat) (hk : k < 3) (h : Fin 2) (g : p.view.ty.Contents (Elt F)) (v : FVec F S256x128 .f32) :
    rdP p j k hk h ((p2V p j k hk h).view.write (Elt F) g v Finset.univ) = v := by
  rw [← p2V_read, View.read_write_univ]

/-- The index of a slot that a row block's index is. -/
def slotIx (r : Nat) (hr : r ≤ 768) (x : S1x1x256x128.Idx) : S1024x128.Idx :=
  (Shape.reshapeEquiv (s := S1024x128) (s' := S1x1x1024x128) (squeezes_S1x1x1024x128_S1024x128).numel_eq.symm)
    fun | 0 => x 0 | 1 => x 1 | 2 => ⟨r + (x 2).val, by have h := (x 2).isLt; show _ < 1024; change _ < 256 at h; omega⟩ | 3 => x 3

theorem read_rows (j : Fin 8) (sl : Fin 4) (r : Nat) (hr : r ≤ 768) (f : b.view.ty.Contents (Elt F)) (x : S1x1x256x128.Idx) :
    (b.access (rRows j sl r hr)).read (Elt F) f x = (slotV b j sl).view.read (Elt F) f (slotIx r hr x) := by
  have e : (slotV b j sl).view.emb (slotIx r hr x) = (b.access (rRows j sl r hr)).emb x := by
    show b.view.emb ((rSlot j sl).emb (Shape.reshapeEquiv _ (Shape.reshapeEquiv _ _))) = b.view.emb ((rRows j sl r hr).emb x)
    rw [reshape_reshape]
    congr 1
    have h0 : (x 0).val < 1 := (x 0).isLt
    have h1 : (x 1).val < 1 := (x 1).isLt
    funext a
    refine Fin.ext ?_
    fin_cases a
    · rfl
    · rfl
    · show 0 + 1 * (r + (x 2).val) = r + 1 * (x 2).val; omega
    · rfl
  rw [View.read_apply, View.read_apply, e]

/-- A transfer of a slot into a slot: a block of rows reads the rows sent. -/
theorem rd_sent (j : Fin 8) (sl s : Fin 4) (r : Nat) (hr : r ≤ 768) (g : b'.view.ty.Contents (Elt F)) (f : b.view.ty.Contents (Elt F)) :
    rd b' j s r hr ((slotV b' j s).view.write (Elt F) g ((slotV b j sl).view.read (Elt F) f) Finset.univ) = rd b j sl r hr f := by
  unfold rd
  congr 1
  funext x
  rw [read_rows, read_rows, View.read_write_univ]

end Cert.KernelIdeal.K

end
-- ==== Proof.K.Proto.lean ====
/- The protocol between the devices: who tells and waits on which semaphore, by how much, and what is handed over.

   Each device `c` has two regular semaphores, the barrier and the one of the closing meeting, and for every chunk `j`
   * `ss (j, s, h)`, `rs (j, s, h)`: hop `s` of direction `h` sent, and arrived;
   * `s2 (j, k, h)`, `r2 (j, k, h)`: the half block to the `k`-th partner plane sent, and arrived in place `k`.
   One round each. On the barrier a device's five partners hand it the slots of theirs it will write; a send
   semaphore hands back what was sent, an arrival semaphore what arrived, with its contents. -/
module

public import proofs.«01_k».proof.Proof.K.Mem
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What the body works on -/

def kA : Args where
  x := Memref.whole cc0_stg0_0
  w := Memref.whole cc0_stg1_0
  o := Memref.whole cc0_stg2_0
  buf := fun | 0 => Memref.whole cc0_scratch0 | 1 => Memref.whole cc0_scratch1
  ss := fun | 0 => cc0_scratch2 | 1 => cc0_scratch4
  rs := fun | 0 => cc0_scratch3 | 1 => cc0_scratch5
  p := Memref.whole cc0_scratch6
  s2 := cc0_scratch7
  r2 := cc0_scratch8
  fin := cc0_scoped0

abbrev barS : Sem sig := (SemArray.scalar (sig.barrier 0 rfl) : Sems sig S_).sem

/-! ## Partners -/

/-- The neighbour whose hops of direction `h` arrive. -/
def prv (h : Fin 2) (c : Dev nD) : Dev nD := nxt (1 - h) c

theorem prv_nxt : ∀ (h : Fin 2) (c : Dev nD), prv h (nxt h c) = c := by decide +kernel
theorem nxt_prv : ∀ (h : Fin 2) (c : Dev nD), nxt h (prv h c) = c := by decide +kernel

abbrev krF (d : Dev nD) (k : Fin 3) : Fin 3 := ⟨kr d k, kr_lt d k⟩

theorem zP_zP : ∀ (d : Dev nD) (k : Fin 3), zP (zP d k) (krF d k) = d := by decide +kernel
theorem kr_kr : ∀ (d : Dev nD) (k : Fin 3), krF (zP d k) (krF d k) = k := by decide +kernel

/-- The five partners: right, left, the three across. -/
def partner (d : Dev nD) (i : Fin 5) : Dev nD :=
  match i with
  | 0 => nxt 0 d | 1 => nxt 1 d | 2 => zP d 0 | 3 => zP d 1 | 4 => zP d 2
/-- Which partner `d` is of its `i`-th partner. -/
def rev (d : Dev nD) (i : Fin 5) : Fin 5 :=
  match i with
  | 0 => 1 | 1 => 0 | 2 => (krF d 0).natAdd 2 | 3 => (krF d 1).natAdd 2 | 4 => (krF d 2).natAdd 2

theorem partner_rev : ∀ (d : Dev nD) (i : Fin 5), partner (partner d i) (rev d i) = d := by decide +kernel
theorem rev_rev : ∀ (d : Dev nD) (i : Fin 5), rev (partner d i) (rev d i) = i := by decide +kernel

/-- The plane row block that is `c`'s own. -/
def zO (c : Dev nD) : Fin 4 := ⟨ownRow c / 256, by revert c; decide +kernel⟩

theorem ownRow_eq : ∀ c : Dev nD, ownRow c = 256 * (zO c).val := by decide +kernel
theorem dzRow_eq : ∀ (c : Dev nD) (k : Fin 3), dzRow c k = 256 * (zO (zP c k)).val := by decide +kernel

/-- The four row blocks of slot 2: the three partners' and the own. -/
def zA (c : Dev nD) (i : Fin 4) : Fin 4 :=
  match i with
  | 0 => zO (zP c 0) | 1 => zO (zP c 1) | 2 => zO (zP c 2) | 3 => zO c
theorem zA_bij : ∀ c : Dev nD, Function.Bijective (zA c) := by
  simp only [Function.Bijective, Function.Injective, Function.Surjective]; decide +kernel

/-! ## Semaphores -/

abbrev Ix3 : Type := Fin 8 × Fin 3 × Fin 2
abbrev Kd : Type := Fin 2 ⊕ (Fin 4 × Ix3)
abbrev kbar : Kd := .inl 0
abbrev kfin : Kd := .inl 1
abbrev kss (j : Fin 8) (s : Fin 3) (h : Fin 2) : Kd := .inr (0, j, s, h)
abbrev krs (j : Fin 8) (s : Fin 3) (h : Fin 2) : Kd := .inr (1, j, s, h)
abbrev ks2 (j : Fin 8) (k : Fin 3) (h : Fin 2) : Kd := .inr (2, j, k, h)
abbrev kr2 (j : Fin 8) (k : Fin 3) (h : Fin 2) : Kd := .inr (3, j, k, h)

def csem : Kd → SemLoc sig
  | .inl 0 => .reg barS
  | .inl 1 => .reg kA.fin.sem
  | .inr (0, j, s, h) => .dma (sem3 (kA.ss h) j s)
  | .inr (1, j, s, h) => .dma (sem3 (kA.rs h) j s)
  | .inr (2, j, k, h) => .dma (sem2 kA.s2 j k.val k.isLt h)
  | .inr (3, j, k, h) => .dma (sem2 kA.r2 j k.val k.isLt h)

abbrev cell (c : Dev nD) (k : Kd) : GSem nD τ sig := ((c : Thread nD τ), csem k)

/-- Which semaphore of the protocol one is. -/
def decode : SemLoc sig → Option Kd
  | .reg r => if r.val = 0 then some kbar else some kfin
  | .dma q =>
    let n := q.val
    if n < 3 then none
    else if n < 99 then
      let b := (n - 3) / 24
      let r := (n - 3) % 24
      some (.inr (⟨b % 2, by omega⟩, ⟨r / 3, by omega⟩, ⟨r % 3, by omega⟩, ⟨b / 2 % 2, by omega⟩))
    else
      let b := (n - 99) / 48
      let r := (n - 99) % 48
      some (.inr (⟨2 + b % 2, by omega⟩, ⟨r / 6, by omega⟩, ⟨r % 6 / 2, by omega⟩, ⟨r % 2, by omega⟩))

theorem decode_csem : ∀ k : Kd, decode (csem k) = some k := by decide +kernel

theorem csem_injective : Function.Injective csem := fun a b h => by
  have := decode_csem a; rw [h, decode_csem] at this; exact (Option.some.inj this).symm

theorem cell_injective : Function.Injective (fun x : Dev nD × Kd => cell x.1 x.2) := by
  rintro ⟨c, k⟩ ⟨c', k'⟩ h
  have h1 : c = c' := congrArg (fun g : GSem nD τ sig => g.1.1) h
  have h2 : k = k' := csem_injective (congrArg Prod.snd h)
  rw [h1, h2]

/-! ## Contents -/

/-- The staged blocks of `x` and `w` on every device. -/
structure Ins (F : FTy → Type) where
  X : Dev nD → kA.x.view.ty.Contents (Elt F)
  W : Dev nD → kA.w.view.ty.Contents (Elt F)

variable (I : Ins F)

/-- The products hop `s` of direction `h` adds on device `c`, for the `zb`-th plane. -/
def part (c : Dev nD) (h : Fin 2) (j : Fin 8) (s zb : Fin 4) : FVec F S256x128 .f32 :=
  dot ((kA.x.access (rX c h s zb)).read (Elt F) (I.X c)) ((kA.w.access (rCol j h)).read (Elt F) (I.W c))

/-- What hop `s` leaves on device `c`: its own products added to what arrived. -/
def sumN (h : Fin 2) (j : Fin 8) : (n : ℕ) → n < 4 → Dev nD → Fin 4 → FVec F S256x128 .f32
  | 0, hn, c, zb => part I c h j ⟨0, hn⟩ zb
  | n + 1, hn, c, zb => addf (sumN h j n (by omega) (prv h c) zb) (part I c h j ⟨n + 1, hn⟩ zb)
def sumH (c : Dev nD) (h : Fin 2) (j : Fin 8) (s zb : Fin 4) : FVec F S256x128 .f32 := sumN I h j s.val s.isLt c zb

theorem sumH_zero (c : Dev nD) (h : Fin 2) (j : Fin 8) (zb : Fin 4) : sumH I c h j 0 zb = part I c h j 0 zb := rfl
theorem sumH_succ (c : Dev nD) (h : Fin 2) (j : Fin 8) (t : Fin 3) (zb : Fin 4) :
    sumH I c h j t.succ zb = addf (sumH I (prv h c) h j t.castSucc zb) (part I c h j t.succ zb) := by
  obtain ⟨n, hn⟩ := t; rfl

/-- A result's half chunk from the four planes' sums. -/
def fin4 (a b c e : FVec F S256x128 .f32) : FVec F S256x128 .f32 :=
  mulf (addf (addf (addf a b) c) e) (logistic (addf (addf (addf a b) c) e))
theorem fin_eq (a b c e : Vec F S1x1x256x128 .f32) : fin a b c e = fin4 (flat a) (flat b) (flat c) (flat e) := rfl

/-- Half `h` of chunk `j` of device `c`'s result. -/
def res (c : Dev nD) (j : Fin 8) (h : Fin 2) : FVec F S256x128 .f32 :=
  fin4 (sumH I c h j 3 (zO c)) (sumH I (zP c 0) h j 3 (zO c)) (sumH I (zP c 1) h j 3 (zO c)) (sumH I (zP c 2) h j 3 (zO c))

/-! ## Memory held -/

theorem zrow_le (zb : Fin 4) : 256 * zb.val ≤ 768 := by omega

/-- Slot `sl` of chunk `j` of device `c`'s buffer of direction `h`, holding `f`; -/
def slotP (c : Dev nD) (h : Fin 2) (j : Fin 8) (sl : Fin 4) (f : (kA.buf h).view.ty.Contents (Elt F)) : sProp 𝕄 :=
  (slotV (kA.buf h) j sl).view.loc (c : Thread nD τ) ↦[(slotV (kA.buf h) j sl).view.set]{fullShare} f
/-- row block `zb` of its slot 2; -/
def rowP (c : Dev nD) (h : Fin 2) (j : Fin 8) (zb : Fin 4) (f : (kA.buf h).view.ty.Contents (Elt F)) : sProp 𝕄 :=
  (rowsV (kA.buf h) j 2 (256 * zb.val) (zrow_le zb)).view.loc (c : Thread nD τ)
    ↦[(rowsV (kA.buf h) j 2 (256 * zb.val) (zrow_le zb)).view.set]{fullShare} f
/-- half `h` of block `k` of chunk `j` of its second buffer. -/
def p2P (c : Dev nD) (j : Fin 8) (k : Fin 3) (h : Fin 2) (f : kA.p.view.ty.Contents (Elt F)) : sProp 𝕄 :=
  (p2V kA.p j k.val k.isLt h).view.loc (c : Thread nD τ) ↦[(p2V kA.p j k.val k.isLt h).view.set]{fullShare} f

/-- The slot with any contents; -/
def slotE (c : Dev nD) (h : Fin 2) (j : Fin 8) (sl : Fin 4) : sProp 𝕄 := iprop(∃ f, slotP (F := F) c h j sl f)
/-- with its row blocks reading `v`. -/
def slotR (c : Dev nD) (h : Fin 2) (j : Fin 8) (sl : Fin 4) (v : Fin 4 → FVec F S256x128 .f32) : sProp 𝕄 :=
  iprop(∃ f, ⌜∀ zb : Fin 4, rd (kA.buf h) j sl (256 * zb.val) (zrow_le zb) f = v zb⌝ ∗ slotP c h j sl f)
def rowE (c : Dev nD) (h : Fin 2) (j : Fin 8) (zb : Fin 4) : sProp 𝕄 := iprop(∃ f, rowP (F := F) c h j zb f)
def rowR (c : Dev nD) (h : Fin 2) (j : Fin 8) (zb : Fin 4) (v : FVec F S256x128 .f32) : sProp 𝕄 :=
  iprop(∃ f, ⌜rd (kA.buf h) j 2 (256 * zb.val) (zrow_le zb) f = v⌝ ∗ rowP c h j zb f)
def p2E (c : Dev nD) (j : Fin 8) (k : Fin 3) (h : Fin 2) : sProp 𝕄 := iprop(∃ f, p2P (F := F) c j k h f)
def p2R (c : Dev nD) (j : Fin 8) (k : Fin 3) (h : Fin 2) (v : FVec F S256x128 .f32) : sProp 𝕄 :=
  iprop(∃ f, ⌜rdP kA.p j k.val k.isLt h f = v⌝ ∗ p2P c j k h f)

/-! ## What is handed over -/

/-- The slot hop `s` is sent from. -/
def src (s : Fin 3) : Fin 4 := match s with | 0 => 3 | 1 => 0 | 2 => 1

/-- On the barrier: the slots of a neighbour, or the half blocks of a partner across, that `c` writes. -/
def barPay (c : Dev nD) (i : Fin 5) : sProp 𝕄 :=
  match i with
  | 0 => bigSep Finset.univ fun x : Fin 8 × Fin 3 => slotE (F := F) (nxt 0 c) 0 x.1 x.2.castSucc
  | 1 => bigSep Finset.univ fun x : Fin 8 × Fin 3 => slotE (F := F) (nxt 1 c) 1 x.1 x.2.castSucc
  | 2 => bigSep Finset.univ fun x : Fin 8 × Fin 2 => p2E (F := F) (zP c 0) x.1 (krF c 0) x.2
  | 3 => bigSep Finset.univ fun x : Fin 8 × Fin 2 => p2E (F := F) (zP c 1) x.1 (krF c 1) x.2
  | 4 => bigSep Finset.univ fun x : Fin 8 × Fin 2 => p2E (F := F) (zP c 2) x.1 (krF c 2) x.2

def pay (c : Dev nD) (k : Kd) (i : Fin 5) : sProp 𝕄 :=
  match k with
  | .inl 0 => barPay c i
  | .inl 1 => iprop(emp)
  | .inr (0, j, s, h) => slotE c h j (src s)
  | .inr (1, j, s, h) => slotR c h j s.castSucc (sumH I (prv h c) h j s.castSucc)
  | .inr (2, j, k, h) => rowE c h j (zO (zP c k))
  | .inr (3, j, k, h) => p2R c j k h (sumH I (zP c k) h j 3 (zO c))

omit [FloatOps F] in
instance slotE_storable (c : Dev nD) (h : Fin 2) (j : Fin 8) (sl : Fin 4) : BI.Storable (upEmb : UEmb _ 𝕄) (slotE (F := F) c h j sl) := by
  unfold slotE slotP; infer_instance
omit [FloatOps F] in
instance rowE_storable (c : Dev nD) (h : Fin 2) (j : Fin 8) (zb : Fin 4) : BI.Storable (upEmb : UEmb _ 𝕄) (rowE (F := F) c h j zb) := by
  unfold rowE rowP; infer_instance
omit [FloatOps F] in
instance p2E_storable (c : Dev nD) (j : Fin 8) (k : Fin 3) (h : Fin 2) : BI.Storable (upEmb : UEmb _ 𝕄) (p2E (F := F) c j k h) := by
  unfold p2E p2P; infer_instance
instance slotR_storable (c : Dev nD) (h : Fin 2) (j : Fin 8) (sl : Fin 4) (v) : BI.Storable (upEmb : UEmb _ 𝕄) (slotR (F := F) c h j sl v) := by
  unfold slotR slotP; infer_instance
instance p2R_storable (c : Dev nD) (j : Fin 8) (k : Fin 3) (h : Fin 2) (v) : BI.Storable (upEmb : UEmb _ 𝕄) (p2R (F := F) c j k h v) := by
  unfold p2R p2P; infer_instance
instance pay_storable (c : Dev nD) (k : Kd) (i : Fin 5) : BI.Storable (upEmb : UEmb _ 𝕄) (pay I c k i) := by
  unfold pay barPay; (repeat' split) <;> infer_instance

/-! ## The schedule -/

/-- The credit of a slot's transfer, and of a half block's. -/
def N1 : ℕ := (slotV (kA.buf 0) 0 0).view.dmaCredit
def N2 : ℕ := (p2V kA.p 0 0 (by decide) 0).view.dmaCredit
theorem N1_pos : 0 < N1 := View.dmaCredit_pos _ (by decide)
theorem N2_pos : 0 < N2 := View.dmaCredit_pos _ (by decide)

def amt : Kd → ℕ
  | .inl _ => 1
  | .inr (0, _) => N1
  | .inr (1, _) => N1
  | .inr (2, _) => N2
  | .inr (3, _) => N2
theorem amt_pos (k : Kd) : 0 < amt k := by
  unfold amt; split <;> first | exact N1_pos | exact N2_pos | exact Nat.one_pos

def dutiesOf : Kd → Finset (Fin 5)
  | .inl _ => Finset.univ
  | .inr _ => {0}

def Rd : Rounds.Schedule (GSem nD τ sig) (Fin 5) 𝕄 where
  duties g r := if r = 0 ∧ g.1.2 = .tc then (match decode g.2 with | none => ∅ | some k => dutiesOf k) else ∅
  unitless _ := False
  amount g _ _ := match decode g.2 with | none => 1 | some k => amt k
  payload g _ i := match decode g.2 with | none => iprop(emp) | some k => pay I g.1.1 k i
  amount_pos g _ _ _ := by split; exact Nat.one_pos; exact amt_pos _

instance Rd_payload_storable (g : GSem nD τ sig) (r : ℕ) (i : Fin 5) :
    BI.Storable (upEmb : UEmb _ 𝕄) ((Rd (F := F) I).payload g r i) := by
  show BI.Storable upEmb (match decode g.2 with | none => iprop(emp) | some k => pay I g.1.1 k i)
  split <;> infer_instance

section Sched
variable (c : Dev nD) (k : Kd)

theorem duties_cell : (Rd I).duties (cell c k) 0 = dutiesOf k := by
  dsimp only [Rd]; rw [if_pos ⟨rfl, rfl⟩, decode_csem]
theorem duties_later (g : GSem nD τ sig) : ∀ r, 1 ≤ r → (Rd I).duties g r = ∅ :=
  fun r hr => by dsimp only [Rd]; rw [if_neg fun h => by omega]
theorem amount_cell (i : Fin 5) : (Rd I).amount (cell c k) 0 i = amt k := by
  dsimp only [Rd]; rw [decode_csem]
theorem payload_cell (i : Fin 5) : (Rd I).payload (cell c k) 0 i = pay I c k i := by
  dsimp only [Rd]; rw [decode_csem]

theorem expect_reg (b : Fin 2) : (Rd I).expect (cell c (.inl b)) 0 = 5 := by
  unfold Schedule.expect Schedule.amountOf
  rw [duties_cell, Finset.sum_congr rfl fun d _ => amount_cell I c _ d]; rfl
theorem expect_dma (x : Fin 4 × Ix3) : (Rd I).expect (cell c (.inr x)) 0 = amt (.inr x) := by
  unfold Schedule.expect Schedule.amountOf
  rw [duties_cell]; exact (Finset.sum_singleton _ _).trans (amount_cell I c _ 0)
theorem rest_cell : bigSep ((Rd I).duties (cell c k) 0 \ ∅) (fun d => (Rd I).payload (cell c k) 0 d)
    = bigSep (dutiesOf k) (fun i => pay I c k i) := by
  rw [Finset.sdiff_empty, duties_cell]; exact bigSep_congr fun i _ => payload_cell I c k i
theorem rest_dma (x : Fin 4 × Ix3) : bigSep ((Rd I).duties (cell c (.inr x)) 0 \ ∅) (fun d => (Rd I).payload (cell c (.inr x)) 0 d)
    = pay I c (.inr x) 0 := by
  rw [rest_cell]; exact bigSep_singleton
end Sched

/-! ## Levels -/

def klv : Kd → ℕ
  | .inl 0 => 1
  | .inl 1 => 100
  | .inr (1, j, s, _) => 2 + j.val + s.val
  | .inr (3, j, _, _) => 5 + j.val
  | _ => 0
def L (g : GSem nD τ sig) : Finset Unit := if g.1.2 = .tc then {()} else ∅
def lv (g : GSem nD τ sig) (_ : Unit) : ℕ := match decode g.2 with | none => 0 | some k => klv k
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) : lv (cell c k) () = klv k := by dsimp only [lv]; rw [decode_csem]

/-- Everything owed is to devices' semaphores above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.sum {n : ℕ} {A : Type} (s : Finset A) {O : A → CellTallies nD τ sig Unit} (h : ∀ a ∈ s, Above n (O a)) : Above n (∑ a ∈ s, O a) :=
  Finset.sum_induction O (Above n) (fun _ _ => Above.add) (Above.zero n) h
theorem Above.cell {n : ℕ} (c : Dev nD) (k : Kd) (a : ℕ) (h : n < klv k) : Above n (tallyAt (cell c k) () a) := fun g u hp => by
  rw [tallyAt_apply] at hp
  by_cases hg : g = K.cell c k ∧ u = ()
  · rw [hg.1]; exact ⟨rfl, by rw [lv_cell]; exact h⟩
  · rw [if_neg hg] at hp; exact absurd hp (Nat.lt_irrefl 0)

theorem mayWait {n : ℕ} {O : CellTallies nD τ sig Unit} (h : Above n O) (c : Dev nD) (sm : SemLoc sig) (hsm : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hsm)
    (fun g u hg => (h g u hg).2)

end Cert.KernelIdeal.K

end
-- ==== Proof.K.Steps.lean ====
/- The body's steps, each executed once: what a load, a store, a send and a wait of the structured program need and
   leave, at a symbolic device, chunk, hop and direction. -/
module

public import proofs.«01_k».proof.Proof.K.Proto
public import Idealize.ShloMosaic.Lib.Ring

@[expose] public section

set_option maxRecDepth 16384

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to `Kt`. -/
abbrev WP (c : Dev nD) (p : PK F) (Kt : PUnit.{1} → sProp 𝕄) : sProp 𝕄 :=
  wp frame (wpE (defs₀ (F := F)) 𝒱₀ (c : Thread nD τ) none) Set.univ p Kt

variable (I : Ins F) (N : Dev nD × Kd → ℕ) (c : Dev nD)

/-! ## The facts every device shares -/

/-- Every semaphore's invariant, at the names `N`, and that it is at its first round; the levels. -/
def recs : sProp 𝕄 :=
  iprop((bigSep Finset.univ fun x : Dev nD × Kd => iprop(cellInv ER (Rd I) (N x) (cell x.1 x.2) ∗ reached ER (cell x.1 x.2) 0)) ∗ levAts L lv)

instance recs_persistent : BI.Persistent (recs I N) := by unfold recs; infer_instance

theorem recs_cell (d : Dev nD) (k : Kd) : recs I N ⊢ iprop(cellInv ER (Rd I) (N (d, k)) (cell d k) ∗ reached ER (cell d k) 0) := by
  have e : ((bigSep Finset.univ fun x : Dev nD × Kd => iprop(cellInv ER (Rd I) (N x) (cell x.1 x.2) ∗ reached ER (cell x.1 x.2) 0)) : sProp 𝕄)
      ⊢ iprop(cellInv ER (Rd I) (N (d, k)) (cell d k) ∗ reached ER (cell d k) 0) := bigSep_elim (Finset.mem_univ (d, k))
  unfold recs
  iintro ⟨H, -⟩
  iapply e; iexact H
theorem recs_lev : recs I N ⊢ levAts L lv := by
  unfold recs; iintro ⟨-, H⟩; iexact H

/-! ## Loads of the staged blocks -/

/-- The staged blocks of `x` and `w`. -/
def xwP : sProp 𝕄 :=
  iprop((kA.x.view.loc (c : Thread nD τ) ↦{fullShare} I.X c) ∗ (kA.w.view.loc (c : Thread nD τ) ↦{fullShare} I.W c))

theorem wp_ldXW (Kt : PUnit.{1} → sProp 𝕄) (j : Fin 8) (h : Fin 2) (s zb : Fin 4) (K : FVec F S256x128 .f32 → PK F) :
    xwP I c ⊢ iprop((xwP I c -∗ WP c (K (part I c h j s zb)) Kt) -∗ WP c (ldXW kA c j h s zb K) Kt) := by
  unfold xwP ldXW
  iintro ⟨Hx, Hw⟩ Hk
  iapply (wp_load_rect 𝒱₀ (c : Thread nD τ) none Set.univ (m := kA.x) (r := rX c h s zb) (Finset.subset_univ _)) $$ Hx; iintro Hx
  iapply (wp_load_rect 𝒱₀ (c : Thread nD τ) none Set.univ (m := kA.w) (r := rCol j h) (Finset.subset_univ _)) $$ Hw; iintro Hw
  iapply Hk
  isplitl [Hx] <;> iassumption

theorem wp_prods (Kt : PUnit.{1} → sProp 𝕄) (j : Fin 8) (h : Fin 2) (s : Fin 4) (K : FVec F S256x128 .f32 → FVec F S256x128 .f32 → FVec F S256x128 .f32 → FVec F S256x128 .f32 → PK F) :
    xwP I c ⊢ iprop((xwP I c -∗ WP c (K (part I c h j s 0) (part I c h j s 1) (part I c h j s 2) (part I c h j s 3)) Kt) -∗ WP c (prods kA c j h s K) Kt) := by
  unfold prods
  iintro H Hk
  iapply (wp_ldXW I c Kt) $$ H; iintro H
  iapply (wp_ldXW I c Kt) $$ H; iintro H
  iapply (wp_ldXW I c Kt) $$ H; iintro H
  iapply (wp_ldXW I c Kt) $$ H; iintro H
  iapply Hk; iexact H

/-! ## Stores into a slot -/

section Slots
variable (h : Fin 2) (j : Fin 8) (sl : Fin 4)

theorem wp_stNew (Kt : PUnit.{1} → sProp 𝕄) (zb : Fin 4) (v : FVec F S256x128 .f32) (f : (kA.buf h).view.ty.Contents (Elt F)) (K : PK F) :
    slotP c h j sl f ⊢ iprop((slotP c h j sl (((kA.buf h).access (rZb j sl zb)).write (Elt F) f (unflat v) Finset.univ) -∗ WP c K Kt)
      -∗ WP c (stNew (kA.buf h) j sl zb v K) Kt) := by
  unfold slotP stNew
  iintro H Hk
  iapply (wp_load_rect 𝒱₀ (c : Thread nD τ) none Set.univ (m := kA.buf h) (r := rZb j sl zb) (rows_subset _ j sl _ _)) $$ H; iintro H
  iapply (wp_store 𝒱₀ (c : Thread nD τ) none Set.univ (m := kA.buf h) (r := rZb j sl zb) (Mk := Finset.univ)
    (by rw [View.setOn_univ]; exact rows_subset _ j sl _ _)) $$ H; iintro H
  iapply Hk; iexact H

theorem wp_stAdd (Kt : PUnit.{1} → sProp 𝕄) (zb : Fin 4) (v : FVec F S256x128 .f32) (f : (kA.buf h).view.ty.Contents (Elt F)) (K : PK F) :
    slotP c h j sl f ⊢ iprop((slotP c h j sl (((kA.buf h).access (rZb j sl zb)).write (Elt F) f
          (unflat (addf (rd (kA.buf h) j sl (256 * zb.val) (zrow_le zb) f) v)) Finset.univ) -∗ WP c K Kt)
      -∗ WP c (stAdd (kA.buf h) j sl zb v K) Kt) := by
  unfold slotP stAdd
  iintro H Hk
  iapply (wp_load_rect 𝒱₀ (c : Thread nD τ) none Set.univ (m := kA.buf h) (r := rZb j sl zb) (rows_subset _ j sl _ _)) $$ H; iintro H
  iapply (wp_load_rect 𝒱₀ (c : Thread nD τ) none Set.univ (m := kA.buf h) (r := rZb j sl zb) (rows_subset _ j sl _ _)) $$ H; iintro H
  iapply (wp_store 𝒱₀ (c : Thread nD τ) none Set.univ (m := kA.buf h) (r := rZb j sl zb) (Mk := Finset.univ)
    (by rw [View.setOn_univ]; exact rows_subset _ j sl _ _)) $$ H; iintro H
  iapply Hk; iexact H

/-- A store of row block `zb` changes what that block reads. -/
theorem rd_store (zb zb' : Fin 4) (f : (kA.buf h).view.ty.Contents (Elt F)) (v : FVec F S256x128 .f32) :
    rd (kA.buf h) j sl (256 * zb'.val) (zrow_le zb') (((kA.buf h).access (rZb j sl zb)).write (Elt F) f (unflat v) Finset.univ)
      = if zb' = zb then v else rd (kA.buf h) j sl (256 * zb'.val) (zrow_le zb') f := by
  split
  · subst zb'; exact rd_store_same _ _ _ _ _ _ _
  · exact rd_store_other _ _ _ (by assumption) _ _ _ _

theorem four {A : Type} (zb : Fin 4) (v : Fin 4 → A) (x : A) :
    (if zb = 3 then v 3 else if zb = 2 then v 2 else if zb = 1 then v 1 else if zb = 0 then v 0 else x) = v zb := by
  match zb with
  | 0 => rfl
  | 1 => rfl
  | 2 => rfl
  | 3 => rfl

/-- The four stores of a first hop leave its products; -/
theorem wp_stNew4 (Kt : PUnit.{1} → sProp 𝕄) (v : Fin 4 → FVec F S256x128 .f32) (K : PK F) :
    slotE c h j sl ⊢ iprop((slotR c h j sl v -∗ WP c K Kt)
      -∗ WP c (stNew (kA.buf h) j sl 0 (v 0) <| stNew (kA.buf h) j sl 1 (v 1) <| stNew (kA.buf h) j sl 2 (v 2) <| stNew (kA.buf h) j sl 3 (v 3) K) Kt) := by
  unfold slotE
  iintro ⟨%f, H⟩ Hk
  iapply (wp_stNew c h j sl Kt 0) $$ H; iintro H
  iapply (wp_stNew c h j sl Kt 1) $$ H; iintro H
  iapply (wp_stNew c h j sl Kt 2) $$ H; iintro H
  iapply (wp_stNew c h j sl Kt 3) $$ H; iintro H
  iapply Hk
  unfold slotR
  iexists _
  isplitr [H]; rotate_left
  · iexact H
  · ipureintro
    intro zb
    simp only [rd_store]
    exact four zb v _

/-- of a later hop, its products added to what arrived. -/
theorem wp_stAdd4 (Kt : PUnit.{1} → sProp 𝕄) (u v : Fin 4 → FVec F S256x128 .f32) (K : PK F) :
    slotR c h j sl u ⊢ iprop((slotR c h j sl (fun zb => addf (u zb) (v zb)) -∗ WP c K Kt)
      -∗ WP c (stAdd (kA.buf h) j sl 0 (v 0) <| stAdd (kA.buf h) j sl 1 (v 1) <| stAdd (kA.buf h) j sl 2 (v 2) <| stAdd (kA.buf h) j sl 3 (v 3) K) Kt) := by
  conv_lhs => unfold slotR
  iintro ⟨%f, %hf, H⟩ Hk
  iapply (wp_stAdd c h j sl Kt 0) $$ H; iintro H
  iapply (wp_stAdd c h j sl Kt 1) $$ H; iintro H
  iapply (wp_stAdd c h j sl Kt 2) $$ H; iintro H
  iapply (wp_stAdd c h j sl Kt 3) $$ H; iintro H
  iapply Hk
  unfold slotR
  iexists _
  isplitr [H]; rotate_left
  · iexact H
  · ipureintro
    intro zb
    simp only [rd_store, hf, Fin.reduceEq, if_false]
    exact four zb (fun zb => addf (u zb) (v zb)) _

end Slots

/-! ## Sends and waits -/

/-- Device `c` owes `O`. -/
def Ow (O : CellTallies nD τ sig Unit) : sProp 𝕄 := iprop(∃ W, owes (c : Thread nD τ) O W)

theorem duty_mem (d : Dev nD) (x : Fin 4 × Ix3) : (0 : Fin 5) ∈ (Rd I).duties (cell d (.inr x)) 0 := by
  rw [duties_cell]; exact Finset.mem_singleton_self _

/-- A send to device `d`: what goes out is handed to its send semaphore, what it lands in to the arrival semaphore. -/
theorem wp_send (Kt : PUnit.{1} → sProp 𝕄) {sh : Shape} (a b : Memref sig .tc .vmem sh .f32) (d : Dev nD) (x y : Fin 4 × Ix3) (n : ℕ)
    (hx : amt (.inr x) = n) (hy : amt (.inr y) = n) (hn : b.view.amount (csem (.inr y)) = n)
    (fs : Buf (Elt F) (a.view.loc (c : Thread nD τ))) (fd : Buf (Elt F) (b.view.loc (d : Thread nD τ)))
    (O₀ O : CellTallies nD τ sig Unit) (hO : O₀ = O + tallyAt (cell d (.inr y)) () n)
    (hp₁ : (a.view.loc (c : Thread nD τ) ↦[a.view.set]{fullShare} fs) ⊢ pay I c (.inr x) 0)
    (hp₂ : (b.view.loc (d : Thread nD τ) ↦[b.view.set]{fullShare} (b.view.write (Elt F) fd (a.view.read (Elt F) fs) Finset.univ)) ⊢ pay I d (.inr y) 0)
    {hsc : b.view.ref.isScScratch = false} {ha : a.view.WordExact} {hb : b.view.WordExact}
    {hsem : DmaTarget.Typed .vmem (csem (.inr y)) (.remote (Dev.tc d : Thread nD τ) b (csem (.inr x)) hsc)} (K : PK F) :
    iprop(recs I N ∗ (a.view.loc (c : Thread nD τ) ↦[a.view.set]{fullShare} fs) ∗ (b.view.loc (d : Thread nD τ) ↦[b.view.set]{fullShare} fd)
        ∗ Ow c O₀ ∗ dutyTok ER (cell c (.inr x)) 0 0 ∗ dutyTok ER (cell d (.inr y)) 0 0)
      ⊢ iprop(((cred (tallyAt (cell c (.inr x)) () n) ∗ Ow c O) -∗ WP c K Kt)
          -∗ WP c (.op (.enqueueDma a (.remote (Dev.tc d : Thread nD τ) b (csem (.inr x)) hsc) (csem (.inr y)) ha hb hsem) fun _ => K) Kt) := by
  unfold Ow
  iintro ⟨#Hr, Hs, Hd, ⟨%W, HO⟩, Ht1, Ht2⟩ Hk
  ihave #H1 := (recs_cell I N c (.inr x)) $$ Hr
  ihave #H2 := (recs_cell I N d (.inr y)) $$ Hr
  icases H1 with ⟨#Hi1, #Hr1⟩
  icases H2 with ⟨#Hi2, #Hr2⟩
  iapply (Rounds.wp_send_pointsTo 𝒱₀ ER (Rd I) (c : Thread nD τ) none (κ₁ := N (c, .inr x)) (κ₂ := N (d, .inr y))
    (r₁ := 0) (r₂ := 0) (d₁ := 0) (d₂ := 0) (fd := fd) (fs := fs) (c' := (d : Thread nD τ)) (src := a) (dst := b) (sS := csem (.inr x)) (sem := csem (.inr y)) (duty_mem I c x) (duty_mem I d y)
    () () n hn ((amount_cell I c (.inr x) 0).trans hx) ((amount_cell I d (.inr y) 0).trans hy) O hO (W := W)
    (by rw [payload_cell]; exact hp₁) (by rw [payload_cell]; exact hp₂)) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A wait for the whole of a semaphore's round: what it hands over comes, and the semaphore is done with, at zero. -/
theorem wp_wait (Kt : PUnit.{1} → sProp 𝕄) {w : TpuEff nD τ sig (Elt F) Λ₀ .tc PUnit} (k : Kd) (n : ℕ)
    (hw : ∀ K : PUnit → sProp 𝕄, wpE (defs₀ (F := F)) 𝒱₀ (c : Thread nD τ) none Set.univ w K = waitSpec (c : Thread nD τ) Set.univ (csem k) n K)
    (hk : (Rd I).expect (cell c k) 0 = n) (O : CellTallies nD τ sig Unit) (hO : Above (klv k) O) (K : PK F) :
    iprop(recs I N ∗ cred (tallyAt (cell c k) () n) ∗ Ow c O ∗ atPos ER (cell c k) 0 ∅ 0)
      ⊢ iprop(((bigSep (dutiesOf k) (fun i => pay I c k i) ∗ semVal (cell c k) 0 ∗ Ow c O) -∗ WP c K Kt) -∗ WP c (.op w fun _ => K) Kt) := by
  unfold Ow
  iintro ⟨#Hr, Hc, ⟨%W, HO⟩, Hat⟩ Hk
  ihave #H1 := (recs_cell I N c k) $$ Hr
  ihave #Hl := (recs_lev I N) $$ Hr
  icases H1 with ⟨#Hi, -⟩
  iapply (Rounds.wp_wait_rest_token 𝒱₀ ER (Rd I) (c : Thread nD τ) none (κ := N (c, k)) hw (Set.mem_univ _) () (O := O) (W := W) (R := 0) (m := 0) (T := ∅)
    (by rw [Nat.zero_add]; exact hk.symm)) $$ [Hc HO Hat]
  · isplitr; · iexact Hi
    isplitl [Hc]; · iexact Hc
    isplitl [HO]; · iexact HO
    isplitr; · iapply (mayWait hO c (csem k) (le_of_eq (lv_cell c k))); iexact Hl
    iexact Hat
  iintro ⟨HO, Hat, -, Hp⟩
  ihave Hp := (Entails.of_eq (rest_cell I c k)) $$ Hp
  imod (Rounds.cell_close ER (Rd I) (Set.mem_univ (N (c, k))) (fun h => h) (R := 0 + 1) (duties_later I (cell c k))) $$ [Hat] with Hz
  · isplitr; · iexact Hi
    iexact Hat
  iapply Hk
  isplitl [Hp]; · iexact Hp
  isplitl [Hz]; · iexact Hz
  iexists _; iexact HO

/-- `wp_wait` at a transfer's semaphore: it hands over one thing. -/
theorem wp_waitD (Kt : PUnit.{1} → sProp 𝕄) (x : Fin 4 × Ix3) (q : DmaSem sig) (hq : csem (.inr x) = .dma q) {sp sp' : Space} {sh sh' : Shape} {e e' : EltTy}
    (a : Memref sig .tc sp sh e) (b : Memref sig .tc sp' sh' e') (n : ℕ) (hb : b.view.dmaCredit = n) (hn : amt (.inr x) = n)
    {h₁ : a.view.WordExact} {h₂ : b.view.WordExact} (O : CellTallies nD τ sig Unit) (hO : Above (klv (.inr x)) O) (K : PK F) :
    iprop(recs I N ∗ cred (tallyAt (cell c (.inr x)) () n) ∗ Ow c O ∗ atPos ER (cell c (.inr x)) 0 ∅ 0)
      ⊢ iprop(((pay I c (.inr x) 0 ∗ semVal (cell c (.inr x)) 0 ∗ Ow c O) -∗ WP c K Kt) -∗ WP c (.op (.waitDma2 q a b h₁ h₂) fun _ => K) Kt) := by
  have e : bigSep (dutiesOf (.inr x)) (fun i => pay I c (.inr x) i) = pay I c (.inr x) 0 := bigSep_singleton
  rw [← e]
  refine wp_wait I N c Kt (.inr x) n (fun K => ?_) ((expect_dma I c x).trans hn) O hO K
  rw [hq, ← hb]
  exact wpE_waitDma2_eq 𝒱₀ (c : Thread nD τ) none Set.univ K

theorem credit_slot (h : Fin 2) (j : Fin 8) (sl : Fin 4) : (slotV (kA.buf h) j sl).view.dmaCredit = N1 := rfl
theorem credit_rows (h : Fin 2) (j : Fin 8) (sl : Fin 4) (r : ℕ) (hr : r ≤ 768) : (rowsV (kA.buf h) j sl r hr).view.dmaCredit = N2 := rfl
theorem credit_p2 (j : Fin 8) (k : ℕ) (hk : k < 3) (h : Fin 2) : (p2V kA.p j k hk h).view.dmaCredit = N2 := rfl

/-- A hop's send: the slot goes out with its contents, the next device's slot becomes it. -/
theorem wp_send1 (Kt : PUnit.{1} → sProp 𝕄) (j : Fin 8) (h : Fin 2) (s : Fin 3) (O₀ O : CellTallies nD τ sig Unit)
    (hO : O₀ = O + tallyAt (cell (nxt h c) (krs j s h)) () N1) (K : PK F) :
    iprop(recs I N ∗ slotR c h j (src s) (sumH I c h j s.castSucc) ∗ slotE (nxt h c) h j s.castSucc ∗ Ow c O₀
        ∗ dutyTok ER (cell c (kss j s h)) 0 0 ∗ dutyTok ER (cell (nxt h c) (krs j s h)) 0 0)
      ⊢ iprop(((cred (tallyAt (cell c (kss j s h)) () N1) ∗ Ow c O) -∗ WP c K Kt) -∗ WP c (send1 kA c j h (src s) s K) Kt) := by
  conv_lhs => unfold slotR slotE
  iintro ⟨Hr, ⟨%f, %hf, Hs⟩, ⟨%g, Hd⟩, HO, Ht1, Ht2⟩ Hk
  unfold send1 slotP
  iapply (wp_send I N c Kt (slotV (kA.buf h) j (src s)) (slotV (kA.buf h) j s.castSucc) (nxt h c) (0, j, s, h) (1, j, s, h) N1 rfl rfl
    (credit_slot h j s.castSucc) f g O₀ O hO
    (by
      show _ ⊢ slotE c h j (src s)
      unfold slotE slotP
      iintro H; iexists f; iexact H)
    (by
      show _ ⊢ slotR (nxt h c) h j s.castSucc (sumH I (prv h (nxt h c)) h j s.castSucc)
      rw [prv_nxt]
      unfold slotR slotP
      iintro H; iexists _
      isplitr [H]; rotate_left
      · iexact H
      · ipureintro; intro zb; rw [rd_sent]; exact hf zb)) $$ [Hr Hs Hd HO Ht1 Ht2]
  · isplitl [Hr]; · iexact Hr
    isplitl [Hs]; · iexact Hs
    isplitl [Hd]; · iexact Hd
    isplitl [HO]; · iexact HO
    isplitl [Ht1] <;> iassumption
  iexact Hk

/-- Waiting for a hop's arrival: the slot with the previous device's sums. -/
theorem wp_recv1 (Kt : PUnit.{1} → sProp 𝕄) (j : Fin 8) (h : Fin 2) (s : Fin 3) (O : CellTallies nD τ sig Unit)
    (hO : Above (klv (krs j s h)) O) (K : PK F) :
    iprop(recs I N ∗ cred (tallyAt (cell c (krs j s h)) () N1) ∗ Ow c O ∗ atPos ER (cell c (krs j s h)) 0 ∅ 0)
      ⊢ iprop(((slotR c h j s.castSucc (sumH I (prv h c) h j s.castSucc) ∗ semVal (cell c (krs j s h)) 0 ∗ Ow c O) -∗ WP c K Kt)
          -∗ WP c (recv1 kA j h s K) Kt) := by
  exact wp_waitD I N c Kt (1, j, s, h) _ rfl (slotV (kA.buf h) j 3) (slotV (kA.buf h) j s.castSucc) N1 (credit_slot h j s.castSucc) rfl O hO K

/-- Waiting until a hop's slot has left: the slot. -/
theorem wp_sent1 (Kt : PUnit.{1} → sProp 𝕄) (j : Fin 8) (h : Fin 2) (s : Fin 3) (O : CellTallies nD τ sig Unit)
    (hO : Above 0 O) (K : PK F) :
    iprop(recs I N ∗ cred (tallyAt (cell c (kss j s h)) () N1) ∗ Ow c O ∗ atPos ER (cell c (kss j s h)) 0 ∅ 0)
      ⊢ iprop(((slotE c h j (src s) ∗ semVal (cell c (kss j s h)) 0 ∗ Ow c O) -∗ WP c K Kt)
          -∗ WP c (sent1 kA j h (src s) s K) Kt) := by
  exact wp_waitD I N c Kt (0, j, s, h) _ rfl (slotV (kA.buf h) j s.castSucc) (slotV (kA.buf h) j (src s)) N1 (credit_slot h j (src s)) rfl O hO K

/-- The send of a half block across the planes. -/
theorem wp_send2 (Kt : PUnit.{1} → sProp 𝕄) (j : Fin 8) (k : Fin 3) (h : Fin 2) (O₀ O : CellTallies nD τ sig Unit)
    (hO : O₀ = O + tallyAt (cell (zP c k) (kr2 j (krF c k) h)) () N2) (K : PK F) :
    iprop(recs I N ∗ rowR c h j (zO (zP c k)) (sumH I c h j 3 (zO (zP c k))) ∗ p2E (zP c k) j (krF c k) h ∗ Ow c O₀
        ∗ dutyTok ER (cell c (ks2 j k h)) 0 0 ∗ dutyTok ER (cell (zP c k) (kr2 j (krF c k) h)) 0 0)
      ⊢ iprop(((cred (tallyAt (cell c (ks2 j k h)) () N2) ∗ Ow c O) -∗ WP c K Kt) -∗ WP c (send2 kA c j k h K) Kt) := by
  conv_lhs => unfold rowR p2E
  iintro ⟨Hr, ⟨%f, %hf, Hs⟩, ⟨%g, Hd⟩, HO, Ht1, Ht2⟩ Hk
  unfold send2 rowP p2P
  have hd := dzRow_eq c k
  generalize_proofs at *
  generalize dzRow c k = r at *
  subst hd
  iapply (wp_send I N c Kt (rowsV (kA.buf h) j 2 (256 * (zO (zP c k)).val) (zrow_le _)) (p2V kA.p j (kr c k) (kr_lt c k) h) (zP c k) (2, j, k, h)
    (3, j, krF c k, h) N2 rfl rfl (credit_p2 j _ _ h) f g O₀ O hO
    (by
      show _ ⊢ rowE c h j (zO (zP c k))
      unfold rowE rowP
      iintro H; iexists f; iexact H)
    (by
      show _ ⊢ p2R (zP c k) j (krF c k) h (sumH I (zP (zP c k) (krF c k)) h j 3 (zO (zP c k)))
      rw [zP_zP]
      unfold p2R p2P
      iintro H; iexists _
      isplitr [H]; rotate_left
      · iexact H
      · ipureintro; exact (rdP_sent _ _ _ _ _ _ _).trans hf)) $$ [Hr Hs Hd HO Ht1 Ht2]
  · isplitl [Hr]; · iexact Hr
    isplitl [Hs]; · iexact Hs
    isplitl [Hd]; · iexact Hd
    isplitl [HO]; · iexact HO
    isplitl [Ht1] <;> iassumption
  iexact Hk

theorem wp_recv2 (Kt : PUnit.{1} → sProp 𝕄) (j : Fin 8) (k : Fin 3) (h : Fin 2) (O : CellTallies nD τ sig Unit)
    (hO : Above (klv (kr2 j k h)) O) (K : PK F) :
    iprop(recs I N ∗ cred (tallyAt (cell c (kr2 j k h)) () N2) ∗ Ow c O ∗ atPos ER (cell c (kr2 j k h)) 0 ∅ 0)
      ⊢ iprop(((p2R c j k h (sumH I (zP c k) h j 3 (zO c)) ∗ semVal (cell c (kr2 j k h)) 0 ∗ Ow c O) -∗ WP c K Kt)
          -∗ WP c (recv2 kA j k h K) Kt) := by
  exact wp_waitD I N c Kt (3, j, k, h) _ rfl (p2V kA.p j k.val k.isLt h) (p2V kA.p j k.val k.isLt h) N2 (credit_p2 j k.val k.isLt h) rfl O hO K

theorem wp_sent2 (Kt : PUnit.{1} → sProp 𝕄) (j : Fin 8) (k : Fin 3) (h : Fin 2) (O : CellTallies nD τ sig Unit)
    (hO : Above 0 O) (K : PK F) :
    iprop(recs I N ∗ cred (tallyAt (cell c (ks2 j k h)) () N2) ∗ Ow c O ∗ atPos ER (cell c (ks2 j k h)) 0 ∅ 0)
      ⊢ iprop(((rowE c h j (zO (zP c k)) ∗ semVal (cell c (ks2 j k h)) 0 ∗ Ow c O) -∗ WP c K Kt)
          -∗ WP c (sent2 kA c j k h K) Kt) := by
  exact wp_waitD I N c Kt (2, j, k, h) _ rfl (p2V kA.p j (kr c k) (kr_lt c k) h) (rowsV (kA.buf h) j 2 (dzRow c k) (dzRow_le c k)) N2 (credit_rows h j 2 (dzRow c k) (dzRow_le c k)) rfl O hO K

/-! ## The four row blocks of a slot -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The row blocks of slot 2, in the partners' order. -/
theorem rows_zA (Φ : Fin 4 → sProp 𝕄) : bigSep Finset.univ Φ = iprop(Φ (zO (zP c 0)) ∗ Φ (zO (zP c 1)) ∗ Φ (zO (zP c 2)) ∗ Φ (zO c)) := by
  rw [bigSep_univ_equiv (Equiv.ofBijective (zA c) (zA_bij c)) Φ, bigSep_fin4]; rfl

theorem rowsV_disjoint (h : Fin 2) (j : Fin 8) (zb zb' : Fin 4) (hz : zb ≠ zb') :
    Disjoint (rowsV (kA.buf h) j 2 (256 * zb.val) (zrow_le zb)).view.set (rowsV (kA.buf h) j 2 (256 * zb'.val) (zrow_le zb')).view.set := by
  rw [rowsV_set, rowsV_set]; exact rows_disjoint _ hz
theorem rowsV_cover (h : Fin 2) (j : Fin 8) :
    (Finset.univ.biUnion fun zb : Fin 4 => (rowsV (kA.buf h) j 2 (256 * zb.val) (zrow_le zb)).view.set) = (slotV (kA.buf h) j 2).view.set := by
  rw [← rows_cover]; exact Finset.biUnion_congr rfl fun zb _ => rowsV_set _ _ _ _ _

/-- Slot 2 is its row blocks; -/
theorem slot_split (h : Fin 2) (j : Fin 8) (v : Fin 4 → FVec F S256x128 .f32) :
    slotR c h j 2 v ⊢ iprop(rowR c h j (zO (zP c 0)) (v (zO (zP c 0))) ∗ rowR c h j (zO (zP c 1)) (v (zO (zP c 1)))
      ∗ rowR c h j (zO (zP c 2)) (v (zO (zP c 2))) ∗ rowR c h j (zO c) (v (zO c))) := by
  rw [← rows_zA c (fun zb => rowR c h j zb (v zb))]
  have e (f : (kA.buf h).view.ty.Contents (Elt F)) (hf : ∀ zb : Fin 4, rd (kA.buf h) j 2 (256 * zb.val) (zrow_le zb) f = v zb) :
      slotP c h j 2 f ⊢ bigSep Finset.univ fun zb => rowR c h j zb (v zb) := by
    unfold slotP
    rw [Ring.pointsTo_sub_blocks (ℓ := (slotV (kA.buf h) j 2).view.loc (c : Thread nD τ)) _ (rowsV_disjoint h j) _ (rowsV_cover h j) f]
    refine bigSep_mono fun zb _ => ?_
    show _ ⊢ rowR c h j zb (v zb)
    unfold rowR rowP
    iintro H; iexists f
    isplitr [H]; · ipureintro; exact hf zb
    iexact H
  unfold slotR
  iintro ⟨%f, %hf, H⟩
  iapply (e f hf); iexact H
def zbuf (h : Fin 2) : (kA.buf h).view.ty.Contents (Elt F) :=
  match h with
  | 0 => fun _ => (FloatOps.ofBits .f32 0#32 : F .f32)
  | 1 => fun _ => (FloatOps.ofBits .f32 0#32 : F .f32)

/-- and they are slot 2. -/
theorem slot_join (h : Fin 2) (j : Fin 8) :
    iprop(rowE c h j (zO (zP c 0)) ∗ rowE c h j (zO (zP c 1)) ∗ rowE c h j (zO (zP c 2)) ∗ rowE c h j (zO c)) ⊢ slotE (F := F) c h j 2 := by
  rw [← rows_zA c (fun zb => rowE (F := F) c h j zb)]
  unfold slotE slotP rowE rowP
  exact Ring.pointsTo_sub_blocks_join_exists (ℓ := (slotV (kA.buf h) j 2).view.loc (c : Thread nD τ)) _ (rowsV_disjoint h j) _ (rowsV_cover h j)
    (zbuf h)

/-! ## The result -/

/-- The staged block of the result, holding `g`. -/
def outP (g : kA.o.view.ty.Contents (Elt F)) : sProp 𝕄 := kA.o.view.loc (c : Thread nD τ) ↦{fullShare} g

/-- A store of half chunk `(j, h)` changes what that half chunk reads. -/
theorem col_store (j j' : Fin 8) (h h' : Fin 2) (g : kA.o.view.ty.Contents (Elt F)) (v : FVec F S256x128 .f32) :
    (kA.o.access (rCol j' h')).read (Elt F) ((kA.o.access (rCol j h)).write (Elt F) g v Finset.univ)
      = if j' = j ∧ h' = h then v else (kA.o.access (rCol j' h')).read (Elt F) g := by
  split
  · rename_i e; obtain ⟨rfl, rfl⟩ := e; exact View.read_write_univ ..
  · rename_i e
    rw [View.read_slice_write_slice_of_disjoint]
    refine View.disjoint_slice (Finset.disjoint_left.mpr fun i hi hi' => e ?_)
    have h1 : 256 * j.val + 128 * h.val ≤ (i 1).val ∧ (i 1).val < 256 * j.val + 128 * h.val + 128 := Rect.mem_set_unit.mp hi' 1
    have h2 : 256 * j'.val + 128 * h'.val ≤ (i 1).val ∧ (i 1).val < 256 * j'.val + 128 * h'.val + 128 := Rect.mem_set_unit.mp hi 1
    constructor <;> apply Fin.ext <;> omega

theorem p2_sub (j : Fin 8) (k : Fin 3) (h : Fin 2) : (kA.p.access (rP2 j k.val k.isLt h)).set ⊆ (p2V kA.p j k.val k.isLt h).view.set := by
  rw [p2V_set]

/-- Half chunk `(j, h)` of the result is stored. -/
theorem wp_emit (Kt : PUnit.{1} → sProp 𝕄) (j : Fin 8) (h : Fin 2) (g : kA.o.view.ty.Contents (Elt F)) (K : PK F) :
    iprop(rowR c h j (zO c) (sumH I c h j 3 (zO c)) ∗ p2R c j 0 h (sumH I (zP c 0) h j 3 (zO c)) ∗ p2R c j 1 h (sumH I (zP c 1) h j 3 (zO c))
        ∗ p2R c j 2 h (sumH I (zP c 2) h j 3 (zO c)) ∗ outP c g)
      ⊢ iprop(((rowE c h j (zO c) ∗ p2E c j 0 h ∗ p2E c j 1 h ∗ p2E c j 2 h
            ∗ outP c ((kA.o.access (rCol j h)).write (Elt F) g (res I c j h) Finset.univ)) -∗ WP c K Kt)
          -∗ WP c (emit kA c j h K) Kt) := by
  conv_lhs => unfold rowR p2R
  iintro ⟨⟨%f, %hf, Hs⟩, ⟨%f0, %h0, H0⟩, ⟨%f1, %h1, H1⟩, ⟨%f2, %h2, H2⟩, Ho⟩ Hk
  unfold emit
  have ho := ownRow_eq c
  generalize_proofs at *
  generalize ownRow c = r at *
  subst ho
  unfold rowP p2P outP
  iapply (wp_load_rect 𝒱₀ (c : Thread nD τ) none Set.univ (m := kA.buf h) (by rw [rowsV_set])) $$ Hs; iintro Hs
  iapply (wp_load_rect 𝒱₀ (c : Thread nD τ) none Set.univ (m := kA.p) (r := rP2 j 0 ((0 : Fin 3).isLt) h) (p2_sub j 0 h)) $$ H0; iintro H0
  iapply (wp_load_rect 𝒱₀ (c : Thread nD τ) none Set.univ (m := kA.p) (r := rP2 j 1 ((1 : Fin 3).isLt) h) (p2_sub j 1 h)) $$ H1; iintro H1
  iapply (wp_load_rect 𝒱₀ (c : Thread nD τ) none Set.univ (m := kA.p) (r := rP2 j 2 ((2 : Fin 3).isLt) h) (p2_sub j 2 h)) $$ H2; iintro H2
  iapply (wp_load_rect 𝒱₀ (c : Thread nD τ) none Set.univ (m := kA.o) (r := rCol j h) (Finset.subset_univ _)) $$ Ho; iintro Ho
  iapply (wp_store 𝒱₀ (c : Thread nD τ) none Set.univ (m := kA.o) (r := rCol j h) (Mk := Finset.univ) (Finset.subset_univ _)) $$ Ho; iintro Ho
  iapply Hk
  unfold rowE p2E rowP p2P
  isplitl [Hs]; · iexists f; iexact Hs
  isplitl [H0]; · iexists f0; iexact H0
  isplitl [H1]; · iexists f1; iexact H1
  isplitl [H2]; · iexists f2; iexact H2
  have e : res I c j h = fin ((((kA.buf h).access (rRows j 2 (256 * (zO c).val) (zrow_le _))).read (Elt F) f)) ((kA.p.access (rP2 j 0 ((0 : Fin 3).isLt) h)).read (Elt F) f0)
      ((kA.p.access (rP2 j 1 ((1 : Fin 3).isLt) h)).read (Elt F) f1) ((kA.p.access (rP2 j 2 ((2 : Fin 3).isLt) h)).read (Elt F) f2) := by
    rw [fin_eq]; unfold res; rw [← hf, ← h0, ← h1, ← h2]; rfl
  rw [e]; iexact Ho

end Cert.KernelIdeal.K

end
-- ==== Proof.K.Chunk.lean ====
/- What a device holds of one column chunk between two steps of the schedule, and each step executed: the chunk's
   position moves by one. -/
module

public import proofs.«01_k».proof.Proof.K.Steps

@[expose] public section

set_option maxRecDepth 16384

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (N : Dev nD × Kd → ℕ) (c : Dev nD)

/-! ## One transfer's share -/

/-- Before hop `s` of direction `h` is sent: the two duties, the place it lands in, the turn at its send semaphore; -/
def sndR (j : Fin 8) (s : Fin 3) (h : Fin 2) : sProp 𝕄 :=
  iprop(dutyTok ER (cell c (kss j s h)) 0 0 ∗ dutyTok ER (cell (nxt h c) (krs j s h)) 0 0 ∗ slotE (nxt h c) h j s.castSucc
    ∗ atPos ER (cell c (kss j s h)) 0 ∅ 0)
/-- after: the credit to wait for it. -/
def sntR (j : Fin 8) (s : Fin 3) (h : Fin 2) : sProp 𝕄 :=
  iprop(cred (tallyAt (cell c (kss j s h)) () N1) ∗ atPos ER (cell c (kss j s h)) 0 ∅ 0)
/-- After the wait: what was sent from, and the semaphore at rest. -/
def gonR (j : Fin 8) (s : Fin 3) (h : Fin 2) : sProp 𝕄 :=
  iprop(slotE c h j (src s) ∗ semVal (cell c (kss j s h)) 0)
/-- Before hop `s`'s arrival is waited for. -/
def rcvR (j : Fin 8) (s : Fin 3) (h : Fin 2) : sProp 𝕄 :=
  iprop(cred (tallyAt (cell c (krs j s h)) () N1) ∗ atPos ER (cell c (krs j s h)) 0 ∅ 0)

def sndA (j : Fin 8) (k : Fin 3) (h : Fin 2) : sProp 𝕄 :=
  iprop(dutyTok ER (cell c (ks2 j k h)) 0 0 ∗ dutyTok ER (cell (zP c k) (kr2 j (krF c k) h)) 0 0 ∗ p2E (zP c k) j (krF c k) h
    ∗ atPos ER (cell c (ks2 j k h)) 0 ∅ 0)
def sntA (j : Fin 8) (k : Fin 3) (h : Fin 2) : sProp 𝕄 :=
  iprop(cred (tallyAt (cell c (ks2 j k h)) () N2) ∗ atPos ER (cell c (ks2 j k h)) 0 ∅ 0)
def gonA (j : Fin 8) (k : Fin 3) (h : Fin 2) : sProp 𝕄 :=
  iprop(rowE c h j (zO (zP c k)) ∗ semVal (cell c (ks2 j k h)) 0)
def rcvA (j : Fin 8) (k : Fin 3) (h : Fin 2) : sProp 𝕄 :=
  iprop(cred (tallyAt (cell c (kr2 j k h)) () N2) ∗ atPos ER (cell c (kr2 j k h)) 0 ∅ 0)
/-- After the drain: the half block, and the semaphore at rest. -/
def dneA (j : Fin 8) (k : Fin 3) (h : Fin 2) : sProp 𝕄 :=
  iprop(p2E c j k h ∗ semVal (cell c (kr2 j k h)) 0)

/-- Both directions; -/
def both (P : Fin 2 → sProp 𝕄) : sProp 𝕄 := iprop(P 0 ∗ P 1)
/-- all partners across. -/
def all3 (P : Fin 3 → sProp 𝕄) : sProp 𝕄 := iprop(P 0 ∗ P 1 ∗ P 2)

/-! ## A chunk's state -/

/-- Chunk `j` before its step `p`: hops 0 to 3, the sends across, the drain. -/
def C (j : Fin 8) : ℕ → sProp 𝕄
  | 0 => iprop(both (fun h => slotE c h j 3) ∗ both (sndR c j 0) ∗ both (rcvR c j 0) ∗ both (sndR c j 1) ∗ both (rcvR c j 1) ∗ both (sndR c j 2) ∗ both (rcvR c j 2)
      ∗ all3 (fun k => both (sndA c j k)) ∗ all3 (fun k => both (rcvA c j k)))
  | 1 => iprop(both (sntR c j 0) ∗ both (rcvR c j 0) ∗ both (sndR c j 1) ∗ both (rcvR c j 1) ∗ both (sndR c j 2) ∗ both (rcvR c j 2)
      ∗ all3 (fun k => both (sndA c j k)) ∗ all3 (fun k => both (rcvA c j k)))
  | 2 => iprop(both (sntR c j 0) ∗ both (fun h => semVal (cell c (krs j 0 h)) 0) ∗ both (sntR c j 1) ∗ both (rcvR c j 1) ∗ both (sndR c j 2) ∗ both (rcvR c j 2)
      ∗ all3 (fun k => both (sndA c j k)) ∗ all3 (fun k => both (rcvA c j k)))
  | 3 => iprop(both (sntR c j 0) ∗ both (fun h => semVal (cell c (krs j 0 h)) 0) ∗ both (sntR c j 1) ∗ both (fun h => semVal (cell c (krs j 1 h)) 0) ∗ both (sntR c j 2) ∗ both (rcvR c j 2)
      ∗ all3 (fun k => both (sndA c j k)) ∗ all3 (fun k => both (rcvA c j k)))
  | 4 => iprop(both (sntR c j 0) ∗ both (fun h => semVal (cell c (krs j 0 h)) 0) ∗ both (sntR c j 1) ∗ both (fun h => semVal (cell c (krs j 1 h)) 0) ∗ both (sntR c j 2) ∗ both (fun h => semVal (cell c (krs j 2 h)) 0)
      ∗ all3 (fun k => both (sndA c j k)) ∗ all3 (fun k => both (rcvA c j k)) ∗ both (fun h => slotR c h j 2 (sumH I c h j 3)))
  | 5 => iprop(both (sntR c j 0) ∗ both (fun h => semVal (cell c (krs j 0 h)) 0) ∗ both (sntR c j 1) ∗ both (fun h => semVal (cell c (krs j 1 h)) 0) ∗ both (sntR c j 2) ∗ both (fun h => semVal (cell c (krs j 2 h)) 0)
      ∗ all3 (fun k => both (sntA c j k)) ∗ all3 (fun k => both (rcvA c j k)) ∗ both (fun h => rowR c h j (zO c) (sumH I c h j 3 (zO c))))
  | _ => iprop(both (sntR c j 0) ∗ both (fun h => semVal (cell c (krs j 0 h)) 0) ∗ both (sntR c j 1) ∗ both (fun h => semVal (cell c (krs j 1 h)) 0) ∗ both (sntR c j 2) ∗ both (fun h => semVal (cell c (krs j 2 h)) 0)
      ∗ all3 (fun k => both (sntA c j k)) ∗ all3 (fun k => both (dneA c j k)) ∗ both (fun h => rowE c h j (zO c)))

/-- Chunk `j` while the device waits for what it sent: what is left of the sends, and what is at rest. -/
def rest (j : Fin 8) (X0 X1 X2 X3 : sProp 𝕄) : sProp 𝕄 :=
  iprop(X0 ∗ X1 ∗ X2 ∗ X3 ∗ all3 (fun s => both fun h => semVal (cell c (krs j s h)) 0) ∗ all3 (fun k => both (dneA c j k)) ∗ both (fun h => rowE c h j (zO c)))
/-- The same before its step `p`. -/
def D (j : Fin 8) : ℕ → sProp 𝕄
  | 0 => rest c j (both (sntR c j 0)) (both (sntR c j 1)) (both (sntR c j 2)) (all3 (fun k => both (sntA c j k)))
  | 1 => rest c j (both (gonR c j 0)) (both (sntR c j 1)) (both (sntR c j 2)) (all3 (fun k => both (sntA c j k)))
  | 2 => rest c j (both (gonR c j 0)) (both (gonR c j 1)) (both (sntR c j 2)) (all3 (fun k => both (sntA c j k)))
  | 3 => rest c j (both (gonR c j 0)) (both (gonR c j 1)) (both (gonR c j 2)) (all3 (fun k => both (sntA c j k)))
  | 4 => rest c j (both (gonR c j 0)) (both (gonR c j 1)) (both (gonR c j 2)) (all3 (fun k => both (sntA c j k)))
  | _ => rest c j (both (gonR c j 0)) (both (gonR c j 1)) (both (gonR c j 2)) (all3 (fun k => both (gonA c j k)))

theorem C_end (j : Fin 8) : C I c j 6 ⊢ D (F := F) c j 0 := by
  show iprop(_ ∗ _ ∗ _ ∗ _ ∗ _ ∗ _ ∗ _ ∗ _ ∗ _) ⊢ rest c j _ _ _ _
  unfold rest
  iintro ⟨H0, G0, H1, G1, H2, G2, H3, H4, H5⟩
  unfold all3
  iframe

/-! ## Levels -/

theorem Above.left {n : ℕ} {O O' : CellTallies nD τ sig Unit} (h : Above n (O + O')) : Above n O := fun g u hp =>
  h g u (by rw [Pi.add_apply, Finsupp.add_apply]; omega)

/-! ## Hops -/

/-- What hop `s` of a direction owes. -/
def ow1 (j : Fin 8) (s : Fin 3) (h : Fin 2) : CellTallies nD τ sig Unit := tallyAt (cell (nxt h c) (krs j s h)) () N1
def ow2 (j : Fin 8) (k : Fin 3) (h : Fin 2) : CellTallies nD τ sig Unit := tallyAt (cell (zP c k) (kr2 j (krF c k) h)) () N2

/-- A send of slot `src s`. -/
theorem wp_sendR (Kt : PUnit.{1} → sProp 𝕄) (j : Fin 8) (h : Fin 2) (s : Fin 3) (O : CellTallies nD τ sig Unit) (K : PK F) :
    iprop(recs I N ∗ slotR c h j (src s) (sumH I c h j s.castSucc) ∗ sndR c j s h ∗ Ow c (O + ow1 c j s h))
      ⊢ iprop(((sntR c j s h ∗ Ow c O) -∗ WP c K Kt) -∗ WP c (send1 kA c j h (src s) s K) Kt) := by
  unfold sndR sntR
  iintro ⟨Hr, Hs, ⟨Ht, Ht', Hd, Ha⟩, HO⟩ Hk
  iapply (wp_send1 I N c Kt j h s (O + ow1 c j s h) O rfl K) $$ [Hr Hs Hd HO Ht Ht']
  · iframe
  iintro ⟨Hc, HO⟩
  iapply Hk
  iframe

/-- The first hop of a direction. -/
theorem wp_hop0 (Kt : PUnit.{1} → sProp 𝕄) (j : Fin 8) (h : Fin 2) (O : CellTallies nD τ sig Unit) (K : PK F) :
    iprop(recs I N ∗ xwP I c ∗ slotE c h j 3 ∗ sndR c j 0 h ∗ Ow c (O + ow1 c j 0 h))
      ⊢ iprop(((xwP I c ∗ sntR c j 0 h ∗ Ow c O) -∗ WP c K Kt) -∗ WP c (hop kA c j h 0 K) Kt) := by
  iintro ⟨Hr, Hx, Hs, Hn, HO⟩ Hk
  unfold hop
  iapply (wp_prods I c Kt j h 0) $$ Hx; iintro Hx
  iapply (wp_stNew4 c h j 3 Kt (fun zb => part I c h j 0 zb)) $$ Hs; iintro Hs
  iapply (wp_sendR I N c Kt j h 0 O K) $$ [Hr Hs Hn HO]
  · isplitl [Hr]; · iexact Hr
    isplitl [Hs]; · iexact Hs
    iframe
  iintro ⟨Hn, HO⟩
  iapply Hk
  iframe

/-- Hop `t + 1` of a direction up to its send. -/
theorem wp_hopAdd (Kt : PUnit.{1} → sProp 𝕄) (j : Fin 8) (h : Fin 2) (t : Fin 3) (O : CellTallies nD τ sig Unit) (hO : Above (klv (krs j t h)) O) (K : PK F) :
    iprop(recs I N ∗ xwP I c ∗ rcvR c j t h ∗ Ow c O)
      ⊢ iprop(((xwP I c ∗ slotR c h j t.castSucc (sumH I c h j t.succ) ∗ semVal (cell c (krs j t h)) 0 ∗ Ow c O) -∗ WP c K Kt)
          -∗ WP c (hopAdd kA c j h t K) Kt) := by
  unfold rcvR
  iintro ⟨Hr, Hx, ⟨Hc, Ha⟩, HO⟩ Hk
  unfold hopAdd
  iapply (wp_prods I c Kt j h t.succ) $$ Hx; iintro Hx
  iapply (wp_recv1 I N c Kt j h t O hO) $$ [Hr Hc HO Ha]
  · iframe
  iintro ⟨Hs, Hv, HO⟩
  iapply (wp_stAdd4 c h j t.castSucc Kt (sumH I (prv h c) h j t.castSucc) (fun zb => part I c h j t.succ zb)) $$ Hs; iintro Hs
  have e : (fun zb => addf (sumH I (prv h c) h j t.castSucc zb) (part I c h j t.succ zb)) = sumH I c h j t.succ :=
    funext fun zb => (sumH_succ I c h j t zb).symm
  rw [e]
  iapply Hk
  iframe

/-- Hop `t + 1` of a direction that is sent on as hop `t'`. -/
theorem wp_hopMid (Kt : PUnit.{1} → sProp 𝕄) (j : Fin 8) (h : Fin 2) (t t' : Fin 3) (h₁ : t.castSucc = src t') (h₂ : t.succ = t'.castSucc)
    (O : CellTallies nD τ sig Unit) (hO : Above (klv (krs j t h)) (O + ow1 c j t' h)) (K : PK F) :
    iprop(recs I N ∗ xwP I c ∗ rcvR c j t h ∗ sndR c j t' h ∗ Ow c (O + ow1 c j t' h))
      ⊢ iprop(((xwP I c ∗ sntR c j t' h ∗ semVal (cell c (krs j t h)) 0 ∗ Ow c O) -∗ WP c K Kt)
          -∗ WP c (hopAdd kA c j h t <| send1 kA c j h (src t') t' K) Kt) := by
  iintro ⟨#Hr, Hx, Hc, Hn, HO⟩ Hk
  iapply (wp_hopAdd I N c Kt j h t _ hO) $$ [Hx Hc HO]
  · iframe; iexact Hr
  rw [h₁, h₂]
  iintro ⟨Hx, Hs, Hv, HO⟩
  iapply (wp_sendR I N c Kt j h t' O K) $$ [Hs Hn HO]
  · isplitr; · iexact Hr
    iframe
  iintro ⟨Hn, HO⟩
  iapply Hk
  iframe

/-! ## The steps -/

/-- What chunk `j` owes by its step `p`. -/
def ow (j : Fin 8) : ℕ → CellTallies nD τ sig Unit
  | 0 => ow1 c j 0 0 + ow1 c j 0 1
  | 1 => ow1 c j 1 0 + ow1 c j 1 1
  | 2 => ow1 c j 2 0 + ow1 c j 2 1
  | 4 => ow2 c j 0 0 + ow2 c j 0 1 + ow2 c j 1 0 + ow2 c j 1 1 + ow2 c j 2 0 + ow2 c j 2 1
  | _ => 0

theorem wp_step0 (Kt : PUnit.{1} → sProp 𝕄) (j : Fin 8) (O : CellTallies nD τ sig Unit) (K : PK F) :
    iprop(recs I N ∗ xwP I c ∗ C I c j 0 ∗ Ow c (O + ow c j 0))
      ⊢ iprop(((xwP I c ∗ C I c j 1 ∗ Ow c O) -∗ WP c K Kt) -∗ WP c (step kA c K (.hops j 0)) Kt) := by
  have e : O + ow c j 0 = O + ow1 c j 0 1 + ow1 c j 0 0 := by show O + (ow1 c j 0 0 + ow1 c j 0 1) = _; ac_rfl
  rw [e]
  show iprop(recs I N ∗ xwP I c ∗ (both _ ∗ both _ ∗ _) ∗ _) ⊢ iprop(((_ ∗ (both _ ∗ _) ∗ _) -∗ _) -∗ WP c (hop kA c j 0 0 <| hop kA c j 1 0 K) Kt)
  unfold both
  iintro ⟨#Hr, Hx, ⟨⟨Hs0, Hs1⟩, ⟨Hn0, Hn1⟩, HC⟩, HO⟩ Hk
  iapply (wp_hop0 I N c Kt j 0 _) $$ [Hx Hs0 Hn0 HO]
  · isplitr; · iexact Hr
    iframe
  iintro ⟨Hx, Hn0, HO⟩
  iapply (wp_hop0 I N c Kt j 1 O) $$ [Hx Hs1 Hn1 HO]
  · isplitr; · iexact Hr
    iframe
  iintro ⟨Hx, Hn1, HO⟩
  iapply Hk
  iframe

theorem wp_stepMid (Kt : PUnit.{1} → sProp 𝕄) (j : Fin 8) (t t' : Fin 3) (h₁ : t.castSucc = src t') (h₂ : t.succ = t'.castSucc)
    (O : CellTallies nD τ sig Unit) (hO : Above (klv (krs j t 0)) (O + (ow1 c j t' 0 + ow1 c j t' 1))) (K : PK F) :
    iprop(recs I N ∗ xwP I c ∗ both (rcvR c j t) ∗ both (sndR c j t') ∗ Ow c (O + (ow1 c j t' 0 + ow1 c j t' 1)))
      ⊢ iprop(((xwP I c ∗ both (fun h => semVal (cell c (krs j t h)) 0) ∗ both (sntR c j t') ∗ Ow c O) -∗ WP c K Kt)
          -∗ WP c (hopAdd kA c j 0 t <| send1 kA c j 0 (src t') t' <| hopAdd kA c j 1 t <| send1 kA c j 1 (src t') t' K) Kt) := by
  have e : O + (ow1 c j t' 0 + ow1 c j t' 1) = O + ow1 c j t' 1 + ow1 c j t' 0 := by ac_rfl
  rw [e] at hO ⊢
  unfold both
  iintro ⟨#Hr, Hx, ⟨Hc0, Hc1⟩, ⟨Hn0, Hn1⟩, HO⟩ Hk
  iapply (wp_hopMid I N c Kt j 0 t t' h₁ h₂ _ hO) $$ [Hx Hc0 Hn0 HO]
  · isplitr; · iexact Hr
    iframe
  iintro ⟨Hx, Hn0, Hv0, HO⟩
  iapply (wp_hopMid I N c Kt j 1 t t' h₁ h₂ O hO.left) $$ [Hx Hc1 Hn1 HO]
  · isplitr; · iexact Hr
    iframe
  iintro ⟨Hx, Hn1, Hv1, HO⟩
  iapply Hk
  iframe

theorem wp_step1 (Kt : PUnit.{1} → sProp 𝕄) (j : Fin 8) (O : CellTallies nD τ sig Unit) (hO : Above (2 + j.val) (O + ow c j 1)) (K : PK F) :
    iprop(recs I N ∗ xwP I c ∗ C I c j 1 ∗ Ow c (O + ow c j 1))
      ⊢ iprop(((xwP I c ∗ C I c j 2 ∗ Ow c O) -∗ WP c K Kt) -∗ WP c (step kA c K (.hops j 1)) Kt) := by
  show iprop(recs I N ∗ xwP I c ∗ (both _ ∗ both _ ∗ both _ ∗ _) ∗ _) ⊢ iprop(((_ ∗ (both _ ∗ both _ ∗ both _ ∗ _) ∗ _) -∗ _) -∗ _)
  iintro ⟨Hr, Hx, ⟨H0, Hc, Hn, HC⟩, HO⟩ Hk
  iapply (wp_stepMid I N c Kt j 0 1 rfl rfl O hO K) $$ [Hr Hx Hc Hn HO]
  · iframe; iexact HO
  iintro ⟨Hx, Hv, Hn, HO⟩
  iapply Hk
  iframe

theorem wp_step2 (Kt : PUnit.{1} → sProp 𝕄) (j : Fin 8) (O : CellTallies nD τ sig Unit) (hO : Above (3 + j.val) (O + ow c j 2)) (K : PK F) :
    iprop(recs I N ∗ xwP I c ∗ C I c j 2 ∗ Ow c (O + ow c j 2))
      ⊢ iprop(((xwP I c ∗ C I c j 3 ∗ Ow c O) -∗ WP c K Kt) -∗ WP c (step kA c K (.hops j 2)) Kt) := by
  show iprop(recs I N ∗ xwP I c ∗ (both _ ∗ both _ ∗ both _ ∗ both _ ∗ both _ ∗ _) ∗ _) ⊢ iprop(((_ ∗ (both _ ∗ both _ ∗ both _ ∗ both _ ∗ both _ ∗ _) ∗ _) -∗ _) -∗ _)
  iintro ⟨Hr, Hx, ⟨H0, H1, H2, Hc, Hn, HC⟩, HO⟩ Hk
  iapply (wp_stepMid I N c Kt j 1 2 rfl rfl O (by
    have : klv (krs j 1 0) = 3 + j.val := by show 2 + j.val + 1 = _; omega
    rw [this]; exact hO) K) $$ [Hr Hx Hc Hn HO]
  · iframe; iexact HO
  iintro ⟨Hx, Hv, Hn, HO⟩
  iapply Hk
  iframe

theorem wp_step3 (Kt : PUnit.{1} → sProp 𝕄) (j : Fin 8) (O : CellTallies nD τ sig Unit) (hO : Above (4 + j.val) O) (K : PK F) :
    iprop(recs I N ∗ xwP I c ∗ C I c j 3 ∗ Ow c O)
      ⊢ iprop(((xwP I c ∗ C I c j 4 ∗ Ow c O) -∗ WP c K Kt) -∗ WP c (step kA c K (.hops j 3)) Kt) := by
  show iprop(recs I N ∗ xwP I c ∗ (both _ ∗ both _ ∗ both _ ∗ both _ ∗ both _ ∗ both _ ∗ _ ∗ _) ∗ _)
    ⊢ iprop(((_ ∗ (both _ ∗ both _ ∗ both _ ∗ both _ ∗ both _ ∗ both _ ∗ _ ∗ _ ∗ both _) ∗ _) -∗ _) -∗ WP c (hopAdd kA c j 0 2 <| hopAdd kA c j 1 2 K) Kt)
  have hO' (h : Fin 2) : Above (klv (krs j 2 h)) O := by
    have : klv (krs j 2 h) = 4 + j.val := by show 2 + j.val + 2 = _; omega
    rw [this]; exact hO
  unfold both
  iintro ⟨#Hr, Hx, ⟨H0, H1, H2, H3, H4, ⟨Hc0, Hc1⟩, H5, H6⟩, HO⟩ Hk
  iapply (wp_hopAdd I N c Kt j 0 2 O (hO' 0)) $$ [Hx Hc0 HO]
  · isplitr; · iexact Hr
    iframe
  iintro ⟨Hx, Hs0, Hv0, HO⟩
  iapply (wp_hopAdd I N c Kt j 1 2 O (hO' 1)) $$ [Hx Hc1 HO]
  · isplitr; · iexact Hr
    iframe
  iintro ⟨Hx, Hs1, Hv1, HO⟩
  iapply Hk
  iframe
  isplitl [Hs0]; · iexact Hs0
  iexact Hs1

/-- One send across the planes. -/
theorem wp_sendA (Kt : PUnit.{1} → sProp 𝕄) (j : Fin 8) (k : Fin 3) (h : Fin 2) (O : CellTallies nD τ sig Unit) (K : PK F) :
    iprop(recs I N ∗ rowR c h j (zO (zP c k)) (sumH I c h j 3 (zO (zP c k))) ∗ sndA c j k h ∗ Ow c (O + ow2 c j k h))
      ⊢ iprop(((sntA c j k h ∗ Ow c O) -∗ WP c K Kt) -∗ WP c (send2 kA c j k h K) Kt) := by
  unfold sndA sntA
  iintro ⟨Hr, Hs, ⟨Ht, Ht', Hd, Ha⟩, HO⟩ Hk
  iapply (wp_send2 I N c Kt j k h (O + ow2 c j k h) O rfl K) $$ [Hr Hs Hd HO Ht Ht']
  · iframe
  iintro ⟨Hc, HO⟩
  iapply Hk
  iframe

theorem wp_step4 (Kt : PUnit.{1} → sProp 𝕄) (j : Fin 8) (O : CellTallies nD τ sig Unit) (K : PK F) :
    iprop(recs I N ∗ xwP I c ∗ C I c j 4 ∗ Ow c (O + ow c j 4))
      ⊢ iprop(((xwP I c ∗ C I c j 5 ∗ Ow c O) -∗ WP c K Kt) -∗ WP c (step kA c K (.across j)) Kt) := by
  have e : O + ow c j 4 = O + ow2 c j 2 1 + ow2 c j 2 0 + ow2 c j 1 1 + ow2 c j 1 0 + ow2 c j 0 1 + ow2 c j 0 0 := by
    show O + (ow2 c j 0 0 + ow2 c j 0 1 + ow2 c j 1 0 + ow2 c j 1 1 + ow2 c j 2 0 + ow2 c j 2 1) = _; ac_rfl
  rw [e]
  show iprop(recs I N ∗ xwP I c ∗ (both _ ∗ both _ ∗ both _ ∗ both _ ∗ both _ ∗ both _ ∗ all3 _ ∗ all3 _ ∗ both _) ∗ _)
    ⊢ iprop(((_ ∗ (both _ ∗ both _ ∗ both _ ∗ both _ ∗ both _ ∗ both _ ∗ all3 _ ∗ all3 _ ∗ both _) ∗ _) -∗ _)
        -∗ WP c (send2 kA c j 0 0 <| send2 kA c j 0 1 <| send2 kA c j 1 0 <| send2 kA c j 1 1 <| send2 kA c j 2 0 <| send2 kA c j 2 1 K) Kt)
  generalize both (sntR (F := F) c j 0) = X0
  generalize both (sntR (F := F) c j 1) = X1
  generalize both (sntR (F := F) c j 2) = X2
  generalize all3 (fun k => both (rcvA (F := F) c j k)) = X3
  unfold all3 both
  iintro ⟨#Hr, Hx, ⟨H0, H1, H2, H3, H4, H5, ⟨⟨A00, A01⟩, ⟨A10, A11⟩, ⟨A20, A21⟩⟩, H6, ⟨S0, S1⟩⟩, HO⟩ Hk
  ihave S0 := (slot_split c 0 j _) $$ S0
  ihave S1 := (slot_split c 1 j _) $$ S1
  icases S0 with ⟨R00, R10, R20, R30⟩
  icases S1 with ⟨R01, R11, R21, R31⟩
  iapply (wp_sendA I N c Kt j 0 0) $$ [R00 A00 HO]
  · isplitr; · iexact Hr
    iframe
  iintro ⟨A00, HO⟩
  iapply (wp_sendA I N c Kt j 0 1) $$ [R01 A01 HO]
  · isplitr; · iexact Hr
    iframe
  iintro ⟨A01, HO⟩
  iapply (wp_sendA I N c Kt j 1 0) $$ [R10 A10 HO]
  · isplitr; · iexact Hr
    iframe
  iintro ⟨A10, HO⟩
  iapply (wp_sendA I N c Kt j 1 1) $$ [R11 A11 HO]
  · isplitr; · iexact Hr
    iframe
  iintro ⟨A11, HO⟩
  iapply (wp_sendA I N c Kt j 2 0) $$ [R20 A20 HO]
  · isplitr; · iexact Hr
    iframe
  iintro ⟨A20, HO⟩
  iapply (wp_sendA I N c Kt j 2 1 O) $$ [R21 A21 HO]
  · isplitr; · iexact Hr
    iframe
  iintro ⟨A21, HO⟩
  iapply Hk
  iframe
  beta_reduce
  iframe

/-- One wait for a half block. -/
theorem wp_recvA (Kt : PUnit.{1} → sProp 𝕄) (j : Fin 8) (k : Fin 3) (h : Fin 2) (O : CellTallies nD τ sig Unit) (hO : Above (5 + j.val) O) (K : PK F) :
    iprop(recs I N ∗ rcvA c j k h ∗ Ow c O)
      ⊢ iprop(((p2R c j k h (sumH I (zP c k) h j 3 (zO c)) ∗ semVal (cell c (kr2 j k h)) 0 ∗ Ow c O) -∗ WP c K Kt) -∗ WP c (recv2 kA j k h K) Kt) := by
  unfold rcvA
  iintro ⟨Hr, ⟨Hc, Ha⟩, HO⟩ Hk
  iapply (wp_recv2 I N c Kt j k h O hO K) $$ [Hr Hc HO Ha]
  · iframe
  iexact Hk

/-- The result's chunks at their last position read `res`. -/
def outOk (prog : Fin 8 → ℕ) (g : kA.o.view.ty.Contents (Elt F)) : Prop :=
  ∀ j, prog j = 6 → ∀ h, (kA.o.access (rCol j h)).read (Elt F) g = res I c j h

theorem wp_step5 (Kt : PUnit.{1} → sProp 𝕄) (j : Fin 8) (O : CellTallies nD τ sig Unit) (hO : Above (5 + j.val) O) (g : kA.o.view.ty.Contents (Elt F)) (K : PK F) :
    iprop(recs I N ∗ C I c j 5 ∗ outP c g ∗ Ow c O)
      ⊢ iprop(((C I c j 6 ∗ outP c ((kA.o.access (rCol j 1)).write (Elt F) ((kA.o.access (rCol j 0)).write (Elt F) g (res I c j 0) Finset.univ) (res I c j 1) Finset.univ)
          ∗ Ow c O) -∗ WP c K Kt) -∗ WP c (step kA c K (.drain j)) Kt) := by
  show iprop(recs I N ∗ (both _ ∗ both _ ∗ both _ ∗ both _ ∗ both _ ∗ both _ ∗ all3 _ ∗ all3 _ ∗ both _) ∗ _)
    ⊢ iprop((((both _ ∗ both _ ∗ both _ ∗ both _ ∗ both _ ∗ both _ ∗ all3 _ ∗ all3 _ ∗ both _) ∗ _) -∗ _)
        -∗ WP c (recv2 kA j 0 0 <| recv2 kA j 0 1 <| recv2 kA j 1 0 <| recv2 kA j 1 1 <| recv2 kA j 2 0 <| recv2 kA j 2 1 <|
      emit kA c j 0 <| emit kA c j 1 K) Kt)
  generalize both (sntR (F := F) c j 0) = X0
  generalize both (sntR (F := F) c j 1) = X1
  generalize both (sntR (F := F) c j 2) = X2
  generalize all3 (fun k => both (sntA (F := F) c j k)) = X3
  unfold all3 both dneA
  iintro ⟨#Hr, ⟨H0, H1, H2, H3, H4, H5, H6, ⟨⟨A00, A01⟩, ⟨A10, A11⟩, ⟨A20, A21⟩⟩, ⟨S0, S1⟩⟩, Hg, HO⟩ Hk
  iapply (wp_recvA I N c Kt j 0 0 O hO) $$ [A00 HO]
  · isplitr; · iexact Hr
    iframe
  iintro ⟨A00, V00, HO⟩
  iapply (wp_recvA I N c Kt j 0 1 O hO) $$ [A01 HO]
  · isplitr; · iexact Hr
    iframe
  iintro ⟨A01, V01, HO⟩
  iapply (wp_recvA I N c Kt j 1 0 O hO) $$ [A10 HO]
  · isplitr; · iexact Hr
    iframe
  iintro ⟨A10, V10, HO⟩
  iapply (wp_recvA I N c Kt j 1 1 O hO) $$ [A11 HO]
  · isplitr; · iexact Hr
    iframe
  iintro ⟨A11, V11, HO⟩
  iapply (wp_recvA I N c Kt j 2 0 O hO) $$ [A20 HO]
  · isplitr; · iexact Hr
    iframe
  iintro ⟨A20, V20, HO⟩
  iapply (wp_recvA I N c Kt j 2 1 O hO) $$ [A21 HO]
  · isplitr; · iexact Hr
    iframe
  iintro ⟨A21, V21, HO⟩
  iapply (wp_emit I c Kt j 0) $$ [S0 A00 A10 A20 Hg]
  · iframe
  iintro ⟨S0, A00, A10, A20, Hg⟩
  iapply (wp_emit I c Kt j 1) $$ [S1 A01 A11 A21 Hg]
  · iframe
  iintro ⟨S1, A01, A11, A21, Hg⟩
  iapply Hk
  iframe
  beta_reduce
  iframe

/-! ## Waiting for what was sent -/

theorem wp_gonR (Kt : PUnit.{1} → sProp 𝕄) (j : Fin 8) (s : Fin 3) (O : CellTallies nD τ sig Unit) (hO : Above 0 O) (K : PK F) :
    iprop(recs I N ∗ both (sntR c j s) ∗ Ow c O)
      ⊢ iprop(((both (gonR c j s) ∗ Ow c O) -∗ WP c K Kt) -∗ WP c (sent1 kA j 0 (src s) s <| sent1 kA j 1 (src s) s K) Kt) := by
  unfold both sntR gonR
  iintro ⟨#Hr, ⟨⟨Hc, Ha⟩, ⟨Hc', Ha'⟩⟩, HO⟩ Hk
  iapply (wp_sent1 I N c Kt j 0 s O hO) $$ [Hc Ha HO]
  · isplitr; · iexact Hr
    iframe
  iintro ⟨H0, V0, HO⟩
  iapply (wp_sent1 I N c Kt j 1 s O hO) $$ [Hc' Ha' HO]
  · isplitr; · iexact Hr
    iframe
  iintro ⟨H1, V1, HO⟩
  iapply Hk
  iframe

theorem wp_gonA1 (Kt : PUnit.{1} → sProp 𝕄) (j : Fin 8) (k : Fin 3) (O : CellTallies nD τ sig Unit) (hO : Above 0 O) (K : PK F) :
    iprop(recs I N ∗ both (sntA c j k) ∗ Ow c O)
      ⊢ iprop(((both (gonA c j k) ∗ Ow c O) -∗ WP c K Kt) -∗ WP c (sent2 kA c j k 0 <| sent2 kA c j k 1 K) Kt) := by
  unfold both sntA gonA
  iintro ⟨#Hr, ⟨⟨Hc, Ha⟩, ⟨Hc', Ha'⟩⟩, HO⟩ Hk
  iapply (wp_sent2 I N c Kt j k 0 O hO) $$ [Hc Ha HO]
  · isplitr; · iexact Hr
    iframe
  iintro ⟨H0, V0, HO⟩
  iapply (wp_sent2 I N c Kt j k 1 O hO) $$ [Hc' Ha' HO]
  · isplitr; · iexact Hr
    iframe
  iintro ⟨H1, V1, HO⟩
  iapply Hk
  iframe

theorem wp_gonA (Kt : PUnit.{1} → sProp 𝕄) (j : Fin 8) (O : CellTallies nD τ sig Unit) (hO : Above 0 O) (K : PK F) :
    iprop(recs I N ∗ all3 (fun k => both (sntA c j k)) ∗ Ow c O)
      ⊢ iprop(((all3 (fun k => both (gonA c j k)) ∗ Ow c O) -∗ WP c K Kt) -∗ WP c (stepSent kA c K (.across j)) Kt) := by
  show _ ⊢ iprop(_ -∗ WP c (sent2 kA c j 0 0 <| sent2 kA c j 0 1 <| sent2 kA c j 1 0 <| sent2 kA c j 1 1 <| sent2 kA c j 2 0 <| sent2 kA c j 2 1 K) Kt)
  unfold all3
  iintro ⟨#Hr, ⟨H0, H1, H2⟩, HO⟩ Hk
  iapply (wp_gonA1 I N c Kt j 0 O hO) $$ [H0 HO]
  · isplitr; · iexact Hr
    iframe
  iintro ⟨H0, HO⟩
  iapply (wp_gonA1 I N c Kt j 1 O hO) $$ [H1 HO]
  · isplitr; · iexact Hr
    iframe
  iintro ⟨H1, HO⟩
  iapply (wp_gonA1 I N c Kt j 2 O hO) $$ [H2 HO]
  · isplitr; · iexact Hr
    iframe
  iintro ⟨H2, HO⟩
  iapply Hk
  iframe

end Cert.KernelIdeal.K

end
-- ==== Proof.K.Run.lean ====
/- The two meetings, and the schedule executed as a whole: every chunk from its first position to its last. -/
module

public import proofs.«01_k».proof.Proof.K.Chunk

@[expose] public section

set_option maxRecDepth 16384

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (N : Dev nD × Kd → ℕ) (c : Dev nD)

/-! ## A meeting of a device with its five partners -/

/-- The semaphore of the opening (0) or the closing (1) meeting. -/
abbrev msem (b : Fin 2) : Sem sig := match b with | 0 => barS | 1 => kA.fin.sem

/-- What device `c` owes its `i`-th partner, -/
def ow3 (b : Fin 2) (i : Fin 5) : CellTallies nD τ sig Unit := tallyAt (cell (partner c i) (.inl b)) () 1
/-- all five. -/
def om (b : Fin 2) : CellTallies nD τ sig Unit := ow3 c b 0 + ow3 c b 1 + ow3 c b 2 + ow3 c b 3 + ow3 c b 4

/-- Telling one partner. -/
theorem wp_tell (Kt : PUnit.{1} → sProp 𝕄) (b : Fin 2) (i : Fin 5) (O : CellTallies nD τ sig Unit) (K : PK F) :
    iprop(recs I N ∗ dutyTok ER (cell (partner c i) (.inl b)) 0 (rev c i) ∗ pay I (partner c i) (.inl b) (rev c i) ∗ Ow c (O + ow3 c b i))
      ⊢ iprop((Ow c O -∗ WP c K Kt) -∗ WP c (.op (.semSignal (partner c i, .tc) (msem b) (1#32).toInt) fun _ => K) Kt) := by
  unfold Ow
  have hc : cell (partner c i) (.inl b) = ((partner c i : Thread nD τ), SemLoc.reg (msem b)) := by
    match b with
    | 0 => rfl
    | 1 => rfl
  iintro ⟨#Hr, Ht, Hp, ⟨%W, HO⟩⟩ Hk
  ihave #H1 := (recs_cell I N (partner c i) (.inl b)) $$ Hr
  icases H1 with ⟨#Hi, #Hre⟩
  have e : iprop(cellInv ER (Rd I) (N (partner c i, .inl b)) ((partner c i : Thread nD τ), SemLoc.reg (msem b)) ∗ owes (c : Thread nD τ) (O + ow3 c b i) W
        ∗ dutyTok ER ((partner c i : Thread nD τ), SemLoc.reg (msem b)) 0 (rev c i) ∗ (Rd I).payload ((partner c i : Thread nD τ), SemLoc.reg (msem b)) 0 (rev c i)
        ∗ reached ER ((partner c i : Thread nD τ), SemLoc.reg (msem b)) 0)
      ⊢ iprop((owes (c : Thread nD τ) O W -∗ WP c K Kt) -∗ WP c (.op (.semSignal (partner c i, .tc) (msem b) ((1 : ℕ) : ℤ)) fun _ => K) Kt) :=
    Rounds.wp_signal 𝒱₀ ER (Rd I) (c : Thread nD τ) none (k' := 1) (by rw [← hc, duties_cell]; exact Finset.mem_univ _) (by rw [← hc, amount_cell]; rfl) () O
      (by unfold ow3; rw [← hc]) (O₀ := O + ow3 c b i) (k := fun _ => K) (Q := Kt) (W := W) (Es := Set.univ) (κ := N (partner c i, .inl b)) (r := 0) (d := rev c i)
  rw [← hc, payload_cell] at e
  have e1 : (1#32).toInt = ((1 : ℕ) : ℤ) := rfl
  rw [e1]
  iapply e $$ [HO Ht Hp]
  · isplitr; · iexact Hi
    isplitl [HO]; · iexact HO
    isplitl [Ht]; · iexact Ht
    isplitl [Hp]; · iexact Hp
    iexact Hre
  iintro HO
  iapply Hk
  iexists W; iexact HO

/-- All five partners, in the order the device tells them. -/
def five (P : Fin 5 → sProp 𝕄) : sProp 𝕄 := iprop(P 1 ∗ P 0 ∗ P 2 ∗ P 3 ∗ P 4)

/-- A meeting: every partner is told and handed its share, then all five shares from them are there. -/
theorem wp_meet (Kt : PUnit.{1} → sProp 𝕄) (b : Fin 2) (O : CellTallies nD τ sig Unit) (hO : Above (klv (.inl b)) O) (K : PK F) :
    iprop(recs I N ∗ five (fun i => iprop(dutyTok ER (cell (partner c i) (.inl b)) 0 (rev c i) ∗ pay I (partner c i) (.inl b) (rev c i)))
        ∗ cred (tallyAt (cell c (.inl b)) () 5) ∗ atPos ER (cell c (.inl b)) 0 ∅ 0 ∗ Ow c (O + om c b))
      ⊢ iprop(((bigSep Finset.univ (fun i => pay I c (.inl b) i) ∗ semVal (cell c (.inl b)) 0 ∗ Ow c O) -∗ WP c K Kt)
          -∗ WP c (meet c (msem b) K) Kt) := by
  have e : O + om c b = O + ow3 c b 4 + ow3 c b 3 + ow3 c b 2 + ow3 c b 0 + ow3 c b 1 := by unfold om; ac_rfl
  rw [e]
  unfold five
  iintro ⟨#Hr, ⟨⟨T1, P1⟩, ⟨T0, P0⟩, ⟨T2, P2⟩, ⟨T3, P3⟩, ⟨T4, P4⟩⟩, Hc, Ha, HO⟩ Hk
  unfold meet
  iapply (wp_tell I N c Kt b 1) $$ [T1 P1 HO]
  · isplitr; · iexact Hr
    iframe
  iintro HO
  iapply (wp_tell I N c Kt b 0) $$ [T0 P0 HO]
  · isplitr; · iexact Hr
    iframe
  iintro HO
  iapply (wp_tell I N c Kt b 2) $$ [T2 P2 HO]
  · isplitr; · iexact Hr
    iframe
  iintro HO
  iapply (wp_tell I N c Kt b 3) $$ [T3 P3 HO]
  · isplitr; · iexact Hr
    iframe
  iintro HO
  iapply (wp_tell I N c Kt b 4 O) $$ [T4 P4 HO]
  · isplitr; · iexact Hr
    iframe
  iintro HO
  iapply (wp_wait I N c Kt (.inl b) 5 (fun K => by
    match b with
    | 0 => exact wpE_semWait_eq 𝒱₀ (c : Thread nD τ) none Set.univ K
    | 1 => exact wpE_semWait_eq 𝒱₀ (c : Thread nD τ) none Set.univ K) (expect_reg I c b) O hO) $$ [Hc Ha HO]
  · isplitr; · iexact Hr
    iframe
  iexact Hk

/-! ## The schedule as a walk -/

/-- The chunk a step belongs to, and its position there. -/
def Step.ch : Step → Fin 8
  | .hops j _ => j
  | .across j => j
  | .drain j => j
def Step.pos : Step → ℕ
  | .hops _ s => s.val
  | .across _ => 4
  | .drain _ => 5

/-- Positions after a step of chunk `j`. -/
def adv (prog : Fin 8 → ℕ) (j : Fin 8) : Fin 8 → ℕ := fun j' => if j' = j then prog j + 1 else prog j'

/-- A list of steps takes the positions `prog` in order, each step meeting `ok`, to the end of every chunk. -/
def good (ok : (Fin 8 → ℕ) → Step → Bool) : List Step → (Fin 8 → ℕ) → Bool
  | [], prog => decide (∀ j, prog j = 6)
  | st :: l, prog => decide (prog st.ch = st.pos) && ok prog st && good ok l (adv prog st.ch)

theorem adv_eq (prog : Fin 8 → ℕ) (j : Fin 8) : adv prog j j = prog j + 1 := if_pos rfl
theorem adv_ne (prog : Fin 8 → ℕ) {j j' : Fin 8} (h : j' ≠ j) : adv prog j j' = prog j' := if_neg h

/-- A schedule executed, from what each step does to its chunk's state `Q` and to what all share `S`. -/
theorem wp_run (Kt : PUnit.{1} → sProp 𝕄) (f : PK F → Step → PK F) (Q : Fin 8 → ℕ → sProp 𝕄) (S : (Fin 8 → ℕ) → sProp 𝕄)
    (ok : (Fin 8 → ℕ) → Step → Bool)
    (hstep : ∀ (prog : Fin 8 → ℕ) (st : Step) (K : PK F), ok prog st = true → prog st.ch = st.pos →
      iprop(Q st.ch st.pos ∗ S prog) ⊢ iprop(((Q st.ch (st.pos + 1) ∗ S (adv prog st.ch)) -∗ WP c K Kt) -∗ WP c (f K st) Kt))
    (K : PK F) : ∀ (l : List Step) (prog : Fin 8 → ℕ), good ok l prog = true →
      iprop((bigSep Finset.univ fun j => Q j (prog j)) ∗ S prog)
        ⊢ iprop((((bigSep Finset.univ fun j => Q j 6) ∗ S fun _ => 6) -∗ WP c K Kt) -∗ WP c (run f l K) Kt)
  | [], prog, h => by
    have e : prog = fun _ => 6 := funext (of_decide_eq_true h)
    subst e
    unfold run
    iintro H Hk; iapply Hk; iexact H
  | st :: l, prog, h => by
    unfold good at h
    rw [Bool.and_eq_true, Bool.and_eq_true] at h
    obtain ⟨⟨h₁, h₂⟩, h₃⟩ := h
    have hp : prog st.ch = st.pos := of_decide_eq_true h₁
    have e₁ : (bigSep Finset.univ fun j => Q j (prog j)) = iprop(Q st.ch st.pos ∗ bigSep (Finset.univ.erase st.ch) fun j => Q j (prog j)) := by
      rw [bigSep_univ_at (fun j => Q j (prog j)) st.ch, hp]
    have e₂ : (bigSep Finset.univ fun j => Q j (adv prog st.ch j)) = iprop(Q st.ch (st.pos + 1) ∗ bigSep (Finset.univ.erase st.ch) fun j => Q j (prog j)) := by
      rw [bigSep_univ_at (fun j => Q j (adv prog st.ch j)) st.ch, adv_eq, hp]
      congr 1
      exact bigSep_congr fun j hj => by rw [adv_ne prog (Finset.ne_of_mem_erase hj)]
    have IH := wp_run Kt f Q S ok hstep K l (adv prog st.ch) h₃
    rw [e₂] at IH
    rw [e₁]
    show _ ⊢ iprop(_ -∗ WP c (f (run f l K) st) Kt)
    iintro ⟨⟨H, HR⟩, HS⟩ Hk
    iapply (hstep prog st (run f l K) h₂ hp) $$ [H HS]
    · isplitl [H] <;> iassumption
    iintro ⟨H, HS⟩
    iapply IH $$ [H HR HS]
    · iframe
    iexact Hk

/-! ## What is owed along the way -/

/-- What a device owes at the positions `prog`: everything its chunks send from there on. -/
def oc (prog : Fin 8 → ℕ) : CellTallies nD τ sig Unit :=
  ∑ j : Fin 8, ∑ q : Fin 6, if prog j ≤ q.val then ow c j q.val else 0

theorem oc_end : oc c (fun _ => 6) = 0 :=
  Finset.sum_eq_zero fun j _ => Finset.sum_eq_zero fun q _ => if_neg (by show ¬ 6 ≤ q.val; omega)

theorem sum_from (T : ℕ → CellTallies nD τ sig Unit) (p : ℕ) (hp : p < 6) :
    (∑ q : Fin 6, if p ≤ q.val then T q.val else 0) = (∑ q : Fin 6, if p + 1 ≤ q.val then T q.val else 0) + T p := by
  have e : T p = ∑ q : Fin 6, if q = ⟨p, hp⟩ then T q.val else 0 := by
    rw [Finset.sum_ite_eq' Finset.univ (⟨p, hp⟩ : Fin 6) (fun q => T q.val), if_pos (Finset.mem_univ _)]
  rw [e, ← Finset.sum_add_distrib]
  refine Finset.sum_congr rfl fun q _ => ?_
  by_cases h : q = ⟨p, hp⟩
  · subst h; rw [if_pos (le_refl p), if_neg (by dsimp only; omega), if_pos rfl, zero_add]
  · have h' : q.val ≠ p := fun hv => h (Fin.ext hv)
    rw [if_neg h, add_zero]
    by_cases h2 : p ≤ q.val
    · rw [if_pos h2, if_pos (by omega)]
    · rw [if_neg h2, if_neg (by omega)]

/-- A step's sends leave the rest. -/
theorem oc_adv (prog : Fin 8 → ℕ) (j : Fin 8) (p : ℕ) (hp : p < 6) (h : prog j = p) : oc c prog = oc c (adv prog j) + ow c j p := by
  unfold oc
  rw [← Finset.add_sum_erase Finset.univ _ (Finset.mem_univ j), ← Finset.add_sum_erase Finset.univ (fun j' => ∑ q : Fin 6, if adv prog j j' ≤ q.val then ow c j' q.val else 0) (Finset.mem_univ j)]
  have e : ∑ j' ∈ Finset.univ.erase j, (∑ q : Fin 6, if adv prog j j' ≤ q.val then ow c j' q.val else 0)
      = ∑ j' ∈ Finset.univ.erase j, (∑ q : Fin 6, if prog j' ≤ q.val then ow c j' q.val else 0) :=
    Finset.sum_congr rfl fun j' hj => by rw [adv_ne prog (Finset.ne_of_mem_erase hj)]
  rw [e, adv_eq, h, sum_from (ow c j) p hp]
  ac_rfl

/-- The level below which a step waits, and that of what a chunk sends at a position. -/
def wlv : Step → ℕ
  | .hops j s => 1 + j.val + s.val
  | .across _ => 0
  | .drain j => 5 + j.val
def olv (j : Fin 8) (q : Fin 6) : ℕ := if q.val < 3 then 2 + j.val + q.val else if q.val = 4 then 5 + j.val else 100

/-- What is owed is above what a step waits for. -/
def okStep (prog : Fin 8 → ℕ) (st : Step) : Bool := decide (∀ (j : Fin 8) (q : Fin 6), prog j ≤ q.val → wlv st < olv j q)

theorem sched_good : good okStep sched (fun _ => 0) = true := by decide +kernel
theorem sched_order : good (fun _ _ => true) sched (fun _ => 0) = true := by decide +kernel

theorem ow_above (n : ℕ) (j : Fin 8) (q : Fin 6) (h : n < olv j q) : Above n (ow c j q.val) := by
  have h1 (s : Fin 3) (hs : n < 2 + j.val + s.val) (h : Fin 2) : Above n (ow1 c j s h) := Above.cell _ _ _ hs
  have h2 (hs : n < 5 + j.val) (k : Fin 3) (h : Fin 2) : Above n (ow2 c j k h) := Above.cell _ _ _ hs
  match q with
  | 0 => exact .add (h1 0 h 0) (h1 0 h 1)
  | 1 => exact .add (h1 1 h 0) (h1 1 h 1)
  | 2 => exact .add (h1 2 h 0) (h1 2 h 1)
  | 3 => exact .zero n
  | 4 => exact .add (.add (.add (.add (.add (h2 h 0 0) (h2 h 0 1)) (h2 h 1 0)) (h2 h 1 1)) (h2 h 2 0)) (h2 h 2 1)
  | 5 => exact .zero n
theorem om_above (n : ℕ) (b : Fin 2) (h : n < klv (.inl b)) : Above n (om c b) := by
  have h1 (i : Fin 5) : Above n (ow3 c b i) := Above.cell _ _ _ h
  exact .add (.add (.add (.add (h1 0) (h1 1)) (h1 2)) (h1 3)) (h1 4)
theorem oc_above (n : ℕ) (prog : Fin 8 → ℕ) (h : ∀ (j : Fin 8) (q : Fin 6), prog j ≤ q.val → n < olv j q) : Above n (oc c prog) := by
  refine Above.sum _ fun j _ => Above.sum _ fun q _ => ?_
  split
  · exact ow_above c n j q (h j q (by assumption))
  · exact .zero n

/-! ## The schedule executed -/

theorem outOk_adv (prog : Fin 8 → ℕ) (j : Fin 8) (h : prog j < 5) (g : kA.o.view.ty.Contents (Elt F)) (hg : outOk I c prog g) : outOk I c (adv prog j) g := by
  intro j' h'
  by_cases e : j' = j
  · subst e; rw [adv_eq] at h'; omega
  · rw [adv_ne prog e] at h'; exact hg j' h'

theorem outOk_drain (prog : Fin 8 → ℕ) (j : Fin 8) (g : kA.o.view.ty.Contents (Elt F)) (hg : outOk I c prog g) :
    outOk I c (adv prog j) ((kA.o.access (rCol j 1)).write (Elt F) ((kA.o.access (rCol j 0)).write (Elt F) g (res I c j 0) Finset.univ) (res I c j 1) Finset.univ) := by
  intro j' h' h
  rw [col_store, col_store]
  by_cases e : j' = j
  · subst e
    match h with
    | 0 => rw [if_neg (fun x => absurd x.2 (by decide)), if_pos ⟨rfl, rfl⟩]
    | 1 => rw [if_pos ⟨rfl, rfl⟩]
  · rw [if_neg fun x => e x.1, if_neg fun x => e x.1]
    rw [adv_ne prog e] at h'; exact hg j' h' h

/-- What the chunks share. -/
def S1 (prog : Fin 8 → ℕ) : sProp 𝕄 :=
  iprop(recs I N ∗ xwP I c ∗ (∃ g, ⌜outOk I c prog g⌝ ∗ outP c g) ∗ Ow c (oc c prog + om c 1))

/-- A step that does not touch the result. -/
theorem wp_quiet (Kt : PUnit.{1} → sProp 𝕄) (prog : Fin 8 → ℕ) (j : Fin 8) (p : ℕ) (hp : p < 5) (hj : prog j = p) (w : PK F) (K : PK F)
    (H : iprop(recs I N ∗ xwP I c ∗ C I c j p ∗ Ow c (oc c (adv prog j) + om c 1 + ow c j p))
      ⊢ iprop(((xwP I c ∗ C I c j (p + 1) ∗ Ow c (oc c (adv prog j) + om c 1)) -∗ WP c K Kt) -∗ WP c w Kt)) :
    iprop(C I c j p ∗ S1 I N c prog) ⊢ iprop(((C I c j (p + 1) ∗ S1 I N c (adv prog j)) -∗ WP c K Kt) -∗ WP c w Kt) := by
  have e : oc c prog + om c 1 = oc c (adv prog j) + om c 1 + ow c j p := by rw [oc_adv c prog j p (by omega) hj]; ac_rfl
  unfold S1
  rw [e]
  iintro ⟨HC, #Hr, Hx, ⟨%g, %hg, Hg⟩, HO⟩ Hk
  iapply H $$ [Hx HC HO]
  · isplitr; · iexact Hr
    iframe
  iintro ⟨Hx, HC, HO⟩
  iapply Hk
  isplitl [HC]; · iexact HC
  isplitr; · iexact Hr
  isplitl [Hx]; · iexact Hx
  isplitl [Hg]
  · iexists g
    isplitr; · ipureintro; exact outOk_adv I c prog j (by omega) g hg
    iexact Hg
  iexact HO

theorem step1 (Kt : PUnit.{1} → sProp 𝕄) (prog : Fin 8 → ℕ) (st : Step) (K : PK F) (hok : okStep prog st = true) (hp : prog st.ch = st.pos) :
    iprop(C I c st.ch st.pos ∗ S1 I N c prog)
      ⊢ iprop(((C I c st.ch (st.pos + 1) ∗ S1 I N c (adv prog st.ch)) -∗ WP c K Kt) -∗ WP c (step kA c K st) Kt) := by
  have hl : wlv st < 100 := by
    match st with
    | .hops j s => show 1 + j.val + s.val < 100; omega
    | .across j => show 0 < 100; omega
    | .drain j => show 5 + j.val < 100; omega
  have hA : Above (wlv st) (oc c prog + om c 1) := .add (oc_above c _ prog (of_decide_eq_true hok)) (om_above c _ 1 hl)
  have hA' (hp5 : st.pos < 6) : Above (wlv st) (oc c (adv prog st.ch) + om c 1 + ow c st.ch st.pos) := by
    have e : oc c prog + om c 1 = oc c (adv prog st.ch) + om c 1 + ow c st.ch st.pos := by rw [oc_adv c prog st.ch st.pos hp5 hp]; ac_rfl
    rw [← e]; exact hA
  match st with
  | .hops j 0 => exact wp_quiet I N c Kt prog j 0 (by decide) hp _ K (wp_step0 I N c Kt j _ K)
  | .hops j 1 => exact wp_quiet I N c Kt prog j 1 (by decide) hp _ K (wp_step1 I N c Kt j _ (by
      have : wlv (.hops j 1) = 2 + j.val := by show 1 + j.val + 1 = _; omega
      rw [← this]; exact hA' (show 1 < 6 by decide)) K)
  | .hops j 2 => exact wp_quiet I N c Kt prog j 2 (by decide) hp _ K (wp_step2 I N c Kt j _ (by
      have : wlv (.hops j 2) = 3 + j.val := by show 1 + j.val + 2 = _; omega
      rw [← this]; exact hA' (show 2 < 6 by decide)) K)
  | .hops j 3 =>
    have e : oc c (adv prog j) + om c 1 + ow c j 3 = oc c (adv prog j) + om c 1 := add_zero _
    refine wp_quiet I N c Kt prog j 3 (by decide) hp _ K ?_
    rw [e]
    exact wp_step3 I N c Kt j _ (by
      have : wlv (.hops j 3) = 4 + j.val := by show 1 + j.val + 3 = _; omega
      rw [← this]; exact (hA' (show 3 < 6 by decide)).left) K
  | .across j => exact wp_quiet I N c Kt prog j 4 (by decide) hp _ K (wp_step4 I N c Kt j _ K)
  | .drain j =>
    have e : oc c prog + om c 1 = oc c (adv prog j) + om c 1 := by
      rw [oc_adv c prog j 5 (by decide) hp]; exact congrArg (· + _) (add_zero _)
    show iprop(C I c j 5 ∗ S1 I N c prog) ⊢ iprop(((C I c j 6 ∗ S1 I N c (adv prog j)) -∗ WP c K Kt) -∗ WP c (step kA c K (.drain j)) Kt)
    unfold S1
    rw [e] at hA ⊢
    iintro ⟨HC, #Hr, Hx, ⟨%g, %hg, Hg⟩, HO⟩ Hk
    iapply (wp_step5 I N c Kt j _ hA g K) $$ [HC Hg HO]
    · isplitr; · iexact Hr
      iframe
    iintro ⟨HC, Hg, HO⟩
    iapply Hk
    isplitl [HC]; · iexact HC
    isplitr; · iexact Hr
    isplitl [Hx]; · iexact Hx
    isplitl [Hg]
    · iexists _
      isplitr [Hg]; rotate_left
      · iexact Hg
      · ipureintro; exact outOk_drain I c prog j g hg
    iexact HO

/-- What the chunks share while the device waits for what it sent. -/
def S2 : sProp 𝕄 := iprop(recs I N ∗ Ow c (om c 1))

theorem step2 (Kt : PUnit.{1} → sProp 𝕄) (st : Step) (K : PK F) :
    iprop(D (F := F) c st.ch st.pos ∗ S2 I N c)
      ⊢ iprop(((D (F := F) c st.ch (st.pos + 1) ∗ S2 I N c) -∗ WP c K Kt) -∗ WP c (stepSent kA c K st) Kt) := by
  have hA : Above 0 (om c 1) := om_above c 0 1 (by decide)
  unfold S2
  match st with
  | .hops j 0 =>
    show iprop(rest c j (both (sntR c j 0)) (both (sntR c j 1)) (both (sntR c j 2)) (all3 (fun k => both (sntA c j k))) ∗ _) ⊢ iprop(((rest c j (both (gonR c j 0)) (both (sntR c j 1)) (both (sntR c j 2)) (all3 (fun k => both (sntA c j k))) ∗ _) -∗ _) -∗ WP c (sent1 kA j 0 (src 0) 0 <| sent1 kA j 1 (src 0) 0 K) Kt)
    unfold rest
    iintro ⟨⟨H, HD⟩, #Hr, HO⟩ Hk
    iapply (wp_gonR I N c Kt j 0 _ hA) $$ [H HO]
    · isplitr; · iexact Hr
      iframe
    iintro ⟨H, HO⟩
    iapply Hk; iframe; iexact Hr
  | .hops j 1 =>
    show iprop(rest c j (both (gonR c j 0)) (both (sntR c j 1)) (both (sntR c j 2)) (all3 (fun k => both (sntA c j k))) ∗ _) ⊢ iprop(((rest c j (both (gonR c j 0)) (both (gonR c j 1)) (both (sntR c j 2)) (all3 (fun k => both (sntA c j k))) ∗ _) -∗ _) -∗ WP c (sent1 kA j 0 (src 1) 1 <| sent1 kA j 1 (src 1) 1 K) Kt)
    unfold rest
    iintro ⟨⟨H0, H, HD⟩, #Hr, HO⟩ Hk
    iapply (wp_gonR I N c Kt j 1 _ hA) $$ [H HO]
    · isplitr; · iexact Hr
      iframe
    iintro ⟨H, HO⟩
    iapply Hk; iframe; iexact Hr
  | .hops j 2 =>
    show iprop(rest c j (both (gonR c j 0)) (both (gonR c j 1)) (both (sntR c j 2)) (all3 (fun k => both (sntA c j k))) ∗ _) ⊢ iprop(((rest c j (both (gonR c j 0)) (both (gonR c j 1)) (both (gonR c j 2)) (all3 (fun k => both (sntA c j k))) ∗ _) -∗ _) -∗ WP c (sent1 kA j 0 (src 2) 2 <| sent1 kA j 1 (src 2) 2 K) Kt)
    unfold rest
    iintro ⟨⟨H0, H1, H, HD⟩, #Hr, HO⟩ Hk
    iapply (wp_gonR I N c Kt j 2 _ hA) $$ [H HO]
    · isplitr; · iexact Hr
      iframe
    iintro ⟨H, HO⟩
    iapply Hk; iframe; iexact Hr
  | .hops j 3 =>
    show iprop(D c j 3 ∗ _) ⊢ iprop(((D c j 3 ∗ _) -∗ WP c K Kt) -∗ WP c K Kt)
    iintro H Hk
    iapply Hk; iexact H
  | .across j =>
    show iprop(rest c j (both (gonR c j 0)) (both (gonR c j 1)) (both (gonR c j 2)) (all3 (fun k => both (sntA c j k))) ∗ _) ⊢ iprop(((rest c j (both (gonR c j 0)) (both (gonR c j 1)) (both (gonR c j 2)) (all3 (fun k => both (gonA c j k))) ∗ _) -∗ _) -∗ _)
    unfold rest
    iintro ⟨⟨H0, H1, H2, H, HD⟩, #Hr, HO⟩ Hk
    iapply (wp_gonA I N c Kt j _ hA) $$ [H HO]
    · isplitr; · iexact Hr
      iframe
    iintro ⟨H, HO⟩
    iapply Hk; iframe; iexact Hr
  | .drain j =>
    show iprop(D c j 5 ∗ _) ⊢ iprop(((D c j 5 ∗ _) -∗ WP c K Kt) -∗ WP c K Kt)
    iintro H Hk
    iapply Hk; iexact H

end Cert.KernelIdeal.K

end
-- ==== Proof.K.Body.lean ====
/- The body executed as a whole: from what a device holds at its launch to the result, with every buffer whole again
   and every semaphore at rest. -/
module

public import proofs.«01_k».proof.Proof.K.Run

@[expose] public section

set_option maxRecDepth 16384

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (N : Dev nD × Kd → ℕ) (c : Dev nD)

/-! ## Lists of pieces written out -/

theorem bigSep_fin2 (Φ : Fin 2 → sProp 𝕄) : bigSep Finset.univ Φ = iprop(Φ 0 ∗ Φ 1) :=
  bigSep_univ_eq_bigSepL [0, 1] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- One piece per chunk, hop (or partner across) and direction, chunk by chunk. -/
theorem bigSep_chunks (Φ : Fin 8 → Fin 3 → Fin 2 → sProp 𝕄) :
    bigSep Finset.univ (fun x : Ix3 => Φ x.1 x.2.1 x.2.2) = bigSep Finset.univ fun j => all3 fun s => both fun h => Φ j s h := by
  rw [bigSep_univ_prod]
  refine bigSep_congr fun j _ => ?_
  rw [bigSep_univ_prod, bigSep_fin3]
  dsimp only
  rw [bigSep_fin2, bigSep_fin2, bigSep_fin2]
  rfl

/-- One piece per semaphore, kind by kind. -/
theorem bigSep_kinds (Φ : Kd → sProp 𝕄) :
    bigSep Finset.univ Φ = iprop((Φ kbar ∗ Φ kfin) ∗ (bigSep Finset.univ fun x : Ix3 => Φ (.inr (0, x))) ∗ (bigSep Finset.univ fun x : Ix3 => Φ (.inr (1, x)))
      ∗ (bigSep Finset.univ fun x : Ix3 => Φ (.inr (2, x))) ∗ (bigSep Finset.univ fun x : Ix3 => Φ (.inr (3, x)))) := by
  rw [bigSep_univ_sum, bigSep_fin2, bigSep_univ_prod, bigSep_fin4]; rfl

/-! ## The buffers and their pieces -/

/-- Device `c`'s buffer of direction `h`, whole; -/
def bufP (h : Fin 2) : sProp 𝕄 := iprop(∃ f : (kA.buf h).view.ty.Contents (Elt F), (kA.buf h).view.loc (c : Thread nD τ) ↦{fullShare} f)
/-- its second buffer. -/
def pP : sProp 𝕄 := iprop(∃ f : kA.p.view.ty.Contents (Elt F), kA.p.view.loc (c : Thread nD τ) ↦{fullShare} f)

theorem buf_set (h : Fin 2) : (kA.buf h).view.set = Finset.univ := by
  match h with
  | 0 => exact View.set_whole _
  | 1 => exact View.set_whole _
theorem p_set : kA.p.view.set = Finset.univ := View.set_whole _

theorem buf_split (h : Fin 2) : bufP c h ⊢ (bigSep Finset.univ fun x : Fin 8 × Fin 4 => slotE (F := F) c h x.1 x.2 : sProp 𝕄) := by
  unfold bufP
  iintro ⟨%f, H⟩
  have e : ((kA.buf h).view.loc (c : Thread nD τ) ↦{fullShare} f : sProp 𝕄) ⊢ bigSep Finset.univ fun x : Fin 8 × Fin 4 => slotE (F := F) c h x.1 x.2 := by
    rw [Ring.pointsTo_blocks (ℓ := (kA.buf h).view.loc (c : Thread nD τ)) (fun x : Fin 8 × Fin 4 => (slotV (kA.buf h) x.1 x.2).view.set)
      (fun x y hxy => slot_disjoint (kA.buf h) hxy) (slot_cover (kA.buf h) (buf_set h)) f]
    refine bigSep_mono fun x _ => ?_
    show _ ⊢ slotE c h x.1 x.2
    unfold slotE slotP
    iintro H; iexists f; iexact H
  iapply e; iexact H

theorem buf_join (h : Fin 2) : (bigSep Finset.univ fun x : Fin 8 × Fin 4 => slotE (F := F) c h x.1 x.2 : sProp 𝕄) ⊢ bufP c h := by
  unfold bufP slotE slotP
  exact Ring.pointsTo_blocks_join_exists (ℓ := (kA.buf h).view.loc (c : Thread nD τ)) (fun x : Fin 8 × Fin 4 => (slotV (kA.buf h) x.1 x.2).view.set)
    (fun x y hxy => slot_disjoint (kA.buf h) hxy) (slot_cover (kA.buf h) (buf_set h)) (zbuf h)

theorem p_split : pP c ⊢ (bigSep Finset.univ fun x : Ix3 => p2E (F := F) c x.1 x.2.1 x.2.2 : sProp 𝕄) := by
  unfold pP
  iintro ⟨%f, H⟩
  have e : (kA.p.view.loc (c : Thread nD τ) ↦{fullShare} f : sProp 𝕄) ⊢ bigSep Finset.univ fun x : Ix3 => p2E (F := F) c x.1 x.2.1 x.2.2 := by
    rw [Ring.pointsTo_blocks (ℓ := kA.p.view.loc (c : Thread nD τ)) (fun x : Ix3 => (p2V kA.p x.1 x.2.1.val x.2.1.isLt x.2.2).view.set)
      (fun x y hxy => p2_disjoint kA.p hxy) (p2_cover kA.p p_set) f]
    refine bigSep_mono fun x _ => ?_
    show _ ⊢ p2E c x.1 x.2.1 x.2.2
    unfold p2E p2P
    iintro H; iexists f; iexact H
  iapply e; iexact H

theorem p_join : (bigSep Finset.univ fun x : Ix3 => p2E (F := F) c x.1 x.2.1 x.2.2 : sProp 𝕄) ⊢ pP c := by
  unfold pP p2E p2P
  exact Ring.pointsTo_blocks_join_exists (ℓ := kA.p.view.loc (c : Thread nD τ)) (fun x : Ix3 => (p2V kA.p x.1 x.2.1.val x.2.1.isLt x.2.2).view.set)
    (fun x y hxy => p2_disjoint kA.p hxy) (p2_cover kA.p p_set) (fun _ => (FloatOps.ofBits .f32 0#32 : F .f32))

/-- A buffer's slots: the three per chunk a neighbour writes, and the one the device starts from. -/
theorem slots_parts (h : Fin 2) : (bigSep Finset.univ fun x : Fin 8 × Fin 4 => slotE (F := F) c h x.1 x.2 : sProp 𝕄)
    ⊢ iprop((bigSep Finset.univ fun x : Fin 8 × Fin 3 => slotE c h x.1 x.2.castSucc) ∗ bigSep Finset.univ fun j : Fin 8 => slotE c h j 3) := by
  rw [bigSep_univ_prod, bigSep_univ_prod, ← bigSep_sep']
  refine bigSep_mono fun j _ => ?_
  show _ ⊢ iprop(_ ∗ slotE c h j 3)
  rw [bigSep_fin4, bigSep_fin3]
  show iprop(slotE c h j 0 ∗ slotE c h j 1 ∗ slotE c h j 2 ∗ slotE c h j 3) ⊢ iprop((slotE c h j 0 ∗ slotE c h j 1 ∗ slotE c h j 2) ∗ slotE c h j 3)
  iintro ⟨H0, H1, H2, H3⟩
  iframe

/-- The second buffer's half blocks, place by place. -/
theorem p2_parts (Φ : Fin 8 → Fin 3 → Fin 2 → sProp 𝕄) : (bigSep Finset.univ fun x : Ix3 => Φ x.1 x.2.1 x.2.2)
    = iprop((bigSep Finset.univ fun x : Fin 8 × Fin 2 => Φ x.1 0 x.2) ∗ (bigSep Finset.univ fun x : Fin 8 × Fin 2 => Φ x.1 1 x.2)
      ∗ bigSep Finset.univ fun x : Fin 8 × Fin 2 => Φ x.1 2 x.2) := by
  rw [← bigSep_sep', ← bigSep_sep', bigSep_univ_equiv (Equiv.prodAssoc (Fin 8) (Fin 2) (Fin 3) |>.trans (Equiv.prodCongr (Equiv.refl _) (Equiv.prodComm _ _))),
    bigSep_univ_prod]
  refine bigSep_congr fun x _ => ?_
  rw [bigSep_fin3]; rfl
theorem slot_parts (Φ : Fin 8 → Fin 3 → Fin 2 → sProp 𝕄) : (bigSep Finset.univ fun x : Ix3 => Φ x.1 x.2.1 x.2.2)
    = iprop((bigSep Finset.univ fun x : Fin 8 × Fin 3 => Φ x.1 x.2 0) ∗ (bigSep Finset.univ fun x : Fin 8 × Fin 3 => Φ x.1 x.2 1)) := by
  rw [← bigSep_sep', bigSep_univ_equiv (Equiv.prodAssoc (Fin 8) (Fin 3) (Fin 2)), bigSep_univ_prod]
  refine bigSep_congr fun x _ => ?_
  rw [bigSep_fin2]; rfl

/-! ## What is handed over on the barrier -/

theorem barPay_across (d : Dev nD) (k : Fin 3) :
    barPay (F := F) d (k.natAdd 2) = bigSep Finset.univ fun x : Fin 8 × Fin 2 => p2E (F := F) (zP d k) x.1 (krF d k) x.2 := by
  match k with
  | 0 => rfl
  | 1 => rfl
  | 2 => rfl

/-- A device hands to a neighbour its own slots of the direction away from it, -/
theorem give_nbr (h : Fin 2) : barPay (F := F) (nxt h c) (match h with | 0 => 1 | 1 => 0)
    = bigSep Finset.univ fun x : Fin 8 × Fin 3 => slotE (F := F) c (1 - h) x.1 x.2.castSucc := by
  match h with
  | 0 => show (bigSep Finset.univ fun x : Fin 8 × Fin 3 => slotE (F := F) (prv 0 (nxt 0 c)) 1 x.1 x.2.castSucc) = _; rw [prv_nxt]; rfl
  | 1 => show (bigSep Finset.univ fun x : Fin 8 × Fin 3 => slotE (F := F) (prv 1 (nxt 1 c)) 0 x.1 x.2.castSucc) = _; rw [prv_nxt]; rfl
/-- and to a partner across its own half blocks in that partner's place. -/
theorem give_across (k : Fin 3) : barPay (F := F) (zP c k) ((krF c k).natAdd 2) = bigSep Finset.univ fun x : Fin 8 × Fin 2 => p2E (F := F) c x.1 k x.2 := by
  rw [barPay_across, zP_zP, kr_kr]

/-- All a device hands over. -/
theorem give : iprop((bigSep Finset.univ fun x : Fin 8 × Fin 3 => slotE (F := F) c 0 x.1 x.2.castSucc) ∗ (bigSep Finset.univ fun x : Fin 8 × Fin 3 => slotE (F := F) c 1 x.1 x.2.castSucc)
      ∗ bigSep Finset.univ fun x : Ix3 => p2E (F := F) c x.1 x.2.1 x.2.2)
    ⊢ five (fun i => pay I (partner c i) kbar (rev c i)) := by
  rw [p2_parts (fun j k h => p2E c j k h), ← give_across c 0, ← give_across c 1, ← give_across c 2]
  have e0 := give_nbr (F := F) c 1
  have e1 := give_nbr (F := F) c 0
  show iprop((bigSep Finset.univ fun x : Fin 8 × Fin 3 => slotE (F := F) c (1 - 1) x.1 x.2.castSucc) ∗ (bigSep Finset.univ fun x : Fin 8 × Fin 3 => slotE (F := F) c (1 - 0) x.1 x.2.castSucc) ∗ _) ⊢ _
  rw [← e0, ← e1]
  exact .rfl

/-- All it is handed. -/
theorem got : (bigSep Finset.univ fun i => pay I c kbar i)
    ⊢ iprop((bigSep Finset.univ fun x : Ix3 => slotE (F := F) (nxt x.2.2 c) x.2.2 x.1 x.2.1.castSucc)
      ∗ (bigSep Finset.univ fun x : Ix3 => p2E (F := F) (zP c x.2.1) x.1 (krF c x.2.1) x.2.2) : sProp 𝕄) := by
  rw [slot_parts (fun j s h => slotE (nxt h c) h j s.castSucc), p2_parts (fun j k h => p2E (zP c k) j (krF c k) h), bigSep_fin5]
  show iprop(barPay c 0 ∗ barPay c 1 ∗ barPay c 2 ∗ barPay c 3 ∗ barPay c 4) ⊢ iprop((barPay c 0 ∗ barPay c 1) ∗ barPay c 2 ∗ barPay c 3 ∗ barPay c 4)
  iintro ⟨H0, H1, H2⟩
  iframe

/-! ## A device's start -/

/-- The tokens of the duties, one for each of a meeting's five and one for each transfer semaphore. -/
abbrev Tk : Type := (Fin 2 × Fin 5) ⊕ (Fin 4 × Ix3)
/-- The duty of which device's semaphore is meant. -/
def tokP (x : Dev nD × Tk) : sProp 𝕄 :=
  match x with
  | (d, .inl (b, i)) => dutyTok ER (cell d (.inl b)) 0 i
  | (d, .inr y) => dutyTok ER (cell d (.inr y)) 0 0
/-- The device and duty that device `d` fulfils. -/
def payMap : Dev nD × Tk → Dev nD × Tk
  | (d, .inl (b, i)) => (partner d i, .inl (b, rev d i))
  | (d, .inr (0, y)) => (d, .inr (0, y))
  | (d, .inr (1, j, s, h)) => (nxt h d, .inr (1, j, s, h))
  | (d, .inr (2, y)) => (d, .inr (2, y))
  | (d, .inr (3, j, k, h)) => (zP d k, .inr (3, j, krF d k, h))

/-- What is owed in all to a semaphore of each kind at the launch. -/
def tot : Kd → ℕ
  | .inl _ => 5
  | .inr (0, _) => 0
  | .inr (1, _) => N1
  | .inr (2, _) => 0
  | .inr (3, _) => N2

/-- What device `c` starts with besides its memory. -/
def linP : sProp 𝕄 :=
  iprop((bigSep Finset.univ fun t : Tk => tokP (F := F) (payMap (c, t))) ∗ (bigSep Finset.univ fun k : Kd => atPos ER (cell c k) 0 ∅ 0)
    ∗ (bigSep Finset.univ fun k : Kd => cred (tallyAt (cell c k) () (tot k))))

/-- A meeting's part of that; -/
def meetP (b : Fin 2) : sProp 𝕄 :=
  iprop((five fun i => dutyTok ER (cell (partner c i) (.inl b)) 0 (rev c i)) ∗ cred (tallyAt (cell c (.inl b)) () 5) ∗ atPos ER (cell c (.inl b)) 0 ∅ 0)
/-- the transfers' part. -/
def moveP : sProp 𝕄 :=
  iprop((bigSep Finset.univ fun x : Ix3 => iprop(dutyTok ER (cell c (kss x.1 x.2.1 x.2.2)) 0 0 ∗ dutyTok ER (cell (nxt x.2.2 c) (krs x.1 x.2.1 x.2.2)) 0 0
        ∗ atPos ER (cell c (kss x.1 x.2.1 x.2.2)) 0 ∅ 0))
    ∗ (bigSep Finset.univ fun x : Ix3 => rcvR c x.1 x.2.1 x.2.2)
    ∗ (bigSep Finset.univ fun x : Ix3 => iprop(dutyTok ER (cell c (ks2 x.1 x.2.1 x.2.2)) 0 0 ∗ dutyTok ER (cell (zP c x.2.1) (kr2 x.1 (krF c x.2.1) x.2.2)) 0 0
        ∗ atPos ER (cell c (ks2 x.1 x.2.1 x.2.2)) 0 ∅ 0))
    ∗ (bigSep Finset.univ fun x : Ix3 => rcvA c x.1 x.2.1 x.2.2))

theorem toks_parts : (bigSep Finset.univ fun t : Tk => tokP (F := F) (payMap (c, t)))
    = iprop((((bigSep Finset.univ fun i : Fin 5 => dutyTok ER (cell (partner c i) (.inl 0)) 0 (rev c i)) ∗ bigSep Finset.univ fun i : Fin 5 => dutyTok ER (cell (partner c i) (.inl 1)) 0 (rev c i)))
      ∗ (bigSep Finset.univ fun x : Ix3 => dutyTok ER (cell c (kss x.1 x.2.1 x.2.2)) 0 0)
      ∗ (bigSep Finset.univ fun x : Ix3 => dutyTok ER (cell (nxt x.2.2 c) (krs x.1 x.2.1 x.2.2)) 0 0)
      ∗ (bigSep Finset.univ fun x : Ix3 => dutyTok ER (cell c (ks2 x.1 x.2.1 x.2.2)) 0 0)
      ∗ (bigSep Finset.univ fun x : Ix3 => dutyTok ER (cell (zP c x.2.1) (kr2 x.1 (krF c x.2.1) x.2.2)) 0 0)) := by
  rw [bigSep_univ_sum, bigSep_univ_prod, bigSep_fin2, bigSep_univ_prod, bigSep_fin4]; rfl

theorem five_of (P : Fin 5 → sProp 𝕄) : bigSep Finset.univ P ⊢ five P := by
  rw [bigSep_fin5]; unfold five
  iintro ⟨H0, H1, H2⟩
  iframe
theorem five_sep (P Q : Fin 5 → sProp 𝕄) : iprop(five P ∗ five Q) ⊢ five fun i => iprop(P i ∗ Q i) := by
  unfold five
  iintro ⟨⟨H0, H1, H2, H3, H4⟩, ⟨G0, G1, G2, G3, G4⟩⟩
  beta_reduce
  iframe

theorem lin_split : linP c ⊢ (iprop(meetP c 0 ∗ meetP c 1 ∗ moveP c) : sProp 𝕄) := by
  unfold linP meetP moveP rcvR rcvA
  rw [toks_parts, bigSep_kinds, bigSep_kinds]
  simp only [bigSep_sep']
  iintro ⟨⟨⟨T0, T1⟩, Ts, Tr, Ts2, Tr2⟩, ⟨⟨A0, A1⟩, As, Ar, As2, Ar2⟩, ⟨⟨C0, C1⟩, Cs, Cr, Cs2, Cr2⟩⟩
  isplitl [T0 A0 C0]
  · isplitl [T0]; · iapply (five_of (F := F)); iexact T0
    isplitl [C0]; · iexact C0
    iexact A0
  isplitl [T1 A1 C1]
  · isplitl [T1]; · iapply (five_of (F := F)); iexact T1
    isplitl [C1]; · iexact C1
    iexact A1
  isplitl [Ts Tr As]
  · isplitl [Ts]; · iexact Ts
    isplitl [Tr]; · iexact Tr
    iexact As
  isplitl [Cr Ar]
  · isplitl [Cr]; · iexact Cr
    iexact Ar
  isplitl [Ts2 Tr2 As2]
  · isplitl [Ts2]; · iexact Ts2
    isplitl [Tr2]; · iexact Tr2
    iexact As2
  isplitl [Cr2]; · iexact Cr2
  iexact Ar2

/-! ## The chunks' first and last states -/

theorem chunk_start (j : Fin 8) :
    iprop(both (fun h => slotE c h j 3) ∗ (all3 fun s => both fun h => sndR c j s h) ∗ (all3 fun s => both fun h => rcvR c j s h)
      ∗ (all3 fun k => both fun h => sndA c j k h) ∗ (all3 fun k => both fun h => rcvA c j k h)) ⊢ C I c j 0 := by
  show iprop(_ ∗ (both (sndR c j 0) ∗ both (sndR c j 1) ∗ both (sndR c j 2)) ∗ (both (rcvR c j 0) ∗ both (rcvR c j 1) ∗ both (rcvR c j 2)) ∗ _ ∗ _)
    ⊢ iprop(_ ∗ both (sndR c j 0) ∗ both (rcvR c j 0) ∗ both (sndR c j 1) ∗ both (rcvR c j 1) ∗ both (sndR c j 2) ∗ both (rcvR c j 2) ∗ _ ∗ _)
  iintro ⟨H, ⟨S0, S1, S2⟩, ⟨R0, R1, R2⟩, HA, HB⟩
  iframe

theorem chunks_start :
    iprop((bigSep Finset.univ fun j : Fin 8 => slotE (F := F) c 0 j 3) ∗ (bigSep Finset.univ fun j : Fin 8 => slotE (F := F) c 1 j 3) ∗ moveP c
      ∗ (bigSep Finset.univ fun x : Ix3 => slotE (F := F) (nxt x.2.2 c) x.2.2 x.1 x.2.1.castSucc)
      ∗ (bigSep Finset.univ fun x : Ix3 => p2E (F := F) (zP c x.2.1) x.1 (krF c x.2.1) x.2.2))
    ⊢ bigSep Finset.univ fun j => C I c j 0 := by
  have e : iprop((bigSep Finset.univ fun j : Fin 8 => both (fun h => slotE (F := F) c h j 3)) ∗ (bigSep Finset.univ fun x : Ix3 => sndR c x.1 x.2.1 x.2.2)
      ∗ (bigSep Finset.univ fun x : Ix3 => rcvR c x.1 x.2.1 x.2.2) ∗ (bigSep Finset.univ fun x : Ix3 => sndA c x.1 x.2.1 x.2.2)
      ∗ (bigSep Finset.univ fun x : Ix3 => rcvA c x.1 x.2.1 x.2.2)) ⊢ bigSep Finset.univ fun j => C I c j 0 := by
    rw [bigSep_chunks (sndR c), bigSep_chunks (rcvR c), bigSep_chunks (sndA c), bigSep_chunks (rcvA c), ← bigSep_sep', ← bigSep_sep', ← bigSep_sep', ← bigSep_sep']
    exact bigSep_mono fun j _ => chunk_start I c j
  refine .trans ?_ e
  unfold moveP sndR sndA both
  simp only [bigSep_sep']
  iintro ⟨H0, H1, ⟨⟨T1, T2, T3⟩, R, ⟨U1, U2, U3⟩, A⟩, S, P⟩
  isplitl [H0 H1]
  · isplitl [H0]; · iexact H0
    iexact H1
  isplitl [T1 T2 S T3]
  · isplitl [T1]; · iexact T1
    isplitl [T2]; · iexact T2
    isplitl [S]; · iexact S
    iexact T3
  isplitl [R]; · iexact R
  isplitl [U1 U2 P U3]
  · isplitl [U1]; · iexact U1
    isplitl [U2]; · iexact U2
    isplitl [P]; · iexact P
    iexact U3
  iexact A

/-- A chunk's slots of one direction. -/
def slots4 (j : Fin 8) (h : Fin 2) : sProp 𝕄 := bigSep Finset.univ fun sl : Fin 4 => slotE (F := F) c h j sl

theorem chunk_end (j : Fin 8) : D (F := F) c j 6
    ⊢ iprop(slots4 c j 0 ∗ slots4 c j 1 ∗ (all3 fun k => both fun h => p2E c j k h) ∗ (all3 fun s => both fun h => semVal (cell c (kss j s h)) 0)
      ∗ (all3 fun s => both fun h => semVal (cell c (krs j s h)) 0) ∗ (all3 fun k => both fun h => semVal (cell c (ks2 j k h)) 0)
      ∗ (all3 fun k => both fun h => semVal (cell c (kr2 j k h)) 0)) := by
  show rest c j (both (gonR c j 0)) (both (gonR c j 1)) (both (gonR c j 2)) (all3 (fun k => both (gonA c j k))) ⊢ _
  unfold rest
  iintro ⟨G0, G1, G2, GA, Hr, HD, HO⟩
  unfold slots4
  rw [bigSep_fin4, bigSep_fin4]
  unfold both all3 gonR gonA dneA
  icases G0 with ⟨⟨G00, V00⟩, ⟨G01, V01⟩⟩
  icases G1 with ⟨⟨G10, V10⟩, ⟨G11, V11⟩⟩
  icases G2 with ⟨⟨G20, V20⟩, ⟨G21, V21⟩⟩
  icases GA with ⟨⟨⟨A00, U00⟩, ⟨A01, U01⟩⟩, ⟨⟨A10, U10⟩, ⟨A11, U11⟩⟩, ⟨⟨A20, U20⟩, ⟨A21, U21⟩⟩⟩
  icases HD with ⟨⟨⟨B00, W00⟩, ⟨B01, W01⟩⟩, ⟨⟨B10, W10⟩, ⟨B11, W11⟩⟩, ⟨⟨B20, W20⟩, ⟨B21, W21⟩⟩⟩
  icases HO with ⟨O0, O1⟩
  isplitl [G00 G10 G20 A00 A10 A20 O0]
  · isplitl [G10]; · iexact G10
    isplitl [G20]; · iexact G20
    isplitr [G00]; rotate_left; · iexact G00
    iapply (slot_join c 0 j); iframe
  isplitl [G01 G11 G21 A01 A11 A21 O1]
  · isplitl [G11]; · iexact G11
    isplitl [G21]; · iexact G21
    isplitr [G01]; rotate_left; · iexact G01
    iapply (slot_join c 1 j); iframe
  isplitl [B00 B01 B10 B11 B20 B21]; · beta_reduce; iframe
  isplitl [V00 V01 V10 V11 V20 V21]; · beta_reduce; iframe
  isplitl [Hr]; · iexact Hr
  isplitl [U00 U01 U10 U11 U20 U21]; · beta_reduce; iframe
  beta_reduce
  iframe

theorem chunks_end : (bigSep Finset.univ fun j => D (F := F) c j 6)
    ⊢ iprop(bufP c 0 ∗ bufP c 1 ∗ pP c ∗ (bigSep Finset.univ fun x : Ix3 => semVal (cell c (.inr (0, x))) 0) ∗ (bigSep Finset.univ fun x : Ix3 => semVal (cell c (.inr (1, x))) 0)
      ∗ (bigSep Finset.univ fun x : Ix3 => semVal (cell c (.inr (2, x))) 0) ∗ (bigSep Finset.univ fun x : Ix3 => semVal (cell c (.inr (3, x))) 0)) := by
  have e (h : Fin 2) : (bigSep Finset.univ fun j => slots4 (F := F) c j h) ⊢ bufP c h := by
    refine .trans ?_ (buf_join c h)
    unfold slots4
    rw [bigSep_univ_prod]
  have e' : iprop((bigSep Finset.univ fun j => slots4 (F := F) c j 0) ∗ (bigSep Finset.univ fun j => slots4 (F := F) c j 1) ∗ (bigSep Finset.univ fun x : Ix3 => p2E (F := F) c x.1 x.2.1 x.2.2)
      ∗ (bigSep Finset.univ fun x : Ix3 => semVal (cell c (kss x.1 x.2.1 x.2.2)) 0) ∗ (bigSep Finset.univ fun x : Ix3 => semVal (cell c (krs x.1 x.2.1 x.2.2)) 0)
      ∗ (bigSep Finset.univ fun x : Ix3 => semVal (cell c (ks2 x.1 x.2.1 x.2.2)) 0) ∗ (bigSep Finset.univ fun x : Ix3 => semVal (cell c (kr2 x.1 x.2.1 x.2.2)) 0))
      ⊢ (iprop(bufP c 0 ∗ bufP c 1 ∗ pP c ∗ (bigSep Finset.univ fun x : Ix3 => semVal (cell c (.inr (0, x))) 0) ∗ (bigSep Finset.univ fun x : Ix3 => semVal (cell c (.inr (1, x))) 0)
        ∗ (bigSep Finset.univ fun x : Ix3 => semVal (cell c (.inr (2, x))) 0) ∗ (bigSep Finset.univ fun x : Ix3 => semVal (cell c (.inr (3, x))) 0)) : sProp 𝕄) := by
    iintro ⟨H0, H1, HP, S0, S1, S2, S3⟩
    isplitl [H0]; · iapply (e 0); iexact H0
    isplitl [H1]; · iapply (e 1); iexact H1
    isplitl [HP]; · iapply (p_join c); iexact HP
    isplitl [S0]; · iexact S0
    isplitl [S1]; · iexact S1
    isplitl [S2]; · iexact S2
    iexact S3
  refine .trans ?_ e'
  rw [bigSep_chunks (fun j k h => p2E c j k h), bigSep_chunks (fun j s h => semVal (cell c (kss j s h)) 0), bigSep_chunks (fun j s h => semVal (cell c (krs j s h)) 0),
    bigSep_chunks (fun j s h => semVal (cell c (ks2 j s h)) 0), bigSep_chunks (fun j s h => semVal (cell c (kr2 j s h)) 0),
    ← bigSep_sep', ← bigSep_sep', ← bigSep_sep', ← bigSep_sep', ← bigSep_sep', ← bigSep_sep']
  exact bigSep_mono fun j _ => chunk_end c j

/-! ## The result -/

/-- Device `c`'s result, element by element: column `n` lies in half `n % 256 / 128` of chunk `n / 256`. -/
def outAt : kA.o.view.ty.Contents (Elt F) := fun (i : S256x2048.Idx) =>
  res I c ⟨(i 1).val / 256, by have h : (i 1).val < 2048 := (i 1).isLt; omega⟩ ⟨(i 1).val % 256 / 128, by omega⟩
    (fun | 0 => i 0 | 1 => ⟨(i 1).val % 128, Nat.mod_lt _ (by decide)⟩)

theorem out_eq (g : kA.o.view.ty.Contents (Elt F)) (hg : outOk I c (fun _ => 6) g) : g = outAt I c := by
  funext (i : S256x2048.Idx)
  have h1 : (i 1).val < 2048 := (i 1).isLt
  let x : S256x128.Idx := fun | 0 => i 0 | 1 => ⟨(i 1).val % 128, Nat.mod_lt _ (by decide)⟩
  have e := congrFun (hg ⟨(i 1).val / 256, by omega⟩ rfl ⟨(i 1).val % 256 / 128, by omega⟩) x
  rw [View.read_apply] at e
  refine (congrArg g ?_).trans e
  funext a
  refine Fin.ext ?_
  match a with
  | 0 => show (i 0).val = 0 + 1 * (i 0).val; omega
  | 1 => show (i 1).val = 256 * ((i 1).val / 256) + 128 * ((i 1).val % 256 / 128) + 1 * ((i 1).val % 128); omega

/-! ## The body -/

/-- What device `c` owes at its launch. -/
def O₀ : CellTallies nD τ sig Unit := oc c (fun _ => 0) + om c 1 + om c 0

theorem dev_at (Kt : PUnit.{1} → sProp 𝕄) (f : Dev nD → PK F) : WP c (.op .deviceId f) Kt = WP c (f c) Kt := by
  unfold WP; rw [wp_deviceId]

theorem ret_at (Kt : PUnit.{1} → sProp 𝕄) : Kt ⟨⟩ ⊢ WP (F := F) c (.ret ⟨⟩) Kt := by
  unfold WP; rw [wp_ret]; iintro H; imodintro; iexact H

theorem body_at' (l : List Step) (Kt : PUnit.{1} → sProp 𝕄) :
    WP c (.op .deviceId fun d => meet d barS <| run (step (F := F) kA d) l <| run (stepSent kA d) l <| meet d kA.fin.sem (.ret ⟨⟩)) Kt
      = WP c (meet c (msem 0) <| run (step kA c) l <| run (stepSent kA c) l <| meet c (msem 1) (.ret ⟨⟩)) Kt :=
  dev_at c Kt _

theorem body_at (Kt : PUnit.{1} → sProp 𝕄) :
    WP c (body (F := F) kA) Kt = WP c (meet c (msem 0) <| run (step kA c) sched <| run (stepSent kA c) sched <| meet c (msem 1) (.ret ⟨⟩)) Kt := by
  unfold body; exact body_at' c sched Kt

theorem wp_body (Kt : PUnit.{1} → sProp 𝕄) :
    iprop(recs I N ∗ linP c ∗ bufP c 0 ∗ bufP c 1 ∗ pP c ∗ xwP I c ∗ (∃ g, outP c g) ∗ Ow c (O₀ c))
      ⊢ iprop((((bigSep Finset.univ fun k : Kd => semVal (cell c k) 0) ∗ bufP c 0 ∗ bufP c 1 ∗ pP c ∗ xwP I c ∗ outP c (outAt I c) ∗ Ow c 0) -∗ Kt ⟨⟩)
          -∗ WP c (body kA) Kt) := by
  unfold O₀
  rw [body_at]
  iintro ⟨#Hr, HL, HB0, HB1, HP, Hx, ⟨%g, Hg⟩, HO⟩ Hk
  ihave HL := (lin_split c) $$ HL
  unfold meetP
  icases HL with ⟨⟨T0, C0, A0⟩, ⟨T1, C1, A1⟩, HM⟩
  ihave HB0 := (buf_split c 0) $$ HB0
  ihave HB0 := (slots_parts c 0) $$ HB0
  icases HB0 with ⟨HB0, HS0⟩
  ihave HB1 := (buf_split c 1) $$ HB1
  ihave HB1 := (slots_parts c 1) $$ HB1
  icases HB1 with ⟨HB1, HS1⟩
  ihave HP := (p_split c) $$ HP
  ihave HG := (give I c) $$ [HB0 HB1 HP]
  · isplitl [HB0]; · iexact HB0
    isplitl [HB1]; · iexact HB1
    iexact HP
  ihave HG := (five_sep _ _) $$ [T0 HG]
  · isplitl [T0]; · iexact T0
    iexact HG
  iapply (wp_meet I N c Kt 0 (oc c (fun _ => 0) + om c 1) (.add (oc_above c 1 _ (by decide)) (om_above c 1 1 (by decide)))) $$ [HG C0 A0 HO]
  · isplitr; · iexact Hr
    isplitl [HG]; · iexact HG
    isplitl [C0]; · iexact C0
    isplitl [A0]; · iexact A0
    iexact HO
  iintro ⟨HG, V0, HO⟩
  ihave HG := (got I c) $$ HG
  icases HG with ⟨HG, HG'⟩
  ihave HC := (chunks_start I c) $$ [HS0 HS1 HM HG HG']
  · isplitl [HS0]; · iexact HS0
    isplitl [HS1]; · iexact HS1
    isplitl [HM]; · iexact HM
    isplitl [HG]; · iexact HG
    iexact HG'
  iapply (wp_run c Kt (step kA c) (C I c) (S1 I N c) okStep (step1 I N c Kt) _ sched (fun _ => 0) sched_good) $$ [HC Hx Hg HO]
  · isplitl [HC]; · iexact HC
    unfold S1
    isplitr; · iexact Hr
    isplitl [Hx]; · iexact Hx
    isplitl [Hg]
    · iexists g
      isplitr; · ipureintro; intro j h; exact absurd h (show ¬ (0 : ℕ) = 6 by decide)
      iexact Hg
    iexact HO
  unfold S1
  iintro ⟨HC, -, Hx, ⟨%g', %hg, Hg⟩, HO⟩
  have e : (bigSep Finset.univ fun j => C I c j 6) ⊢ bigSep Finset.univ fun j => D (F := F) c j 0 := bigSep_mono fun j _ => C_end I c j
  ihave HC := e $$ HC
  rw [oc_end, zero_add]
  iapply (wp_run c Kt (stepSent kA c) (D (F := F) c) (fun _ => S2 I N c) (fun _ _ => true) (fun _ st K _ _ => step2 I N c Kt st K) _ sched (fun _ => 0) sched_order) $$ [HC HO]
  · isplitl [HC]; · iexact HC
    unfold S2
    isplitr; · iexact Hr
    iexact HO
  unfold S2
  iintro ⟨HC, -, HO⟩
  have e0 : om c 1 = 0 + om c 1 := (zero_add _).symm
  rw [e0]
  have e1 : (five fun i => dutyTok ER (cell (partner c i) (.inl 1)) 0 (rev c i) : sProp 𝕄)
      ⊢ five (fun i => iprop(dutyTok ER (cell (partner c i) (.inl 1)) 0 (rev c i) ∗ pay I (partner c i) (.inl 1) (rev c i))) := by
    show _ ⊢ five (fun i => iprop(dutyTok ER (cell (partner c i) (.inl 1)) 0 (rev c i) ∗ emp))
    unfold five
    iintro ⟨H0, H1, H2, H3, H4⟩
    beta_reduce
    iframe
  ihave T1 := e1 $$ T1
  iapply (wp_meet I N c Kt 1 0 (.zero _)) $$ [T1 C1 A1 HO]
  · isplitr; · iexact Hr
    isplitl [T1]; · iexact T1
    isplitl [C1]; · iexact C1
    isplitl [A1]; · iexact A1
    iexact HO
  iintro ⟨-, V1, HO⟩
  ihave HC := (chunks_end c) $$ HC
  icases HC with ⟨HB0, HB1, HP, Q0, Q1, Q2, Q3⟩
  have e2 := out_eq I c g' hg
  subst e2
  iapply (ret_at c Kt)
  iapply Hk
  rw [bigSep_kinds]
  isplitl [V0 V1 Q0 Q1 Q2 Q3]
  · isplitl [V0 V1]
    · isplitl [V0]; · iexact V0
      iexact V1
    isplitl [Q0]; · iexact Q0
    isplitl [Q1]; · iexact Q1
    isplitl [Q2]; · iexact Q2
    iexact Q3
  isplitl [HB0]; · iexact HB0
  isplitl [HB1]; · iexact HB1
  isplitl [HP]; · iexact HP
  isplitl [Hx]; · iexact Hx
  isplitl [Hg]; · iexact Hg
  iexact HO

end Cert.KernelIdeal.K

end
-- ==== Proof.K.Launch.lean ====
/- The launch: what every device is dealt, what it owes, and the run of the whole program. -/
module

public import proofs.«01_k».proof.Proof.K.Body
public import Idealize.ShloMosaic.Lib.Pipeline.CollectiveSegs

@[expose] public section

set_option maxRecDepth 16384

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The duties dealt around -/

/-- The inverse of `payMap`: who fulfils a duty. -/
def dueMap : Dev nD × Tk → Dev nD × Tk
  | (d, .inl (b, i)) => (partner d i, .inl (b, rev d i))
  | (d, .inr (0, y)) => (d, .inr (0, y))
  | (d, .inr (1, j, s, h)) => (prv h d, .inr (1, j, s, h))
  | (d, .inr (2, y)) => (d, .inr (2, y))
  | (d, .inr (3, j, k, h)) => (zP d k, .inr (3, j, krF d k, h))

theorem dueMap_payMap (x : Dev nD × Tk) : dueMap (payMap x) = x := by
  match x with
  | (d, .inl (b, i)) => show (partner (partner d i) (rev d i), Sum.inl (b, rev (partner d i) (rev d i))) = _; rw [partner_rev, rev_rev]
  | (d, .inr (0, y)) => rfl
  | (d, .inr (1, j, s, h)) => show (prv h (nxt h d), Sum.inr (1, j, s, h)) = _; rw [prv_nxt]
  | (d, .inr (2, y)) => rfl
  | (d, .inr (3, j, k, h)) => show (zP (zP d k) (krF d k), Sum.inr (3, j, krF (zP d k) (krF d k), h)) = _; rw [zP_zP, kr_kr]
theorem payMap_dueMap (x : Dev nD × Tk) : payMap (dueMap x) = x := by
  match x with
  | (d, .inl (b, i)) => show (partner (partner d i) (rev d i), Sum.inl (b, rev (partner d i) (rev d i))) = _; rw [partner_rev, rev_rev]
  | (d, .inr (0, y)) => rfl
  | (d, .inr (1, j, s, h)) => show (nxt h (prv h d), Sum.inr (1, j, s, h)) = _; rw [nxt_prv]
  | (d, .inr (2, y)) => rfl
  | (d, .inr (3, j, k, h)) => show (zP (zP d k) (krF d k), Sum.inr (3, j, krF (zP d k) (krF d k), h)) = _; rw [zP_zP, kr_kr]

def payEquiv : Dev nD × Tk ≃ Dev nD × Tk := ⟨payMap, dueMap, dueMap_payMap, payMap_dueMap⟩

/-- The semaphore a duty is of, and its amount. -/
def kdOf : Tk → Kd
  | .inl (b, _) => .inl b
  | .inr y => .inr y
def amtT : Tk → ℕ
  | .inl _ => 1
  | .inr y => tot (.inr y)
def owT (x : Dev nD × Tk) : CellTallies nD τ sig Unit := tallyAt (cell x.1 (kdOf x.2)) () (amtT x.2)

/-- What a device owes at its launch is what its duties are worth. -/
theorem O₀_eq (d : Dev nD) : O₀ d = ∑ t : Tk, owT (payMap (d, t)) := by
  have hz (g : GSem nD τ sig) : (tallyAt g () 0 : CellTallies nD τ sig Unit) = 0 := by
    funext g'; refine Finsupp.ext fun u => ?_; rw [tallyAt_apply]; split <;> rfl
  have hc (j : Fin 8) : (∑ q : Fin 6, if (fun _ => 0 : Fin 8 → ℕ) j ≤ q.val then ow d j q.val else 0)
      = (∑ s : Fin 3, ∑ h : Fin 2, ow1 d j s h) + ∑ k : Fin 3, ∑ h : Fin 2, ow2 d j k h := by
    rw [Finset.sum_congr rfl fun q _ => if_pos (Nat.zero_le _)]
    simp only [Fin.sum_univ_six, Fin.sum_univ_three, Fin.sum_univ_two]
    show (ow1 d j 0 0 + ow1 d j 0 1) + (ow1 d j 1 0 + ow1 d j 1 1) + (ow1 d j 2 0 + ow1 d j 2 1) + 0
        + (ow2 d j 0 0 + ow2 d j 0 1 + ow2 d j 1 0 + ow2 d j 1 1 + ow2 d j 2 0 + ow2 d j 2 1) + 0 = _
    rw [add_zero, add_zero]
    ac_rfl
  have hm (b : Fin 2) : om d b = ∑ i : Fin 5, ow3 d b i := by rw [Fin.sum_univ_five]; rfl
  unfold O₀ oc
  rw [Finset.sum_congr rfl fun j _ => hc j, Finset.sum_add_distrib, hm, hm, Fintype.sum_sum_type, Fintype.sum_prod_type, Fin.sum_univ_two,
    Fintype.sum_prod_type, Fin.sum_univ_four]
  have h0 : ∑ y : Ix3, owT (payMap (d, .inr (0, y))) = 0 := Finset.sum_eq_zero fun y _ => hz _
  have h2 : ∑ y : Ix3, owT (payMap (d, .inr (2, y))) = 0 := Finset.sum_eq_zero fun y _ => hz _
  have h1 : ∑ y : Ix3, owT (payMap (d, .inr (1, y))) = ∑ j : Fin 8, ∑ s : Fin 3, ∑ h : Fin 2, ow1 d j s h := by
    rw [Fintype.sum_prod_type]; refine Finset.sum_congr rfl fun j _ => ?_; rw [Fintype.sum_prod_type]; rfl
  have h3 : ∑ y : Ix3, owT (payMap (d, .inr (3, y))) = ∑ j : Fin 8, ∑ k : Fin 3, ∑ h : Fin 2, ow2 d j k h := by
    rw [Fintype.sum_prod_type]; refine Finset.sum_congr rfl fun j _ => ?_; rw [Fintype.sum_prod_type]; rfl
  rw [h0, h1, h2, h3, zero_add, add_zero]
  show _ = (∑ i : Fin 5, ow3 d 0 i) + (∑ i : Fin 5, ow3 d 1 i) + _
  ac_rfl

/-- What one duty gives a semaphore: -/
theorem owT_at (x : Dev nD × Tk) (c : Dev nD) (k : Kd) : owT x (cell c k) () = if x.1 = c then if kdOf x.2 = k then amtT x.2 else 0 else 0 := by
  unfold owT; rw [tallyAt_apply]
  by_cases h1 : x.1 = c
  · rw [if_pos h1]
    by_cases h2 : kdOf x.2 = k
    · rw [if_pos h2, h1, h2]; exact if_pos ⟨rfl, rfl⟩
    · rw [if_neg h2]
      exact if_neg fun h => h2 (congrArg Prod.snd (cell_injective (a₁ := (c, k)) (a₂ := (x.1, kdOf x.2)) h.1)).symm
  · rw [if_neg h1]
    exact if_neg fun h => h1 (congrArg Prod.fst (cell_injective (a₁ := (c, k)) (a₂ := (x.1, kdOf x.2)) h.1)).symm

/-- the duties of one kind together, -/
theorem amt_sum (k : Kd) : (∑ t : Tk, if kdOf t = k then amtT t else 0) = tot k := by
  rw [Fintype.sum_sum_type]
  match k with
  | .inl b =>
    have z : (∑ y : Fin 4 × Ix3, if kdOf (.inr y) = Sum.inl b then amtT (.inr y) else 0) = 0 :=
      Finset.sum_eq_zero fun y _ => if_neg fun h => by cases h
    rw [z, add_zero, Fintype.sum_prod_type]
    refine (Finset.sum_eq_single b (fun b' _ hb => Finset.sum_eq_zero fun i _ => if_neg fun h => hb (Sum.inl.inj h)) (fun h => absurd (Finset.mem_univ b) h)).trans ?_
    exact (Finset.sum_congr rfl fun i _ => if_pos rfl).trans rfl
  | .inr y =>
    have z : (∑ x : Fin 2 × Fin 5, if kdOf (.inl x) = Sum.inr y then amtT (.inl x) else 0) = 0 :=
      Finset.sum_eq_zero fun x _ => if_neg fun h => by cases h
    rw [z, zero_add]
    refine (Finset.sum_eq_single y (fun y' _ hy => if_neg fun h => hy (Sum.inr.inj h)) (fun h => absurd (Finset.mem_univ y) h)).trans ?_
    exact if_pos rfl

/-- and all that is owed to one semaphore. -/
theorem owed_to (c : Dev nD) (k : Kd) : ∑ d : Dev nD, O₀ d (cell c k) () = tot k := by
  have e (d : Dev nD) : O₀ d (cell c k) () = ∑ t : Tk, owT (payMap (d, t)) (cell c k) () := by
    rw [O₀_eq, Finset.sum_apply, Finsupp.finset_sum_apply]
  rw [Finset.sum_congr rfl fun d _ => e d, ← Fintype.sum_prod_type (fun x : Dev nD × Tk => owT (payMap x) (cell c k) ())]
  refine (Equiv.sum_comp payEquiv fun x => owT x (cell c k) ()).trans ?_
  rw [Finset.sum_congr rfl fun x _ => owT_at x c k, Fintype.sum_prod_type]
  refine (Finset.sum_eq_single c (fun d _ hd => Finset.sum_eq_zero fun t _ => if_neg hd) (fun h => absurd (Finset.mem_univ c) h)).trans ?_
  exact (Finset.sum_congr rfl fun t _ => if_pos rfl).trans (amt_sum k)

theorem launch_cell (c : Dev nD) (k : Kd) :
    tallyOn (cell c k) (launchCredit (Pipeline.owing O₀) 0 (cell c k)) = (tallyAt (cell c k) () (tot k) : CellTallies nD τ sig Unit) := by
  unfold tallyAt; refine congrArg _ (Finsupp.ext fun u => ?_); cases u
  rw [Pipeline.launchCredit_owing, Finsupp.single_eq_same, owed_to]

theorem creds (c : Dev nD) : (Pipeline.launchCred O₀ c : sProp 𝕄) ⊢ bigSep Finset.univ fun k : Kd => cred (tallyAt (cell c k) () (tot k)) := by
  unfold Pipeline.launchCred
  refine (bigSep_subset (Finset.subset_univ (Finset.univ.map ⟨csem, csem_injective⟩))).trans ?_
  rw [bigSep_map]
  exact bigSep_mono fun k _ => Entails.of_eq (congrArg cred (launch_cell c k))

/-! ## What the launch deals -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The blocks of `x` and `w` the devices stage. -/
def ins : Ins F where
  X c := (win0_0.blk (0 : Fin 1)).view.read (Elt F) (m ((c : Thread nD τ).loc main_arg0))
  W c := (win0_1.blk (0 : Fin 1)).view.read (Elt F) (m ((c : Thread nD τ).loc main_arg1))

/-- The kernel's own semaphores: the closing meeting's and the transfers'. -/
def osem : Unit ⊕ (Fin 4 × Ix3) → SemLoc sig := fun | .inl _ => csem kfin | .inr y => csem (.inr y)

/-- The staging semaphores are none of them. -/
theorem stage_decode : ∀ (w : Fin cfg0.W) (s : Fin (cfg0.spec w).nbuf), decode (.dma ((cfg0.spec w).sem s)) = none := by decide +kernel

theorem ownSemFacts : Pipeline.OwnSemFacts cfg0.spec osem where
  isScoped := by decide +kernel
  inj := fun a b h => by
    match a, b, h with
    | .inl _, .inl _, _ => rfl
    | .inl _, .inr y, h => cases csem_injective (show csem kfin = csem (.inr y) from h)
    | .inr y, .inl _, h => cases csem_injective (show csem (.inr y) = csem kfin from h)
    | .inr y, .inr y', h => exact congrArg Sum.inr (Sum.inr.inj (csem_injective (show csem (.inr y) = csem (.inr y') from h)))
  disj := fun k w s h => by
    have h1 : decode (.dma ((cfg0.spec w).sem s)) = none := stage_decode w s
    have h2 : ∃ k', osem k = csem k' := by match k with | .inl _ => exact ⟨kfin, rfl⟩ | .inr y => exact ⟨.inr y, rfl⟩
    obtain ⟨k', h2⟩ := h2
    rw [← h, h2, decode_csem] at h1
    cases h1

def cellSet : Finset (GSem nD τ sig) := Finset.univ.map ⟨fun x : Dev nD × Kd => cell x.1 x.2, cell_injective⟩
def tokOf (x : Dev nD × Tk) : GSem nD τ sig × ℕ × Fin 5 :=
  match x with
  | (d, .inl (b, i)) => (cell d (.inl b), 0, i)
  | (d, .inr y) => (cell d (.inr y), 0, 0)
theorem tokOf_injective : Function.Injective tokOf := by
  intro x y h
  match x, y, h with
  | (d, .inl (b, i)), (d', .inl (b', i')), h =>
    have h1 := cell_injective (a₁ := (d, .inl b)) (a₂ := (d', .inl b')) (congrArg Prod.fst h)
    have h2 : i = i' := congrArg (fun x : GSem nD τ sig × ℕ × Fin 5 => x.2.2) h
    cases h1; cases h2; rfl
  | (d, .inl (b, i)), (d', .inr y), h => cases cell_injective (a₁ := (d, .inl b)) (a₂ := (d', .inr y)) (congrArg Prod.fst h)
  | (d, .inr y), (d', .inl (b, i)), h => cases cell_injective (a₁ := (d, .inr y)) (a₂ := (d', .inl b)) (congrArg Prod.fst h)
  | (d, .inr y), (d', .inr y'), h => cases cell_injective (a₁ := (d, .inr y)) (a₂ := (d', .inr y')) (congrArg Prod.fst h); rfl
def tokSet : Finset (GSem nD τ sig × ℕ × Fin 5) := Finset.univ.map ⟨tokOf, tokOf_injective⟩

theorem tokP_eq (x : Dev nD × Tk) : (dutyTok ER (tokOf x).1 (tokOf x).2.1 (tokOf x).2.2 : sProp 𝕄) = tokP x := by
  match x with
  | (d, .inl (b, i)) => rfl
  | (d, .inr y) => rfl

def u₀ : UU := (initOf (Pipeline.cells cfgs cellOf_inj) (Pipeline.launchToks cfgs cellOf_inj), initOf cellSet tokSet)

/-- What the launch deals device `c`: its semaphores' round states, its turns at them, its duty tokens. -/
def G (c : Dev nD) : sProp 𝕄 :=
  iprop((bigSep Finset.univ fun k : Kd => roundState ER (Rd (ins m)) (cell c k) 0)
    ∗ (bigSep Finset.univ fun k : Kd => iprop(atPos ER (cell c k) 0 ∅ 0 ∗ reached ER (cell c k) 0)) ∗ bigSep Finset.univ fun t : Tk => tokP (F := F) (c, t))

theorem fund : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Kd => Φ (cell c k) := by
    unfold cellSet; rw [bigSep_map, bigSep_univ_prod]; rfl
  have hT : bigSep tokSet (fun x => (dutyTok ER x.1 x.2.1 x.2.2 : sProp 𝕄)) = bigSep Finset.univ fun c : Dev nD => bigSep Finset.univ fun t : Tk => tokP (F := F) (c, t) := by
    unfold tokSet; rw [bigSep_map]; refine (bigSep_congr fun x _ => tokP_eq x).trans ?_; rw [bigSep_univ_prod]
  iintro HX
  imod (Rounds.fund ER (Rd (ins m)) cellSet tokSet) $$ HX with ⟨Hst, Hr, Hat, Htok⟩
  imodintro
  ihave Hst := (Entails.of_eq (hX fun g => roundState ER (Rd (ins m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The barrier semaphore is the one unscoped semaphore; -/
theorem unscopedSems0_eq (c : Dev nD) : (unscopedSems0 c : sProp 𝕄) = semVal (cell c kbar) 0 := by
  unfold unscopedSems0; rw [bigSep_eq_bigSepL_of_eq [SemLoc.reg barS] (by decide +kernel) (by decide)]; rfl
/-- the others are the kernel's own. -/
theorem ownSems0_eq (c : Dev nD) : (Pipeline.ownSems0 (Ix := Unit) (Name := ℕ) (U := UU) (Lvl := ℕ) (Val := Elt F) (τ := τ) osem c : sProp 𝕄)
    = iprop(semVal (cell c kfin) 0 ∗ bigSep Finset.univ fun y : Fin 4 × Ix3 => semVal (cell c (.inr y)) 0) := by
  unfold Pipeline.ownSems0
  rw [bigSep_univ_sum, Finset.univ_unique, bigSep_singleton]
  rfl
theorem sems_eq (c : Dev nD) : (bigSep Finset.univ fun k : Kd => semVal (cell c k) 0 : sProp 𝕄)
    = iprop((semVal (cell c kbar) 0 ∗ semVal (cell c kfin) 0) ∗ bigSep Finset.univ fun y : Fin 4 × Ix3 => semVal (cell c (.inr y)) 0) := by
  rw [bigSep_univ_sum, bigSep_fin2]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (Rd (ins m)) κ (cell c k)))
          ∗ (bigSep Finset.univ fun k : Kd => iprop(atPos ER (cell c k) 0 ∅ 0 ∗ reached ER (cell c k) 0)) ∗ bigSep Finset.univ fun t : Tk => tokP (F := F) (c, t)) := by
  have e : iprop((bigSep Finset.univ fun k : Kd => semVal (cell c k) 0) ∗ bigSep Finset.univ fun k : Kd => roundState ER (Rd (ins m)) (cell c k) 0)
      ⊢ (|={Set.univ}=> bigSep Finset.univ fun k : Kd => iprop(∃ κ : ℕ, cellInv ER (Rd (ins m)) κ (cell c k)) : sProp 𝕄) := by
    rw [← bigSep_sep']
    exact (bigSep_mono fun k _ => (Rounds.body_intro ER (Rd (ins m)) (cell c k)).trans inv_alloc).trans (bigSep_fupd _ _)
  unfold G
  rw [ownSems0_eq, unscopedSems0_eq]
  rw [sems_eq] at e
  iintro ⟨⟨Hf, Ho⟩, Hb, Hst, Hat, Htok⟩
  imod e $$ [Hf Ho Hb Hst] with Hinv
  · isplitl [Hf Ho Hb]
    · isplitl [Hf Hb]
      · isplitl [Hb] <;> iassumption
      iexact Ho
    iexact Hst
  imodintro
  isplitl [Hinv]; · iexact Hinv
  isplitl [Hat]; · iexact Hat
  iexact Htok

/-- What every device knows of all semaphores, at the names `N`. -/
def records (N : Dev nD × Kd → ℕ) : sProp 𝕄 :=
  bigSep Finset.univ fun x : Dev nD × Kd => iprop(cellInv ER (Rd (ins m)) (N x) (cell x.1 x.2) ∗ reached ER (cell x.1 x.2) 0)

instance records_persistent (N : Dev nD × Kd → ℕ) : BI.Persistent (records m N) := by unfold records; infer_instance

/-- What the devices' common step makes of it. -/
def G' (c : Dev nD) : sProp 𝕄 :=
  iprop(∃ N, records m N ∗ (bigSep Finset.univ fun t : Tk => tokP (F := F) (payMap (c, t))) ∗ bigSep Finset.univ fun k : Kd => atPos ER (cell c k) 0 ∅ 0)

/-- The tokens dealt to those who fulfil the duties. -/
theorem toks_around : (bigSep Finset.univ fun c : Dev nD => bigSep Finset.univ fun t : Tk => tokP (F := F) (c, t))
    = bigSep Finset.univ fun c : Dev nD => bigSep Finset.univ fun t : Tk => tokP (F := F) (payMap (c, t)) := by
  rw [← bigSep_univ_prod (fun x : Dev nD × Tk => tokP (F := F) x), bigSep_univ_equiv payEquiv, bigSep_univ_prod]
  rfl

theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Kd => iprop(∃ κ : ℕ, cellInv ER (Rd (ins m)) κ (cell c k)))
          ∗ (bigSep Finset.univ fun k : Kd => iprop(atPos ER (cell c k) 0 ∅ 0 ∗ reached ER (cell c k) 0)) ∗ bigSep Finset.univ fun t : Tk => tokP (F := F) (c, t)) : sProp 𝕄)
      ⊢ bigSep Finset.univ (G' m) := by
  rw [bigSep_sep', bigSep_sep', toks_around, ← bigSep_univ_prod (fun x : Dev nD × Kd => iprop(∃ κ : ℕ, cellInv ER (Rd (ins m)) κ (cell x.1 x.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun x : Dev nD × Kd => (reached ER (cell x.1 x.2) 0 : sProp 𝕄))]
  have hG (N : Dev nD × Kd → ℕ) (c : Dev nD) : iprop(records m N ∗ ((bigSep Finset.univ fun t : Tk => tokP (F := F) (payMap (c, t))) ∗ bigSep Finset.univ fun k : Kd => atPos ER (cell c k) 0 ∅ 0)) ⊢ G' m c := by
    unfold G'; iintro H; iexists N; iexact H
  have hR (N : Dev nD × Kd → ℕ) : iprop((bigSep Finset.univ fun x : Dev nD × Kd => cellInv ER (Rd (ins m)) (N x) (cell x.1 x.2)) ∗ bigSep Finset.univ fun x : Dev nD × Kd => reached ER (cell x.1 x.2) 0)
      ⊢ records m N := by
    unfold records; rw [bigSep_sep']
  have hL : iprop((bigSep Finset.univ fun c : Dev nD => bigSep Finset.univ fun t : Tk => tokP (F := F) (payMap (c, t)))
        ∗ bigSep Finset.univ fun c : Dev nD => bigSep Finset.univ fun k : Kd => atPos ER (cell c k) 0 ∅ 0)
      ⊢ bigSep Finset.univ fun c : Dev nD => (iprop((bigSep Finset.univ fun t : Tk => tokP (F := F) (payMap (c, t))) ∗ bigSep Finset.univ fun k : Kd => atPos ER (cell c k) 0 ∅ 0) : sProp 𝕄) := by
    rw [bigSep_sep']
  iintro ⟨HI, ⟨Hat, #HR⟩, Htok⟩
  ihave HK := (BI.bigSep_exists_pi Finset.univ (fun (x : Dev nD × Kd) (κ : ℕ) => (cellInv ER (Rd (ins m)) κ (cell x.1 x.2) : sProp 𝕄))) $$ HI
  icases HK with ⟨%N, #HI⟩
  iapply (with_persistent (R := records m N) fun c _ => hG N c)
  isplitr
  · iapply (hR N)
    isplitl; · iexact HI
    iexact HR
  · iapply hL
    isplitl [Htok]; · iexact Htok
    iexact Hat

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The pipeline's data -/

def start (c : Dev nD) : sProp 𝕄 := iprop(∃ N, recs (ins m) N ∗ linP c)
def Φ₀ (c : Dev nD) : sProp 𝕄 := iprop(start m c ∗ bufP c 0 ∗ bufP c 1 ∗ pP c)
def Φ₁ (c : Dev nD) : sProp 𝕄 := iprop((bigSep Finset.univ fun k : Kd => semVal (cell c k) 0) ∗ bufP c 0 ∗ bufP c 1 ∗ pP c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).X c
    | ⟨1, _⟩ => (ins m).W c
    | ⟨2, _⟩ => outAt (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 ((ins m).X c) ∗ stg c cc0_stg1_0 ((ins m).W c) ∗ stg c cc0_stg2_0 (outAt (ins m) c))

theorem sound_body (c : Dev nD) : bodyPre m ρ c ⊢ WP c (body kA) (fun _ => bodyPost m ρ c) := by
  unfold bodyPre Φ₀ start
  iintro ⟨⟨⟨%N, #Hr, HL⟩, HB0, HB1, HP⟩, Ho, ⟨%d0, %g0, %hg0, Hx⟩, ⟨%d1, %g1, %hg1, Hw⟩, ⟨%d2, %g2, %hg2, Hout⟩⟩
  have hx : g0 = (ins m).X c := by rw [hg0]; unfold Dat.before; rw [if_pos (fetch_0 t0_0)]; rfl
  have hw : g1 = (ins m).W c := by rw [hg1]; unfold Dat.before; rw [if_pos (fetch_1 t0_0)]; rfl
  subst hx
  subst hw
  unfold Dat.owesAt Pipeline.owesWithin
  icases Ho with ⟨%W, %hW, HO⟩
  rw [show (dats m ρ 0 c).owed t0_0.castSucc = O₀ c from rfl]
  iapply (wp_body (ins m) N c (fun _ => bodyPost m ρ c)) $$ [HL HB0 HB1 HP Hx Hw Hout HO]
  · isplitr; · iexact Hr
    isplitl [HL]; · iexact HL
    isplitl [HB0]; · iexact HB0
    isplitl [HB1]; · iexact HB1
    isplitl [HP]; · iexact HP
    isplitl [Hx Hw]
    · unfold xwP
      isplitl [Hx]; · iexact Hx
      iexact Hw
    isplitl [Hout]
    · iexists g2; unfold outP; iexact Hout
    unfold Ow
    iexists W; iexact HO
  unfold xwP outP Ow
  iintro ⟨HV, HB0, HB1, HP, ⟨Hx, Hw⟩, Hout, ⟨%W', HO⟩⟩
  unfold bodyPost Φ₁ Dat.owesAt Pipeline.owesWithin
  rw [show (dats m ρ 0 c).owed t0_0.succ = 0 from rfl]
  isplitl [HV HB0 HB1 HP]
  · isplitl [HV]; · iexact HV
    isplitl [HB0]; · iexact HB0
    isplitl [HB1]; · iexact HB1
    iexact HP
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The body as the program calls it, on the staging and scratch buffers. -/
abbrev callK : PK F :=
  cc0_body (F := F) (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) cc0_scratch2 cc0_scratch3 cc0_scratch4 cc0_scratch5
    (Memref.whole cc0_scratch6) (Memref.isWhole_whole _) cc0_scratch7 cc0_scratch8 cc0_scoped0

theorem callK_eq : callK (F := F) = body kA :=
  (body_eq (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) cc0_scratch2 cc0_scratch3 cc0_scratch4 cc0_scratch5
    (Memref.whole cc0_scratch6) (Memref.isWhole_whole _) cc0_scratch7 cc0_scratch8 cc0_scoped0).trans (congrArg body rfl)

theorem defs_call : defs₀ (F := F) Proc.tc 0 (t0_0, cfg0.slots t0_0) = callK := by
  have h : cfg0.slots t0_0 = fun w : Fin 3 => match w with | 0 => (0 : Fin 1) | 1 => (0 : Fin 1) | 2 => (0 : Fin 1) := by
    funext w
    fin_cases w <;> rfl
  rw [h]
  rfl

theorem sound_call (c : Dev nD) : bodyPre m ρ c ⊢ WP c callK (fun _ => bodyPost m ρ c) := by rw [callK_eq]; exact sound_body m ρ c

theorem post_eq {c : Dev nD} {P : sProp 𝕄} {p : PK F} {Kt Kt' : PUnit.{1} → sProp 𝕄} (h : P ⊢ WP c p Kt) (e : Kt = Kt') : P ⊢ WP c p Kt' := e ▸ h

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ _
  rw [defs_call]
  have e := sound_call m ρ c
  generalize callK (F := F) = p at e ⊢
  refine post_eq e (funext fun _ => ?_)
  unfold bodyPost
  rfl

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start recs linP records
  iintro ⟨-, Hlev, Hcr, -, ⟨%N, HR, Ht, Ha⟩⟩
  ihave Hc := (creds (F := F) c) $$ Hcr
  imodintro
  isplitl
  · iexists N
    isplitl [HR Hlev]
    · isplitl [HR]; · iexact HR
      iexact Hlev
    isplitl [Ht]; · iexact Ht
    isplitl [Ha]; · iexact Ha
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufP pP
  iintro ⟨Hs, -, H0, H1, H2⟩
  isplitl [Hs]; · iexact Hs
  isplitl [H0]; · iexact H0
  isplitl [H1]; · iexact H1
  iexact H2

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufP pP
  rw [sems_eq]
  iintro ⟨⟨⟨Hb, Hf⟩, Hv⟩, H0, H1, H2⟩
  isplitl [Hb]; · iexact Hb
  isplitl [Hf Hv]
  · isplitl [Hf] <;> iassumption
  isplitl [H0]; · iexact H0
  isplitl [H1]; · iexact H1
  iexact H2

theorem O₀_above (c : Dev nD) : Above 0 (O₀ c) :=
  .add (.add (oc_above c 0 _ (by decide)) (om_above c 0 1 (by decide))) (om_above c 0 0 (by decide))

theorem waits (c : Dev nD) : (levAts L lv : sProp 𝕄) ⊢ Pipeline.cellsWaits cfgs (dats m ρ) () 0 c :=
  Pipeline.cellsWaits_intro cfgs (dats m ρ) () 0 c fun w s t =>
    mayWait (n := 0) (by
      rcases t with ⟨_ | _, ht⟩
      · exact O₀_above c
      · exact .zero 0) c _ (by
      have h1 : decode (.dma ((cfg0.spec w).sem s)) = none := stage_decode w s
      dsimp only [lv]
      exact Nat.le_of_eq (by rw [show decode _ = none from h1]))

/-- A window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On all sixteen devices, for any floats, from any memory with zero counters: every weakly fair execution ends, with
    each window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of `x` and `w` end as they were; -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

/-- The run, read at the two arguments and the semaphores. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩) (run_main m ρ)

end Cert.KernelIdeal.K

end
-- ==== Proof.K.Value.lean ====
/- What the kernel computes over the extended reals: the whole product's rows, and its result through `t * logistic t`. -/
module

public import proofs.«01_k».proof.Proof.K.Launch
public import Idealize.ShloMosaic.Lib.Pointwise.Tactic
public import Idealize.ShloMosaic.Lib.ValueIdx
public import Idealize.ShloMosaic.Lib.IdealHost
public import proofs.«01_k».proof.Proof.Gen.ReferenceIdeal.Run
public import Idealize.ShloMosaic.Lib.Layout
public import Idealize.ShloMosaic.Lib.Pointwise.Contract
public import Idealize.ShloMosaic.Lib.Pipeline.Value
public import Idealize.ShloMosaic.Lib.Pipeline.ValueKit.Geometry

@[expose] public section

set_option maxRecDepth 16384

noncomputable section

namespace Cert.KernelIdeal.K

open Cert.KernelIdeal Cert.KernelIdeal.Gen
open Idealize.ShloMosaic
open Idealize.ShloMosaic.TcCoe
open Idealize.SL.Sem

/-! ## One product -/

/-- One product of the body at an element. -/
theorem dot_at (xv : Vec Ideal S256x256 .f32) (wv : Vec Ideal S256x128 .f32) (i : S256x128.Idx) :
    dot (F := Ideal) xv wv i = ∑ k : Fin 256, xv (ix2 (i 0) k) * wv (ix2 k (i 1)) := by
  unfold dot
  rw [shapeCast_self, shapeCast_self]
  simp only [pointwise]
  exact zero_add _

/-- Device `e`'s own columns of `x` and rows of `w`, as numbers. -/
def xOf (I : Ins Ideal) (e : Dev nD) : S4096x256.Idx → EReal := I.X e
def wOf (I : Ins Ideal) (e : Dev nD) : S256x2048.Idx → EReal := I.W e

/-- Device `e`'s share of the product's row `r`, column `n`. -/
def share (I : Ins Ideal) (r : Fin 4096) (n : Fin 2048) (e : Dev nD) : EReal :=
  ∑ k : Fin 256, xOf I e (ix2 r k) * wOf I e (ix2 k n)

/-- Row `q` of device `c`'s own rows, and column `q` of half `h` of chunk `j`. -/
def rowOf (c : Dev nD) (q : Fin 256) : Fin 4096 := ⟨256 * c.val + q.val, by have : c.val < 16 := c.isLt; omega⟩
def colOf (j : Fin 8) (h : Fin 2) (q : Fin 128) : Fin 2048 := ⟨256 * j.val + 128 * h.val + q.val, by omega⟩

/-- Where a hop works on `c`'s own rows, its product is the device's share. -/
theorem part_at (I : Ins Ideal) (c e : Dev nD) (h : Fin 2) (j : Fin 8) (s zb : Fin 4) (i : S256x128.Idx)
    (ho : xOff e h s zb = ![256 * c.val, 0]) :
    (part I e h j s zb i : EReal) = share I (rowOf c (i 0)) (colOf j h (i 1)) e := by
  unfold part
  refine (dot_at _ _ i).trans (Finset.sum_congr rfl fun k _ => congrArg₂ (fun a b : EReal => a * b) ?_ ?_)
  · refine congrArg (xOf I e) (funext fun (a : Fin 2) => Fin.ext ?_)
    match a with
    | 0 => show xOff e h s zb 0 + 1 * (i 0).val = 256 * c.val + (i 0).val; rw [ho, Nat.one_mul]; rfl
    | 1 => show xOff e h s zb 1 + 1 * k.val = k.val; rw [ho, Nat.one_mul]; exact Nat.zero_add _
  · refine congrArg (wOf I e) (funext fun (a : Fin 2) => Fin.ext ?_)
    match a with
    | 0 => show 0 + 1 * k.val = k.val; omega
    | 1 => show 256 * j.val + 128 * h.val + 1 * (i 1).val = 256 * j.val + 128 * h.val + (i 1).val; omega

/-! ## The chain of devices -/

/-- The device whose products hop `t` of plane `k`'s ring adds into the sums that reach device `c`. -/
def adder (c : Dev nD) (h : Fin 2) (k t : Fin 4) : Dev nD :=
  (prv h)^[3 - t.val] (match k with | 0 => c | 1 => zP c 0 | 2 => zP c 1 | 3 => zP c 2)

/-- They work on `c`'s own rows, -/
theorem adder_off : ∀ (c : Dev nD) (h : Fin 2) (k t : Fin 4), xOff (adder c h k t) h t (zO c) = ![256 * c.val, 0] := by decide +kernel
/-- and are the sixteen devices, each once. -/
theorem adder_bij : ∀ (c : Dev nD) (h : Fin 2), Function.Bijective fun kt : Fin 4 × Fin 4 => adder c h kt.1 kt.2 := by decide +kernel

/-- A ring's sums are its four hops' products. -/
theorem sumH_at (I : Ins Ideal) (d : Dev nD) (h : Fin 2) (j : Fin 8) (zb : Fin 4) (i : S256x128.Idx) :
    (sumH I d h j 3 zb i : EReal) = ∑ t : Fin 4, (part I ((prv h)^[3 - t.val] d) h j t zb i : EReal) := by
  rw [Fin.sum_univ_four]; rfl

/-- The sum under a result's half chunk: all sixteen devices' shares. -/
theorem planes_at (I : Ins Ideal) (c : Dev nD) (h : Fin 2) (j : Fin 8) (i : S256x128.Idx) :
    ((sumH I c h j 3 (zO c) i : EReal) + (sumH I (zP c 0) h j 3 (zO c) i : EReal) + (sumH I (zP c 1) h j 3 (zO c) i : EReal)
      + (sumH I (zP c 2) h j 3 (zO c) i : EReal) : EReal) = ∑ e : Dev nD, share I (rowOf c (i 0)) (colOf j h (i 1)) e := by
  rw [← Function.Bijective.sum_comp (adder_bij c h), Fintype.sum_prod_type, Fin.sum_univ_four]
  have e (k : Fin 4) (d : Dev nD) (hd : ∀ t : Fin 4, (prv h)^[3 - t.val] d = adder c h k t) :
      (sumH I d h j 3 (zO c) i : EReal) = ∑ t : Fin 4, share I (rowOf c (i 0)) (colOf j h (i 1)) (adder c h k t) := by
    rw [sumH_at]
    refine Finset.sum_congr rfl fun t _ => ?_
    rw [hd t]
    exact part_at I c _ h j t (zO c) i (adder_off c h k t)
  rw [e 0 c (fun _ => rfl), e 1 (zP c 0) (fun _ => rfl), e 2 (zP c 1) (fun _ => rfl), e 3 (zP c 2) (fun _ => rfl)]

/-! ## Silu -/

/-- An exponential is not negative. -/
theorem exp_nonneg (y : EReal) : 0 ≤ Ideal.exp y := by
  induction y with
  | bot => exact le_refl _
  | top => exact le_top
  | coe r => exact EReal.coe_nonneg.mpr (Real.exp_pos r).le

/-- One plus an exponential is not zero, so `t * logistic t` is the quotient at every extended real. -/
theorem silu (y : EReal) : y * Ideal.logistic y = Ideal.div y (1 + Ideal.exp (-y)) := by
  have h : (1 + Ideal.exp (-y) : EReal) ≠ 0 := fun e => by
    have h1 : (1 : EReal) ≤ 1 + Ideal.exp (-y) := le_add_of_nonneg_right (exp_nonneg _)
    rw [e] at h1
    exact absurd h1 (by norm_num)
  unfold Ideal.logistic Ideal.div
  rw [if_neg h, if_neg h, one_mul]

/-- Silu as the reference writes it. -/
def siluOf (y : EReal) : EReal := Ideal.div y (1 + Ideal.exp (-y))

/-! ## The result -/

/-- An element of device `c`'s result: silu of the sixteen shares' sum. -/
theorem out_at (I : Ins Ideal) (c : Dev nD) (i : S256x2048.Idx) :
    (outAt I c i : EReal) = siluOf (∑ e : Dev nD, share I (rowOf c (i 0)) (i 1) e) := by
  have h1 : (i 1).val < 2048 := (i 1).isLt
  unfold outAt res fin4
  refine (silu _).trans ?_
  refine congrArg siluOf ((planes_at I c _ _ _).trans ?_)
  refine Finset.sum_congr rfl fun e _ => congrArg (fun n => share I (rowOf c (i 0)) n e) (Fin.ext ?_)
  show 256 * ((i 1).val / 256) + 128 * ((i 1).val % 256 / 128) + (i 1).val % 128 = (i 1).val
  omega

/-- Element `(r, n)` of the product of two whole arrays. -/
def prod (x : Cert.ReferenceIdeal.S4096x4096.Idx → EReal) (w : Cert.ReferenceIdeal.S4096x2048.Idx → EReal) (r : Fin 4096) (n : Fin 2048) : EReal :=
  ∑ k : Fin 4096, x (ix2 r k) * w (ix2 k n)

/-- Where the devices hold `x`'s columns and `w`'s rows in their order, the shares sum to the product. -/
theorem shares (I : Ins Ideal) (x : Cert.ReferenceIdeal.S4096x4096.Idx → EReal) (w : Cert.ReferenceIdeal.S4096x2048.Idx → EReal)
    (hx : ∀ e, xOf I e = Layout.block ⟨2, ![4096, 256]⟩ ⟨2, ![4096, 4096]⟩ 1 16 e x)
    (hw : ∀ e, wOf I e = Layout.block ⟨2, ![256, 2048]⟩ ⟨2, ![4096, 2048]⟩ 0 16 e w) (r : Fin 4096) (n : Fin 2048) :
    ∑ e : Dev nD, share I r n e = prod x w r n := by
  unfold prod share
  rw [← Equiv.sum_comp (finProdFinEquiv (m := 16) (n := 256)), Fintype.sum_prod_type]
  refine Finset.sum_congr rfl fun e _ => Finset.sum_congr rfl fun k _ => ?_
  rw [hx e, hw e, Layout.block_apply, Layout.block_apply]
  congr 1
  · refine congrArg x (funext fun (a : Fin 2) => Fin.ext ?_)
    match a with
    | 0 => rfl
    | 1 => show e.val * 256 + k.val = k.val + 256 * e.val; omega
  · refine congrArg w (funext fun (a : Fin 2) => Fin.ext ?_)
    match a with
    | 0 => show e.val * 256 + k.val = k.val + 256 * e.val; omega
    | 1 => rfl

/-- The reference's result. -/
def refOut (x : Cert.ReferenceIdeal.S4096x4096.Idx → EReal) (w : Cert.ReferenceIdeal.S4096x2048.Idx → EReal) :
    Cert.ReferenceIdeal.S4096x2048.Idx → EReal := fun j => siluOf (prod x w (j 0) (j 1))

/-- The host's product at an element. -/
theorem dot_ref (x : FVec Ideal Cert.ReferenceIdeal.S4096x4096 .f32) (w : FVec Ideal Cert.ReferenceIdeal.S4096x2048 .f32) (j : Cert.ReferenceIdeal.S4096x2048.Idx) :
    (Host.dotGeneral Cert.ReferenceIdeal.dot_S4096x4096_S4096x2048_S4096x2048_1_0_0_1_n_n none x w : FVec Ideal _ .f32) j = prod x w (j 0) (j 1) := by
  simp only [pointwise]
  exact zero_add _

/-- The reference's host operations compute it. -/
theorem ref_eq (x : FVec Ideal Cert.ReferenceIdeal.S4096x4096 .f32) (w : FVec Ideal Cert.ReferenceIdeal.S4096x2048 .f32) :
    Host.divf (Host.dotGeneral Cert.ReferenceIdeal.dot_S4096x4096_S4096x2048_S4096x2048_1_0_0_1_n_n none x w)
      (addf (broadcastInDim Cert.ReferenceIdeal.S4096x2048 ![] Cert.ReferenceIdeal.Gen.bcast_S_S4096x2048 (constant (F := Ideal) Cert.ReferenceIdeal.S_ .f32 0x3F800000#32))
        (Host.exp (Host.negf (Host.dotGeneral Cert.ReferenceIdeal.dot_S4096x4096_S4096x2048_S4096x2048_1_0_0_1_n_n none x w)))) = refOut x w := by
  funext j
  have hd := dot_ref x w j
  generalize Host.dotGeneral Cert.ReferenceIdeal.dot_S4096x4096_S4096x2048_S4096x2048_1_0_0_1_n_n none x w = y at hd ⊢
  show Ideal.div (y j) (Ideal.ofBits .f32 0x3F800000#32 + Ideal.exp (-(y j))) = siluOf (prod x w (j 0) (j 1))
  rw [Ideal.ofBits_one_f32, hd]
  rfl

variable (m : (ℓ : Loc nD τ sig) → Buf (Elt Ideal) ℓ) (ρ : Dev nD → PrngReg)

theorem at0 : (fun a => win0_0.index (0 : Fin 1) a * main_arg0.ty.shape.size a) = fun _ => 0 := funext fun a => by fin_cases a <;> decide
theorem at1 : (fun a => win0_1.index (0 : Fin 1) a * main_arg1.ty.shape.size a) = fun _ => 0 := funext fun a => by fin_cases a <;> decide
theorem at2 : (fun a => win0_2.index (0 : Fin 1) a * main_v1.ty.shape.size a) = fun _ => 0 := funext fun a => by fin_cases a <;> decide

/-- The windows' blocks are the whole arrays. -/
theorem ins_x (c : Dev nD) : (ins m).X c = m ((c : Thread nD τ).loc main_arg0) :=
  have h : (win0_0.blk (0 : Fin 1)).view.read (Elt Ideal) (m ((c : Thread nD τ).loc main_arg0)) = m ((c : Thread nD τ).loc main_arg0) :=
    Memref.read_access_unit_zero (Elt Ideal) main_arg0 at0 (fun a => by fin_cases a <;> decide) _
  h
theorem ins_w (c : Dev nD) : (ins m).W c = m ((c : Thread nD τ).loc main_arg1) :=
  have h : (win0_1.blk (0 : Fin 1)).view.read (Elt Ideal) (m ((c : Thread nD τ).loc main_arg1)) = m ((c : Thread nD τ).loc main_arg1) :=
    Memref.read_access_unit_zero (Elt Ideal) main_arg1 at1 (fun a => by fin_cases a <;> decide) _
  h

/-- The result's array ends with the body's result. -/
theorem finalA_o (c : Dev nD) : finalA m ρ c (2 : Fin 3) = outAt (ins m) c := by
  have h : (win0_2.blk (0 : Fin 1)).view.read (Elt Ideal) (finalA m ρ c (2 : Fin 3)) = outAt (ins m) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt Ideal) main_v1 at2 (fun a => by fin_cases a <;> decide) _).symm.trans h

/-- Where the devices' arguments are the blocks of `x` and `w`, device `c`'s result is block `c` of the reference's. -/
theorem out_eq_ref (x : Cert.ReferenceIdeal.S4096x4096.Idx → EReal) (w : Cert.ReferenceIdeal.S4096x2048.Idx → EReal)
    (hx : ∀ e : Dev nD, m ((e : Thread nD τ).loc main_arg0) = Layout.block ⟨2, ![4096, 256]⟩ ⟨2, ![4096, 4096]⟩ 1 16 e x)
    (hw : ∀ e : Dev nD, m ((e : Thread nD τ).loc main_arg1) = Layout.block ⟨2, ![256, 2048]⟩ ⟨2, ![4096, 2048]⟩ 0 16 e w) (c : Dev nD) :
    finalA m ρ c (2 : Fin 3) = Layout.block ⟨2, ![256, 2048]⟩ ⟨2, ![4096, 2048]⟩ 0 16 c (refOut x w) := by
  rw [finalA_o]
  funext (i : S256x2048.Idx)
  refine (out_at (ins m) c i).trans ?_
  refine congrArg siluOf ((shares (ins m) x w (fun e => (ins_x m e).trans (hx e)) (fun e => (ins_w m e).trans (hw e)) _ _).trans ?_)
  refine congrArg₂ (prod x w) (Fin.ext ?_) rfl
  show 256 * c.val + (i 0).val = c.val * 256 + (i 0).val
  omega

/-- Every run leaves the blocks of the reference's result, and the arguments as they were. -/
theorem run_value (x : Cert.ReferenceIdeal.S4096x4096.Idx → EReal) (w : Cert.ReferenceIdeal.S4096x2048.Idx → EReal)
    (hx : ∀ e : Dev nD, m ((e : Thread nD τ).loc main_arg0) = Layout.block ⟨2, ![4096, 256]⟩ ⟨2, ![4096, 4096]⟩ 1 16 e x)
    (hw : ∀ e : Dev nD, m ((e : Thread nD τ).loc main_arg1) = Layout.block ⟨2, ![256, 2048]⟩ ⟨2, ![4096, 2048]⟩ 0 16 e w) :
    θ_run defs (onTc (τ := τ) (main (F := Ideal))) ⟨m, fun _ => 0, ρ⟩ (fun r => ∀ c : Dev nD,
      r.2.mem ((c.tc : Thread nD τ).loc main_v1) = Layout.block ⟨2, ![256, 2048]⟩ ⟨2, ![4096, 2048]⟩ 0 16 c (refOut x w)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans (out_eq_ref m ρ x w hx hw c), (h.1 c (0 : Fin 3)).trans (finalA_x m ρ c),
    (h.1 c (1 : Fin 3)).trans (finalA_w m ρ c)⟩) (run_main m ρ)

end Cert.KernelIdeal.K

end
-- ==== Proof.K.Clip.lean ====
/- The reference that clips the exponential's argument to [-60, 60]: where the product is within, it gives the same. -/
module

public import proofs.«01_k».proof.Proof.K.Value
public import proofs.«01_k».proof.Proof.Gen.ClippedReferenceIdeal
public import proofs.«01_k».proof.Proof.Gen.On_unclipped

@[expose] public section

set_option maxRecDepth 16384

noncomputable section

namespace Cert.KernelIdeal.K

open Idealize.ShloMosaic

/-- Two conditions whose conjunction is set are both true. -/
theorem both_set : ∀ a b : Bool, BitVec.ofBool a &&& BitVec.ofBool b = 1#1 → a = true ∧ b = true := by decide

/-- The mask is set where the product is between the clip's two bounds. -/
theorem unclipped_at (x : FVec Ideal Cert.ReferenceIdeal.S4096x4096 .f32) (w : FVec Ideal Cert.ReferenceIdeal.S4096x2048 .f32)
    (j : Cert.ReferenceIdeal.S4096x2048.Idx) (h : Cert.On_unclipped.fn (F := Ideal) x w j = 1#1) :
    Ideal.ofBits .f32 0xC2700000#32 ≤ prod x w (j 0) (j 1) ∧ prod x w (j 0) (j 1) ≤ Ideal.ofBits .f32 0x42700000#32 := by
  rw [← dot_ref]
  change BitVec.ofBool (decide (Ideal.ofBits .f32 0xC2700000#32 ≤ _)) &&& BitVec.ofBool (decide (_ ≤ Ideal.ofBits .f32 0x42700000#32)) = 1#1 at h
  exact (both_set _ _ h).imp of_decide_eq_true of_decide_eq_true

/-- Where it is, the clipped reference's result is the unclipped one's. -/
theorem clipped_at (x : FVec Ideal Cert.ReferenceIdeal.S4096x4096 .f32) (w : FVec Ideal Cert.ReferenceIdeal.S4096x2048 .f32)
    (j : Cert.ReferenceIdeal.S4096x2048.Idx) (h : Cert.On_unclipped.fn (F := Ideal) x w j = 1#1) :
    Host.divf (Host.dotGeneral Cert.ClippedReferenceIdeal.dot_S4096x4096_S4096x2048_S4096x2048_1_0_0_1_n_n none x w)
      (addf (broadcastInDim Cert.ReferenceIdeal.S4096x2048 ![] Cert.ClippedReferenceIdeal.Gen.bcast_S_S4096x2048 (constant (F := Ideal) Cert.ReferenceIdeal.S_ .f32 0x3F800000#32))
        (Host.exp (Host.negf (minimumf (broadcastInDim Cert.ReferenceIdeal.S4096x2048 ![] Cert.ClippedReferenceIdeal.Gen.bcast_S_S4096x2048 (id (constant (F := Ideal) Cert.ReferenceIdeal.S_ .f32 0x42700000#32)))
          (maximumf (broadcastInDim Cert.ReferenceIdeal.S4096x2048 ![] Cert.ClippedReferenceIdeal.Gen.bcast_S_S4096x2048 (id (constant (F := Ideal) Cert.ReferenceIdeal.S_ .f32 0xC2700000#32)))
            (Host.dotGeneral Cert.ClippedReferenceIdeal.dot_S4096x4096_S4096x2048_S4096x2048_1_0_0_1_n_n none x w)))))) j = refOut x w j := by
  obtain ⟨ha, hb⟩ := unclipped_at x w j h
  have hd := dot_ref x w j
  change Host.dotGeneral Cert.ClippedReferenceIdeal.dot_S4096x4096_S4096x2048_S4096x2048_1_0_0_1_n_n none x w j = _ at hd
  generalize Host.dotGeneral Cert.ClippedReferenceIdeal.dot_S4096x4096_S4096x2048_S4096x2048_1_0_0_1_n_n none x w = y at hd ⊢
  show Ideal.div (y j) (Ideal.ofBits .f32 0x3F800000#32 + Ideal.exp (-(min (Ideal.ofBits .f32 0x42700000#32) (max (Ideal.ofBits .f32 0xC2700000#32) (y j))))) = siluOf (prod x w (j 0) (j 1))
  rw [Ideal.ofBits_one_f32, hd, max_eq_right ha, min_eq_right hb]
  rfl

end Cert.KernelIdeal.K

end
-- ==== Proof.lean ====
/- The kernel ends with its arguments as they were and its semaphores at zero, at the machine's words and on the
   extended reals; so does the reference; and on the extended reals the devices' results are the blocks of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedReferenceIdeal
public import proofs.«01_k».proof.Proof.Gen.ClippedReferenceIdeal.Run
public import proofs.«01_k».proof.Proof.Gen.On_unclipped
public import proofs.«01_k».proof.Proof.K.Value
public import proofs.«01_k».proof.Proof.K.Clip
public import Idealize.ShloMosaic.Adequacy
public import Idealize.ShloMosaic.Init

@[expose] public section

noncomputable section

namespace Cert.Proof

open Idealize.ShloMosaic Idealize.SL.Sem Cert.Kernel

/-- What the run proved once for any floats says at the words of the machine. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The kernel and its idealisation have one text, so this is the kernel's own frame. -/
theorem same_text : FrameBits = Cert.quiescent_Kernel := by chain_rfl

/-- The kernel ends with its argument arrays as they were and every semaphore counter at zero. -/
theorem frame_kernel : Cert.quiescent_Kernel :=
  same_text ▸ (fun m ρ _ => Cert.KernelIdeal.K.run_frame (F := Bits) m ρ : FrameBits)

/-- The same of the kernel on the extended reals. -/
theorem frame_ideal : Cert.quiescent_KernelIdeal := fun m ρ _ => Cert.KernelIdeal.K.run_frame (F := Ideal) m ρ

/-- The reference ends with its argument arrays as they were; its signature has no semaphore. -/
theorem frame_reference : Cert.quiescent_ReferenceIdeal := fun m ρ _ =>
  (θ_run Cert.ReferenceIdeal.defs _ _).mono (fun r h => ⟨fun c => ⟨(h c).2.1, (h c).2.2⟩, Idealize.ShloMosaic.sem_eq_zero_of_no_sems (by decide) r.2⟩)
    (Cert.ReferenceIdeal.Value.run (F := Ideal) m ρ)

/-- On the extended reals every device's result is its block of the reference's result. -/
theorem algebraic : Cert.algebraic_KernelIdeal_ReferenceIdeal := fun m g m' g' _ h =>
  ⟨_, Cert.KernelIdeal.K.run_value m g _ _ (fun c => (h c).1) (fun c => (h c).2),
    (θ_run Cert.ReferenceIdeal.defs _ _).mono (fun _ hr => ⟨(hr 0).1.trans (Cert.KernelIdeal.K.ref_eq _ _), (hr 0).2.1, (hr 0).2.2⟩)
      (Cert.ReferenceIdeal.Value.run (F := Ideal) m' g')⟩

/-- The clipped reference ends with its argument arrays as they were; its signature has no semaphore. -/
theorem frame_clipped : Cert.quiescent_ClippedReferenceIdeal := fun m ρ _ =>
  (θ_run Cert.ClippedReferenceIdeal.defs _ _).mono (fun r h => ⟨fun c => ⟨(h c).2.1, (h c).2.2⟩, Idealize.ShloMosaic.sem_eq_zero_of_no_sems (by decide) r.2⟩)
    (Cert.ClippedReferenceIdeal.Value.run (F := Ideal) m ρ)

/-- On the extended reals every device's result is its block of the clipped reference's result, wherever the clip moves nothing. -/
theorem algebraic_clipped : Cert.algebraic_KernelIdeal_ClippedReferenceIdeal_on_unclipped := fun m g m' g' _ h =>
  ⟨_, (θ_run Cert.KernelIdeal.defs _ _).mono (fun _ hr c => ⟨fun i _ => congrFun (hr c).1 i, (hr c).2⟩)
      (Cert.KernelIdeal.K.run_value m g _ _ (fun c => (h c).1) (fun c => (h c).2)),
    (θ_run Cert.ClippedReferenceIdeal.defs _ _).mono (fun _ hr =>
        ⟨fun i hi => (congrFun (hr 0).1 i).trans (Cert.KernelIdeal.K.clipped_at _ _ i hi), (hr 0).2.1, (hr 0).2.2⟩)
      (Cert.ClippedReferenceIdeal.Value.run (F := Ideal) m' g')⟩

/-- Everything claimed. -/
theorem claim : Cert.Claim :=
  ⟨Cert.Kernel.Gen.facts, Cert.KernelIdeal.Gen.facts, Cert.ReferenceIdeal.Gen.facts, Cert.ClippedReferenceIdeal.Gen.facts, Cert.On_unclipped.Gen.facts,
    frame_kernel, frame_ideal, frame_reference, frame_clipped, trivial, algebraic, algebraic_clipped⟩

end Cert.Proof

end
